-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_h [hPre_finite_h : Cert.Pre_finite_h.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_h.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_h [hPre_finite_h : Cert.Pre_finite_h.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_h.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))) = (fun _ => 1#1)

def Pre_Reference4 (m : (ℓ : Loc Cert.Reference4.nD Cert.Reference4.τ Cert.Reference4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference5 (m : (ℓ : Loc Cert.Reference5.nD Cert.Reference5.τ Cert.Reference5.sig) → Buf (Elt Bits) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Reference6 (m : (ℓ : Loc Cert.Reference6.nD Cert.Reference6.τ Cert.Reference6.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_finite_h [hKernel4Ideal : Cert.Kernel4Ideal.Facts] [hPre_finite_h : Cert.Pre_finite_h.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_h m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite_h [hReference4Ideal : Cert.Reference4Ideal.Facts] [hPre_finite_h : Cert.Pre_finite_h.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_h m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6)
      ∧ r.2.mem ((c.tc : Thread Cert.Reference4.nD Cert.Reference4.τ).loc Cert.Reference4.main_arg7) = m ((c.tc : Thread Cert.Reference4.nD Cert.Reference4.τ).loc Cert.Reference4.main_arg7)
      ∧ r.2.mem ((c.tc : Thread Cert.Reference4.nD Cert.Reference4.τ).loc Cert.Reference4.main_arg8) = m ((c.tc : Thread Cert.Reference4.nD Cert.Reference4.τ).loc Cert.Reference4.main_arg8)
      ∧ r.2.mem ((c.tc : Thread Cert.Reference4.nD Cert.Reference4.τ).loc Cert.Reference4.main_arg9) = m ((c.tc : Thread Cert.Reference4.nD Cert.Reference4.τ).loc Cert.Reference4.main_arg9)
      ∧ r.2.mem ((c.tc : Thread Cert.Reference4.nD Cert.Reference4.τ).loc Cert.Reference4.main_arg10) = m ((c.tc : Thread Cert.Reference4.nD Cert.Reference4.τ).loc Cert.Reference4.main_arg10)
      ∧ r.2.mem ((c.tc : Thread Cert.Reference4.nD Cert.Reference4.τ).loc Cert.Reference4.main_arg11) = m ((c.tc : Thread Cert.Reference4.nD Cert.Reference4.τ).loc Cert.Reference4.main_arg11)
      ∧ r.2.mem ((c.tc : Thread Cert.Reference4.nD Cert.Reference4.τ).loc Cert.Reference4.main_arg12) = m ((c.tc : Thread Cert.Reference4.nD Cert.Reference4.τ).loc Cert.Reference4.main_arg12)
      ∧ r.2.mem ((c.tc : Thread Cert.Reference4.nD Cert.Reference4.τ).loc Cert.Reference4.main_arg13) = m ((c.tc : Thread Cert.Reference4.nD Cert.Reference4.τ).loc Cert.Reference4.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0)
      ∧ r.2.mem ((c.tc : Thread Cert.Reference6.nD Cert.Reference6.τ).loc Cert.Reference6.main_arg1) = m ((c.tc : Thread Cert.Reference6.nD Cert.Reference6.τ).loc Cert.Reference6.main_arg1)
      ∧ r.2.mem ((c.tc : Thread Cert.Reference6.nD Cert.Reference6.τ).loc Cert.Reference6.main_arg2) = m ((c.tc : Thread Cert.Reference6.nD Cert.Reference6.τ).loc Cert.Reference6.main_arg2)
      ∧ r.2.mem ((c.tc : Thread Cert.Reference6.nD Cert.Reference6.τ).loc Cert.Reference6.main_arg3) = m ((c.tc : Thread Cert.Reference6.nD Cert.Reference6.τ).loc Cert.Reference6.main_arg3)
      ∧ r.2.mem ((c.tc : Thread Cert.Reference6.nD Cert.Reference6.τ).loc Cert.Reference6.main_arg4) = m ((c.tc : Thread Cert.Reference6.nD Cert.Reference6.τ).loc Cert.Reference6.main_arg4)
      ∧ r.2.mem ((c.tc : Thread Cert.Reference6.nD Cert.Reference6.τ).loc Cert.Reference6.main_arg5) = m ((c.tc : Thread Cert.Reference6.nD Cert.Reference6.τ).loc Cert.Reference6.main_arg5))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def preserves_Reference4_Reference4Ideal : Prop :=
  True

def algebraic_Kernel4Ideal_Reference4Ideal_pre_finite_h [hKernel4Ideal : Cert.Kernel4Ideal.Facts] [hReference4Ideal : Cert.Reference4Ideal.Facts] [hPre_finite_h : Cert.Pre_finite_h.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_h m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v60_0)) (v1 : (c : Dev Cert.Kernel4Ideal.nD) → Buf (Elt Ideal) ((c.tc : Thread Cert.Kernel4Ideal.nD Cert.Kernel4Ideal.τ).loc Cert.Kernel4Ideal.main_v60_1)) (v2 : (c : Dev Cert.Kernel4Ideal.nD) → Buf (Elt Ideal) ((c.tc : Thread Cert.Kernel4Ideal.nD Cert.Kernel4Ideal.τ).loc Cert.Kernel4Ideal.main_v60_2)) (v3 : (c : Dev Cert.Kernel4Ideal.nD) → Buf (Elt Ideal) ((c.tc : Thread Cert.Kernel4Ideal.nD Cert.Kernel4Ideal.τ).loc Cert.Kernel4Ideal.main_v60_3)) (v4 : (c : Dev Cert.Kernel4Ideal.nD) → Buf (Elt Ideal) ((c.tc : Thread Cert.Kernel4Ideal.nD Cert.Kernel4Ideal.τ).loc Cert.Kernel4Ideal.main_v60_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v60_0) = v0 c
          ∧ r.2.mem ((c.tc : Thread Cert.Kernel4Ideal.nD Cert.Kernel4Ideal.τ).loc Cert.Kernel4Ideal.main_v60_1) = v1 c
          ∧ r.2.mem ((c.tc : Thread Cert.Kernel4Ideal.nD Cert.Kernel4Ideal.τ).loc Cert.Kernel4Ideal.main_v60_2) = v2 c
          ∧ r.2.mem ((c.tc : Thread Cert.Kernel4Ideal.nD Cert.Kernel4Ideal.τ).loc Cert.Kernel4Ideal.main_v60_3) = v3 c
          ∧ r.2.mem ((c.tc : Thread Cert.Kernel4Ideal.nD Cert.Kernel4Ideal.τ).loc Cert.Kernel4Ideal.main_v60_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v135) = v1 c
          ∧ r.2.mem ((c.tc : Thread Cert.Reference4Ideal.nD Cert.Reference4Ideal.τ).loc Cert.Reference4Ideal.main_v136) = v2 c
          ∧ r.2.mem ((c.tc : Thread Cert.Reference4Ideal.nD Cert.Reference4Ideal.τ).loc Cert.Reference4Ideal.main_v137) = v3 c
          ∧ r.2.mem ((c.tc : Thread Cert.Reference4Ideal.nD Cert.Reference4Ideal.τ).loc Cert.Reference4Ideal.main_v140) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def preserves_Reference5_Reference5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def preserves_Reference6_Reference6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hKernel5 : Cert.Kernel5.Facts) (hKernel5Ideal : Cert.Kernel5Ideal.Facts) (hReference5Ideal : Cert.Reference5Ideal.Facts) (hReference5 : Cert.Reference5.Facts) (hKernel6 : Cert.Kernel6.Facts) (hKernel6Ideal : Cert.Kernel6Ideal.Facts) (hReference6Ideal : Cert.Reference6Ideal.Facts) (hReference6 : Cert.Reference6.Facts) (hPre_finite_qk : Cert.Pre_finite_qk.Facts) (hPre_finite_h : Cert.Pre_finite_h.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Kernel4Ideal_pre_finite_h (hKernel4Ideal := hKernel4Ideal) (hPre_finite_h := hPre_finite_h)
    ∧ quiescent_Reference4Ideal (hReference4Ideal := hReference4Ideal)
    ∧ quiescent_Reference4Ideal_pre_finite_h (hReference4Ideal := hReference4Ideal) (hPre_finite_h := hPre_finite_h)
    ∧ quiescent_Reference4 (hReference4 := hReference4)
    ∧ quiescent_Kernel5 (hKernel5 := hKernel5)
    ∧ quiescent_Kernel5Ideal (hKernel5Ideal := hKernel5Ideal)
    ∧ quiescent_Reference5Ideal (hReference5Ideal := hReference5Ideal)
    ∧ quiescent_Reference5 (hReference5 := hReference5)
    ∧ quiescent_Kernel6 (hKernel6 := hKernel6)
    ∧ quiescent_Kernel6Ideal (hKernel6Ideal := hKernel6Ideal)
    ∧ quiescent_Reference6Ideal (hReference6Ideal := hReference6Ideal)
    ∧ quiescent_Reference6 (hReference6 := hReference6)
    ∧ preserves_Kernel_KernelIdeal
    ∧ preserves_Reference_ReferenceIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal_pre_finite_h (hKernel4Ideal := hKernel4Ideal) (hReference4Ideal := hReference4Ideal) (hPre_finite_h := hPre_finite_h)
    ∧ preserves_Kernel5_Kernel5Ideal
    ∧ preserves_Reference5_Reference5Ideal
    ∧ algebraic_Kernel5Ideal_Reference5Ideal (hKernel5Ideal := hKernel5Ideal) (hReference5Ideal := hReference5Ideal)
    ∧ preserves_Kernel6_Kernel6Ideal
    ∧ preserves_Reference6_Reference6Ideal
    ∧ algebraic_Kernel6Ideal_Reference6Ideal (hKernel6Ideal := hKernel6Ideal) (hReference6Ideal := hReference6Ideal)
-- ==== Pre_finite_h.lean ====
abbrev S2x16384x1024 : Shape := ⟨3, ![2, 16384, 1024]⟩
abbrev S2x16384x512 : Shape := ⟨3, ![2, 16384, 512]⟩
abbrev S2x16384x3328 : Shape := ⟨3, ![2, 16384, 3328]⟩
abbrev S2x1x1024 : Shape := ⟨3, ![2, 1, 1024]⟩
abbrev S1024x1024 : Shape := ⟨2, ![1024, 1024]⟩
abbrev S1024 : Shape := ⟨1, ![1024]⟩
abbrev S1024x1440 : Shape := ⟨2, ![1024, 1440]⟩
abbrev S256 : Shape := ⟨1, ![256]⟩
abbrev S256x1536 : Shape := ⟨2, ![256, 1536]⟩
abbrev S128 : Shape := ⟨1, ![128]⟩
abbrev S128x2048 : Shape := ⟨2, ![128, 2048]⟩
abbrev S_ : Shape := ⟨0, ![]⟩
abbrev S1024x16 : Shape := ⟨2, ![1024, 16]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bitsLt_bf16_f32 : FTy.bits .bf16 < FTy.bits .f32
  bcast_S_S2x16384x512 : S_.BroadcastsInDim S2x16384x512 (![] : Fin 0 → Fin S2x16384x512.rank)
  reducesTo_S2x16384x512_S_d0_1_2 : S2x16384x512.ReducesTo [0, 1, 2] S_
  slices_S2x16384x3328_S2x16384x1024_0_0_0 : S2x16384x3328.Slices ![0, 0, 0] S2x16384x1024
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  slices_S1024x1440_S1024x16_0_400 : S1024x1440.Slices ![0, 400] S1024x16
  bcast_S_S1024x16 : S_.BroadcastsInDim S1024x16 (![] : Fin 0 → Fin S1024x16.rank)
  reducesTo_S1024x16_S_d0_1 : S1024x16.ReducesTo [0, 1] S_

variable [Facts]

def fn_part3 {F : FTy → Type} [FloatOps F] (main_v48 : IVec S_ 1) (main_v52 : IVec S1024x16 1) : IVec S_ 1 :=
  let main_c_17 : IVec S_ 1 := constantI S_ 1 1#1
  let main_v53 : IVec S_ 1 := (fun x v => Host.reduce IntOp.andi x v reducesTo_S1024x16_S_d0_1 h_S_) main_v52 main_c_17
  let main_v54 : IVec S_ 1 := andi main_v48 main_v53
  main_v54

def fn_part2 {F : FTy → Type} [FloatOps F] (main_arg7 : FVec F S2x1x1024 .f32) (main_arg8 : FVec F S2x1x1024 .f32) (main_arg9 : FVec F S1024x1440 .f32) (main_v33 : IVec S_ 1) (main_v34 : FVec F S1024 .f32) (main_cst_10 : FVec F S_ .f32) : IVec S_ 1 :=
  let main_v35 : FVec F S1024 .f32 := broadcastInDim S1024 ![] bcast_S_S1024 main_cst_10
  let main_v36 : IVec S1024 1 := cmpf .olt main_v34 main_v35
  let main_c_11 : IVec S_ 1 := constantI S_ 1 1#1
  let main_v37 : IVec S_ 1 := (fun x v => Host.reduce IntOp.andi x v reducesTo_S1024_S_d0 h_S_) main_v36 main_c_11
  let main_v38 : IVec S_ 1 := andi main_v33 main_v37
  let main_v39 : FVec F S2x1x1024 .f32 := Host.absf main_arg7
  let main_cst_12 : FVec F S_ .f32 := constant S_ .f32 0x7F800000#32
  let main_v40 : FVec F S2x1x1024 .f32 := broadcastInDim S2x1x1024 ![] bcast_S_S2x1x1024 main_cst_12
  let main_v41 : IVec S2x1x1024 1 := cmpf .olt main_v39 main_v40
  let main_c_13 : IVec S_ 1 := constantI S_ 1 1#1
  let main_v42 : IVec S_ 1 := (fun x v => Host.reduce IntOp.andi x v reducesTo_S2x1x1024_S_d0_1_2 h_S_) main_v41 main_c_13
  let main_v43 : IVec S_ 1 := andi main_v38 main_v42
  let main_v44 : FVec F S2x1x1024 .f32 := Host.absf main_arg8
  let main_cst_14 : FVec F S_ .f32 := constant S_ .f32 0x7F800000#32
  let main_v45 : FVec F S2x1x1024 .f32 := broadcastInDim S2x1x1024 ![] bcast_S_S2x1x1024 main_cst_14
  let main_v46 : IVec S2x1x1024 1 := cmpf .olt main_v44 main_v45
  let main_c_15 : IVec S_ 1 := constantI S_ 1 1#1
  let main_v47 : IVec S_ 1 := (fun x v => Host.reduce IntOp.andi x v reducesTo_S2x1x1024_S_d0_1_2 h_S_) main_v46 main_c_15
  let main_v48 : IVec S_ 1 := andi main_v43 main_v47
  let main_v49 : FVec F S1024x16 .f32 := (extractStridedSlice S1024x16 ![0, 400] · slices_S1024x1440_S1024x16_0_400) main_arg9
  let main_v50 : FVec F S1024x16 .f32 := Host.absf main_v49
  let main_cst_16 : FVec F S_ .f32 := constant S_ .f32 0x7F800000#32
  let main_v51 : FVec F S1024x16 .f32 := broadcastInDim S1024x16 ![] bcast_S_S1024x16 main_cst_16
  let main_v52 : IVec S1024x16 1 := cmpf .olt main_v50 main_v51
  fn_part3 (F := F) main_v48 main_v52

def fn_part1 {F : FTy → Type} [FloatOps F] (main_arg4 : FVec F S2x1x1024 .f32) (main_arg5 : FVec F S1024x1024 .bf16) (main_arg6 : FVec F S1024 .f32) (main_arg7 : FVec F S2x1x1024 .f32) (main_arg8 : FVec F S2x1x1024 .f32) (main_arg9 : FVec F S1024x1440 .f32) (main_v15 : IVec S_ 1) (main_v17 : FVec F S2x16384x1024 .f32) : IVec S_ 1 :=
  let main_v18 : FVec F S2x16384x1024 .f32 := Host.absf main_v17
  let main_cst_4 : FVec F S_ .f32 := constant S_ .f32 0x7F800000#32
  let main_v19 : FVec F S2x16384x1024 .f32 := broadcastInDim S2x16384x1024 ![] bcast_S_S2x16384x1024 main_cst_4
  let main_v20 : IVec S2x16384x1024 1 := cmpf .olt main_v18 main_v19
  let main_c_5 : IVec S_ 1 := constantI S_ 1 1#1
  let main_v21 : IVec S_ 1 := (fun x v => Host.reduce IntOp.andi x v reducesTo_S2x16384x1024_S_d0_1_2 h_S_) main_v20 main_c_5
  let main_v22 : IVec S_ 1 := andi main_v15 main_v21
  let main_v23 : FVec F S2x1x1024 .f32 := Host.absf main_arg4
  let main_cst_6 : FVec F S_ .f32 := constant S_ .f32 0x7F800000#32
  let main_v24 : FVec F S2x1x1024 .f32 := broadcastInDim S2x1x1024 ![] bcast_S_S2x1x1024 main_cst_6
  let main_v25 : IVec S2x1x1024 1 := cmpf .olt main_v23 main_v24
  let main_c_7 : IVec S_ 1 := constantI S_ 1 1#1
  let main_v26 : IVec S_ 1 := (fun x v => Host.reduce IntOp.andi x v reducesTo_S2x1x1024_S_d0_1_2 h_S_) main_v25 main_c_7
  let main_v27 : IVec S_ 1 := andi main_v22 main_v26
  let main_v28 : FVec F S1024x1024 .f32 := (extf .f32 · bitsLt_bf16_f32) main_arg5
  let main_v29 : FVec F S1024x1024 .f32 := Host.absf main_v28
  let main_cst_8 : FVec F S_ .f32 := constant S_ .f32 0x7F800000#32
  let main_v30 : FVec F S1024x1024 .f32 := broadcastInDim S1024x1024 ![] bcast_S_S1024x1024 main_cst_8
  let main_v31 : IVec S1024x1024 1 := cmpf .olt main_v29 main_v30
  let main_c_9 : IVec S_ 1 := constantI S_ 1 1#1
  let main_v32 : IVec S_ 1 := (fun x v => Host.reduce IntOp.andi x v reducesTo_S1024x1024_S_d0_1 h_S_) main_v31 main_c_9
  let main_v33 : IVec S_ 1 := andi main_v27 main_v32
  let main_v34 : FVec F S1024 .f32 := Host.absf main_arg6
  let main_cst_10 : FVec F S_ .f32 := constant S_ .f32 0x7F800000#32
  fn_part2 (F := F) main_arg7 main_arg8 main_arg9 main_v33 main_v34 main_cst_10

def fn {F : FTy → Type} [FloatOps F] (main_arg0 : FVec F S2x16384x1024 .f32) (main_arg1 : FVec F S2x16384x512 .bf16) (main_arg2 : FVec F S2x16384x512 .bf16) (main_arg3 : FVec F S2x16384x3328 .bf16) (main_arg4 : FVec F S2x1x1024 .f32) (main_arg5 : FVec F S1024x1024 .bf16) (main_arg6 : FVec F S1024 .f32) (main_arg7 : FVec F S2x1x1024 .f32) (main_arg8 : FVec F S2x1x1024 .f32) (main_arg9 : FVec F S1024x1440 .f32) (main_arg10 : FVec F S256 .f32) (main_arg11 : FVec F S256x1536 .f32) (main_arg12 : FVec F S128 .f32) (main_arg13 : FVec F S128x2048 .f32) : IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S2x16384x512 .f32 := (extf .f32 · bitsLt_bf16_f32) main_arg1
  let main_v5 : FVec F S2x16384x512 .f32 := Host.absf main_v4
  let main_cst_0 : FVec F S_ .f32 := constant S_ .f32 0x7F800000#32
  let main_v6 : FVec F S2x16384x512 .f32 := broadcastInDim S2x16384x512 ![] bcast_S_S2x16384x512 main_cst_0
  let main_v7 : IVec S2x16384x512 1 := cmpf .olt main_v5 main_v6
  let main_c_1 : IVec S_ 1 := constantI S_ 1 1#1
  let main_v8 : IVec S_ 1 := (fun x v => Host.reduce IntOp.andi x v reducesTo_S2x16384x512_S_d0_1_2 h_S_) main_v7 main_c_1
  let main_v9 : IVec S_ 1 := andi main_v3 main_v8
  let main_v10 : FVec F S2x16384x512 .f32 := (extf .f32 · bitsLt_bf16_f32) main_arg2
  let main_v11 : FVec F S2x16384x512 .f32 := Host.absf main_v10
  let main_cst_2 : FVec F S_ .f32 := constant S_ .f32 0x7F800000#32
  let main_v12 : FVec F S2x16384x512 .f32 := broadcastInDim S2x16384x512 ![] bcast_S_S2x16384x512 main_cst_2
  let main_v13 : IVec S2x16384x512 1 := cmpf .olt main_v11 main_v12
  let main_c_3 : IVec S_ 1 := constantI S_ 1 1#1
  let main_v14 : IVec S_ 1 := (fun x v => Host.reduce IntOp.andi x v reducesTo_S2x16384x512_S_d0_1_2 h_S_) main_v13 main_c_3
  let main_v15 : IVec S_ 1 := andi main_v9 main_v14
  let main_v16 : FVec F S2x16384x1024 .bf16 := (extractStridedSlice S2x16384x1024 ![0, 0, 0] · slices_S2x16384x3328_S2x16384x1024_0_0_0) main_arg3
  let main_v17 : FVec F S2x16384x1024 .f32 := (extf .f32 · bitsLt_bf16_f32) main_v16
  fn_part1 (F := F) main_arg4 main_arg5 main_arg6 main_arg7 main_arg8 main_arg9 main_v15 main_v17
-- ==== Pre_finite_qk.lean ====
abbrev S2x16x32x96x512 : Shape := ⟨5, ![2, 16, 32, 96, 512]⟩
abbrev S2x16x16384x96 : Shape := ⟨4, ![2, 16, 16384, 96]⟩
abbrev S2x16x32x64x512 : Shape := ⟨5, ![2, 16, 32, 64, 512]⟩
abbrev S_ : Shape := ⟨0, ![]⟩

class Facts : Prop where
  bitsLt_bf16_f32 : FTy.bits .bf16 < FTy.bits .f32
  bcast_S_S2x16x32x96x512 : S_.BroadcastsInDim S2x16x32x96x512 (![] : Fin 0 → Fin S2x16x32x96x512.rank)
  reducesTo_S2x16x32x96x512_S_d0_1_2_3_4 : S2x16x32x96x512.ReducesTo [0, 1, 2, 3, 4] S_
  h_S_ : 0 < S_.numel
  bcast_S_S2x16x16384x96 : S_.BroadcastsInDim S2x16x16384x96 (![] : Fin 0 → Fin S2x16x16384x96.rank)
  reducesTo_S2x16x16384x96_S_d0_1_2_3 : S2x16x16384x96.ReducesTo [0, 1, 2, 3] S_

variable [Facts]

def fn {F : FTy → Type} [FloatOps F] (main_arg0 : FVec F S2x16x32x96x512 .bf16) (main_arg1 : FVec F S2x16x16384x96 .bf16) (main_arg2 : FVec F S2x16x32x64x512 .bf16) : IVec S_ 1 :=
  let main_v0 : FVec F S2x16x32x96x512 .f32 := (extf .f32 · bitsLt_bf16_f32) main_arg0
  let main_v1 : FVec F S2x16x32x96x512 .f32 := Host.absf main_v0
  let main_cst : FVec F S_ .f32 := constant S_ .f32 0x7F800000#32
  let main_v2 : FVec F S2x16x32x96x512 .f32 := broadcastInDim S2x16x32x96x512 ![] bcast_S_S2x16x32x96x512 main_cst
  let main_v3 : IVec S2x16x32x96x512 1 := cmpf .olt main_v1 main_v2
  let main_c : IVec S_ 1 := constantI S_ 1 1#1
  let main_v4 : IVec S_ 1 := (fun x v => Host.reduce IntOp.andi x v reducesTo_S2x16x32x96x512_S_d0_1_2_3_4 h_S_) main_v3 main_c
  let main_v5 : FVec F S2x16x16384x96 .f32 := (extf .f32 · bitsLt_bf16_f32) main_arg1
  let main_v6 : FVec F S2x16x16384x96 .f32 := Host.absf main_v5
  let main_cst_0 : FVec F S_ .f32 := constant S_ .f32 0x7F800000#32
  let main_v7 : FVec F S2x16x16384x96 .f32 := broadcastInDim S2x16x16384x96 ![] bcast_S_S2x16x16384x96 main_cst_0
  let main_v8 : IVec S2x16x16384x96 1 := cmpf .olt main_v6 main_v7
  let main_c_1 : IVec S_ 1 := constantI S_ 1 1#1
  let main_v9 : IVec S_ 1 := (fun x v => Host.reduce IntOp.andi x v reducesTo_S2x16x16384x96_S_d0_1_2_3 h_S_) main_v8 main_c_1
  let main_v10 : IVec S_ 1 := andi main_v4 main_v9
  main_v10
-- ==== Kernel.lean ====
abbrev S2x16x32x96x512 : Shape := ⟨5, ![2, 16, 32, 96, 512]⟩
abbrev S2x16x16384x96 : Shape := ⟨4, ![2, 16, 16384, 96]⟩
abbrev S2x16x32x64x512 : Shape := ⟨5, ![2, 16, 32, 64, 512]⟩
abbrev S2x16x16x64x1024 : Shape := ⟨5, ![2, 16, 16, 64, 1024]⟩
abbrev S1x1x32x96x512 : Shape := ⟨5, ![1, 1, 32, 96, 512]⟩
abbrev S1x1x16384x96 : Shape := ⟨4, ![1, 1, 16384, 96]⟩
abbrev S1x1x32x64x512 : Shape := ⟨5, ![1, 1, 32, 64, 512]⟩
abbrev S1x1x16x64x1024 : Shape := ⟨5, ![1, 1, 16, 64, 1024]⟩
abbrev S4096x1024 : Shape := ⟨2, ![4096, 1024]⟩
abbrev S80x1024 : Shape := ⟨2, ![80, 1024]⟩
abbrev S16x4096 : Shape := ⟨2, ![16, 4096]⟩
abbrev S1x1024 : Shape := ⟨2, ![1, 1024]⟩
abbrev S1x1x1x96x512 : Shape := ⟨5, ![1, 1, 1, 96, 512]⟩
abbrev S96x512 : Shape := ⟨2, ![96, 512]⟩
abbrev S96x1024 : Shape := ⟨2, ![96, 1024]⟩
abbrev S1x1x4096x96 : Shape := ⟨4, ![1, 1, 4096, 96]⟩
abbrev S4096x96 : Shape := ⟨2, ![4096, 96]⟩
abbrev S1024 : Shape := ⟨1, ![1024]⟩
abbrev S1x1x1x64x512 : Shape := ⟨5, ![1, 1, 1, 64, 512]⟩
abbrev S64x512 : Shape := ⟨2, ![64, 512]⟩
abbrev S64x4096 : Shape := ⟨2, ![64, 4096]⟩
abbrev S80x4096 : Shape := ⟨2, ![80, 4096]⟩
abbrev S64x1024 : Shape := ⟨2, ![64, 1024]⟩
abbrev S1x1x1x64x1024 : Shape := ⟨5, ![1, 1, 1, 64, 1024]⟩

abbrev nBuf : Space → Nat
  | .hbm => 4
  | .vmem => 11
  | .smem => 0
  | _ => 0

abbrev bufTy : (tb : Table) → Fin (tcTables nBuf tb) → BufTy
  | .hbm, ⟨0, _⟩ => ⟨S2x16x32x96x512, .bf16⟩
  | .hbm, ⟨1, _⟩ => ⟨S2x16x16384x96, .bf16⟩
  | .hbm, ⟨2, _⟩ => ⟨S2x16x32x64x512, .bf16⟩
  | .hbm, ⟨3, _⟩ => ⟨S2x16x16x64x1024, .bf16⟩
  | .local _ .vmem, ⟨0, _⟩ => ⟨S1x1x32x96x512, .bf16⟩
  | .local _ .vmem, ⟨1, _⟩ => ⟨S1x1x32x96x512, .bf16⟩
  | .local _ .vmem, ⟨2, _⟩ => ⟨S1x1x16384x96, .bf16⟩
  | .local _ .vmem, ⟨3, _⟩ => ⟨S1x1x16384x96, .bf16⟩
  | .local _ .vmem, ⟨4, _⟩ => ⟨S1x1x32x64x512, .bf16⟩
  | .local _ .vmem, ⟨5, _⟩ => ⟨S1x1x32x64x512, .bf16⟩
  | .local _ .vmem, ⟨6, _⟩ => ⟨S1x1x16x64x1024, .bf16⟩
  | .local _ .vmem, ⟨7, _⟩ => ⟨S1x1x16x64x1024, .bf16⟩
  | .local _ .vmem, ⟨8, _⟩ => ⟨S4096x1024, .f32⟩
  | .local _ .vmem, ⟨9, _⟩ => ⟨S4096x1024, .bf16⟩
  | .local _ .vmem, ⟨10, _⟩ => ⟨S80x1024, .f32⟩
  | _, _ => ⟨S2x16x32x96x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  c0_i32
def k0_mult2 : BitVec 32 :=
  let c4096_i32 : BitVec 32 := 4096#32
  c4096_i32
@[reducible] def k0_t1_loop : Scf.Loop 32 :=
  let c2_i32 : BitVec 32 := 2#32
  let c62_i32 : BitVec 32 := 62#32
  let v49 : BitVec 32 := Scalar.addi c2_i32 c62_i32
  let c1_i32 : BitVec 32 := 1#32
  ⟨c2_i32, v49, c1_i32⟩
def k0_off1 (k0_t1 : Fin k0_t1_loop.trips) (c0_i32_142 : BitVec 32) : Fin 5 → Nat :=
  let c0_143 : Index := 0#32
  let c2_i32 : BitVec 32 := 2#32
  let c1_i32 : BitVec 32 := 1#32
  let arg9 : BitVec 32 := Scf.iv c2_i32 c1_i32 k0_t1
  let c2_i32_140 : BitVec 32 := 2#32
  let v140 : BitVec 32 := Scalar.subi arg9 c2_i32_140
  let c6_i32 : BitVec 32 := 6#32
  let v141 : BitVec 32 := Scalar.shrsi v140 c6_i32
  let v147 : Index := Scalar.indexCast v141
  let c8_i32 : BitVec 32 := 8#32
  let c3_i32 : BitVec 32 := 3#32
  let v144 : BitVec 32 := Scalar.andi v140 c3_i32
  let v145 : BitVec 32 := Scalar.muli c8_i32 v144
  let v146 : BitVec 32 := Scalar.addi v145 c0_i32_142
  let v148 : Index := Scalar.indexCast v146
  let c0_144 : Index := 0#32
  let c0_145 : Index := 0#32
  ![0, v147.toNat, v148.toNat, 0, 0]
def k0_off2 (k0_t1 : Fin k0_t1_loop.trips) : Fin 5 → Nat :=
  let c0_188 : Index := 0#32
  let c2_i32 : BitVec 32 := 2#32
  let c1_i32 : BitVec 32 := 1#32
  let arg9 : BitVec 32 := Scf.iv c2_i32 c1_i32 k0_t1
  let c2_i32_140 : BitVec 32 := 2#32
  let v140 : BitVec 32 := Scalar.subi arg9 c2_i32_140
  let c6_i32 : BitVec 32 := 6#32
  let v141 : BitVec 32 := Scalar.shrsi v140 c6_i32
  let v212 : Index := Scalar.indexCast v141
  let c2_i32_141 : BitVec 32 := 2#32
  let v142 : BitVec 32 := Scalar.shrsi v140 c2_i32_141
  let c15_i32 : BitVec 32 := 15#32
  let v143 : BitVec 32 := Scalar.andi v142 c15_i32
  let v213 : Index := Scalar.indexCast v143
  let c0_189 : Index := 0#32
  let c0_190 : Index := 0#32
  ![0, v212.toNat, v213.toNat, 0, 0]
def k0_off3 (k0_t1 : Fin k0_t1_loop.trips) (c0_i32_204 : BitVec 32) : Fin 5 → Nat :=
  let c0_205 : Index := 0#32
  let c2_i32 : BitVec 32 := 2#32
  let c1_i32 : BitVec 32 := 1#32
  let arg9 : BitVec 32 := Scf.iv c2_i32 c1_i32 k0_t1
  let c6_i32_199 : BitVec 32 := 6#32
  let v233 : BitVec 32 := Scalar.shrsi arg9 c6_i32_199
  let v239 : Index := Scalar.indexCast v233
  let c2_i32_203 : BitVec 32 := 2#32
  let c2_i32_200 : BitVec 32 := 2#32
  let v234 : BitVec 32 := Scalar.shrsi arg9 c2_i32_200
  let c15_i32_201 : BitVec 32 := 15#32
  let v235 : BitVec 32 := Scalar.andi v234 c15_i32_201
  let v237 : BitVec 32 := Scalar.muli c2_i32_203 v235
  let v238 : BitVec 32 := Scalar.addi v237 c0_i32_204
  let v240 : Index := Scalar.indexCast v238
  let c0_206 : Index := 0#32
  let c0_207 : Index := 0#32
  ![0, v239.toNat, v240.toNat, 0, 0]
def k0_mult3 (k0_t1 : Fin k0_t1_loop.trips) : BitVec 32 :=
  let c2_i32 : BitVec 32 := 2#32
  let c1_i32 : BitVec 32 := 1#32
  let arg9 : BitVec 32 := Scf.iv c2_i32 c1_i32 k0_t1
  let c3_i32_202 : BitVec 32 := 3#32
  let v236 : BitVec 32 := Scalar.andi arg9 c3_i32_202
  let c4096_i32_213 : BitVec 32 := 4096#32
  let v250 : BitVec 32 := Scalar.muli v236 c4096_i32_213
  v250
def k0_off4 (k0_t1 : Fin k0_t1_loop.trips) : Fin 4 → Nat :=
  let c0_214 : Index := 0#32
  let c2_i32 : BitVec 32 := 2#32
  let c1_i32 : BitVec 32 := 1#32
  let arg9 : BitVec 32 := Scf.iv c2_i32 c1_i32 k0_t1
  let c6_i32_199 : BitVec 32 := 6#32
  let v233 : BitVec 32 := Scalar.shrsi arg9 c6_i32_199
  let v252 : Index := Scalar.indexCast v233
  let c3_i32_202 : BitVec 32 := 3#32
  let v236 : BitVec 32 := Scalar.andi arg9 c3_i32_202
  let c4096_i32_213 : BitVec 32 := 4096#32
  let v250 : BitVec 32 := Scalar.muli v236 c4096_i32_213
  let v251 : BitVec 32 := v250
  let v253 : Index := Scalar.indexCast v251
  let c0_215 : Index := 0#32
  ![0, v252.toNat, v253.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x32x96x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16384x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== Reference.lean ====
abbrev S2x16x32x96x512 : Shape := ⟨5, ![2, 16, 32, 96, 512]⟩
abbrev S2x16x16384x96 : Shape := ⟨4, ![2, 16, 16384, 96]⟩
abbrev S2x16x32x64x512 : Shape := ⟨5, ![2, 16, 32, 64, 512]⟩
abbrev S2x16x32x512x96 : Shape := ⟨5, ![2, 16, 32, 512, 96]⟩
abbrev S2x16x32x512x64 : Shape := ⟨5, ![2, 16, 32, 512, 64]⟩
abbrev S2x16x16384x64 : Shape := ⟨4, ![2, 16, 16384, 64]⟩
abbrev S2x16x16384x16384 : Shape := ⟨4, ![2, 16, 16384, 16384]⟩
abbrev S_ : Shape := ⟨0, ![]⟩
abbrev S2x16x16384 : Shape := ⟨3, ![2, 16, 16384]⟩
abbrev S2x16x16384x1 : Shape := ⟨4, ![2, 16, 16384, 1]⟩
abbrev S2x16x16x1024x64 : Shape := ⟨5, ![2, 16, 16, 1024, 64]⟩
abbrev S2x16x16x64x1024 : Shape := ⟨5, ![2, 16, 16, 64, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x16x32x96x512, .bf16⟩
  | .hbm, ⟨1, _⟩ => ⟨S2x16x16384x96, .bf16⟩
  | .hbm, ⟨2, _⟩ => ⟨S2x16x32x64x512, .bf16⟩
  | .hbm, ⟨3, _⟩ => ⟨S2x16x32x96x512, .f32⟩
  | .hbm, ⟨4, _⟩ => ⟨S2x16x32x512x96, .f32⟩
  | .hbm, ⟨5, _⟩ => ⟨S2x16x16384x96, .f32⟩
  | .hbm, ⟨6, _⟩ => ⟨S2x16x32x64x512, .f32⟩
  | .hbm, ⟨7, _⟩ => ⟨S2x16x32x512x64, .f32⟩
  | .hbm, ⟨8, _⟩ => ⟨S2x16x16384x64, .f32⟩
  | .hbm, ⟨9, _⟩ => ⟨S2x16x16384x96, .f32⟩
  | .hbm, ⟨10, _⟩ => ⟨S2x16x16384x16384, .f32⟩
  | .hbm, ⟨11, _⟩ => ⟨S_, .f32⟩
  | .hbm, ⟨12, _⟩ => ⟨S_, .f32⟩
  | .hbm, ⟨13, _⟩ => ⟨S2x16x16384x16384, .f32⟩
  | .hbm, ⟨14, _⟩ => ⟨S2x16x16384x16384, .f32⟩
  | .hbm, ⟨15, _⟩ => ⟨S_, .f32⟩
  | .hbm, ⟨16, _⟩ => ⟨S2x16x16384, .f32⟩
  | .hbm, ⟨17, _⟩ => ⟨S_, .f32⟩
  | .hbm, ⟨18, _⟩ => ⟨S2x16x16384, .f32⟩
  | .hbm, ⟨19, _⟩ => ⟨S2x16x16384, .f32⟩
  | .hbm, ⟨20, _⟩ => ⟨S2x16x16384x1, .f32⟩
  | .hbm, ⟨21, _⟩ => ⟨S2x16x16384x16384, .f32⟩
  | .hbm, ⟨22, _⟩ => ⟨S2x16x16384x16384, .f32⟩
  | .hbm, ⟨23, _⟩ => ⟨S2x16x16384x16384, .f32⟩
  | .hbm, ⟨24, _⟩ => ⟨S_, .f32⟩
  | .hbm, ⟨25, _⟩ => ⟨S2x16x16384, .f32⟩
  | .hbm, ⟨26, _⟩ => ⟨S2x16x16384x1, .f32⟩
  | .hbm, ⟨27, _⟩ => ⟨S2x16x16384x16384, .f32⟩
  | .hbm, ⟨28, _⟩ => ⟨S2x16x16384x16384, .f32⟩
  | .hbm, ⟨29, _⟩ => ⟨S2x16x16384x64, .f32⟩
  | .hbm, ⟨30, _⟩ => ⟨S2x16x16x1024x64, .f32⟩
  | .hbm, ⟨31, _⟩ => ⟨S2x16x16x64x1024, .f32⟩
  | .hbm, ⟨32, _⟩ => ⟨S2x16x16x64x1024, .bf16⟩
  | _, _ => ⟨S2x16x32x96x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16x16x64x1024 : Shape := ⟨5, ![2, 16, 16, 64, 1024]⟩
abbrev S2x1024x16384 : Shape := ⟨3, ![2, 1024, 16384]⟩
abbrev S2x1x1024 : Shape := ⟨3, ![2, 1, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x16x1x64x1024 : Shape := ⟨5, ![1, 16, 1, 64, 1024]⟩
abbrev S1x1x1024 : Shape := ⟨3, ![1, 1, 1024]⟩
abbrev S16x64x1024 : Shape := ⟨3, ![16, 64, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x16x16x64x1024, .bf16⟩
  | .hbm, ⟨2, _⟩ => ⟨S2x1024x16384, .bf16⟩
  | .hbm, ⟨3, _⟩ => ⟨S2x1x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1x64x1024, .bf16⟩
  | .local _ .vmem, ⟨3, _⟩ => ⟨S1x16x1x64x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![arg0.toNat, c0_i32_11.toNat, v16.toNat, c0_i32_12.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2Ideal.lean ====
abbrev S2x16384x1024 : Shape := ⟨3, ![2, 16384, 1024]⟩
abbrev S2x16x16x64x1024 : Shape := ⟨5, ![2, 16, 16, 64, 1024]⟩
abbrev S2x1024x16384 : Shape := ⟨3, ![2, 1024, 16384]⟩
abbrev S2x1x1024 : Shape := ⟨3, ![2, 1, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x16x1x64x1024 : Shape := ⟨5, ![1, 16, 1, 64, 1024]⟩
abbrev S1x1x1024 : Shape := ⟨3, ![1, 1, 1024]⟩
abbrev S16x64x1024 : Shape := ⟨3, ![16, 64, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x16x16x64x1024, .bf16⟩
  | .hbm, ⟨2, _⟩ => ⟨S2x1024x16384, .bf16⟩
  | .hbm, ⟨3, _⟩ => ⟨S2x1x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1x64x1024, .bf16⟩
  | .local _ .vmem, ⟨3, _⟩ => ⟨S1x16x1x64x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![arg0.toNat, c0_i32_11.toNat, v16.toNat, c0_i32_12.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x16384x1024 : Shape := ⟨3, ![2, 16384, 1024]⟩
abbrev S2x16x16x64x1024 : Shape := ⟨5, ![2, 16, 16, 64, 1024]⟩
abbrev S2x1024x16384 : Shape := ⟨3, ![2, 1024, 16384]⟩
abbrev S2x1x1024 : Shape := ⟨3, ![2, 1, 1024]⟩
abbrev S1024x1024 : Shape := ⟨2, ![1024, 1024]⟩
abbrev S1024 : Shape := ⟨1, ![1024]⟩
abbrev S2x16x1024x16x64 : Shape := ⟨5, ![2, 16, 1024, 16, 64]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16x16x64x1024, .bf16⟩
  | .hbm, ⟨2, _⟩ => ⟨S2x1024x16384, .bf16⟩
  | .hbm, ⟨3, _⟩ => ⟨S2x1x1024, .f32⟩
  | .hbm, ⟨4, _⟩ => ⟨S1024x1024, .f32⟩
  | .hbm, ⟨5, _⟩ => ⟨S1024, .f32⟩
  | .hbm, ⟨6, _⟩ => ⟨S2x16x16x64x1024, .f32⟩
  | .hbm, ⟨7, _⟩ => ⟨S2x16x1024x16x64, .f32⟩
  | .hbm, ⟨8, _⟩ => ⟨S2x16384x1024, .f32⟩
  | .hbm, ⟨9, _⟩ => ⟨S2x1024x16384, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S2x16384x1024, .f32⟩
  | .hbm, ⟨16, _⟩ => ⟨S2x16384x1024, .f32⟩
  | .hbm, ⟨17, _⟩ => ⟨S_, .f32⟩
  | .hbm, ⟨18, _⟩ => ⟨S2x16384, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S2x16384x1, .f32⟩
  | .hbm, ⟨27, _⟩ => ⟨S2x16384x1024, .f32⟩
  | .hbm, ⟨28, _⟩ => ⟨S2x16384x1024, .f32⟩
  | .hbm, ⟨29, _⟩ => ⟨S1x1x1024, .f32⟩
  | .hbm, ⟨30, _⟩ => ⟨S2x16384x1024, .f32⟩
  | .hbm, ⟨31, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Reference2.lean ====
abbrev S2x16384x1024 : Shape := ⟨3, ![2, 16384, 1024]⟩
abbrev S2x16x16x64x1024 : Shape := ⟨5, ![2, 16, 16, 64, 1024]⟩
abbrev S2x1024x16384 : Shape := ⟨3, ![2, 1024, 16384]⟩
abbrev S2x1x1024 : Shape := ⟨3, ![2, 1, 1024]⟩
abbrev S1024x1024 : Shape := ⟨2, ![1024, 1024]⟩
abbrev S1024 : Shape := ⟨1, ![1024]⟩
abbrev S2x16x1024x16x64 : Shape := ⟨5, ![2, 16, 1024, 16, 64]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16x16x64x1024, .bf16⟩
  | .hbm, ⟨2, _⟩ => ⟨S2x1024x16384, .bf16⟩
  | .hbm, ⟨3, _⟩ => ⟨S2x1x1024, .f32⟩
  | .hbm, ⟨4, _⟩ => ⟨S1024x1024, .f32⟩
  | .hbm, ⟨5, _⟩ => ⟨S1024, .f32⟩
  | .hbm, ⟨6, _⟩ => ⟨S2x16x16x64x1024, .f32⟩
  | .hbm, ⟨7, _⟩ => ⟨S2x16x1024x16x64, .f32⟩
  | .hbm, ⟨8, _⟩ => ⟨S2x16384x1024, .f32⟩
  | .hbm, ⟨9, _⟩ => ⟨S2x1024x16384, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S2x16384x1024, .f32⟩
  | .hbm, ⟨16, _⟩ => ⟨S2x16384x1024, .f32⟩
  | .hbm, ⟨17, _⟩ => ⟨S_, .f32⟩
  | .hbm, ⟨18, _⟩ => ⟨S2x16384, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S2x16384x1, .f32⟩
  | .hbm, ⟨27, _⟩ => ⟨S2x16384x1024, .f32⟩
  | .hbm, ⟨28, _⟩ => ⟨S2x16384x1024, .f32⟩
  | .hbm, ⟨29, _⟩ => ⟨S1x1x1024, .f32⟩
  | .hbm, ⟨30, _⟩ => ⟨S2x16384x1024, .f32⟩
  | .hbm, ⟨31, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S2x1x1024 : Shape := ⟨3, ![2, 1, 1024]⟩
abbrev S1024x3328 : Shape := ⟨2, ![1024, 3328]⟩
abbrev S1x1024 : Shape := ⟨2, ![1, 1024]⟩
abbrev S2x16384x3328 : Shape := ⟨3, ![2, 16384, 3328]⟩
abbrev S1x1024x1024 : Shape := ⟨3, ![1, 1024, 1024]⟩
abbrev S1x1x1024 : Shape := ⟨3, ![1, 1, 1024]⟩
abbrev S1x1024x3328 : Shape := ⟨3, ![1, 1024, 3328]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x3328, .bf16⟩
  | .hbm, ⟨5, _⟩ => ⟨S1x1024, .f32⟩
  | .hbm, ⟨6, _⟩ => ⟨S2x16384x3328, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3328, .bf16⟩
  | .local _ .vmem, ⟨8, _⟩ => ⟨S1x1024x3328, .bf16⟩
  | .local _ .vmem, ⟨9, _⟩ => ⟨S1x1024x3328, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x3328 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3.lean ====
abbrev S2x16384x1024 : Shape := ⟨3, ![2, 16384, 1024]⟩
abbrev S1024 : Shape := ⟨1, ![1024]⟩
abbrev S2x1x1024 : Shape := ⟨3, ![2, 1, 1024]⟩
abbrev S1024x3328 : Shape := ⟨2, ![1024, 3328]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3328 : Shape := ⟨3, ![2, 16384, 3328]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x3328, .bf16⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S1024x3328, .f32⟩
  | .hbm, ⟨29, _⟩ => ⟨S2x16384x3328, .f32⟩
  | .hbm, ⟨30, _⟩ => ⟨S2x16384x3328, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x512 : Shape := ⟨3, ![2, 16384, 512]⟩
abbrev S2x16384x3328 : Shape := ⟨3, ![2, 16384, 3328]⟩
abbrev S2x1x1024 : Shape := ⟨3, ![2, 1, 1024]⟩
abbrev S1024x1024 : Shape := ⟨2, ![1024, 1024]⟩
abbrev S1024 : Shape := ⟨1, ![1024]⟩
abbrev S1024x1440 : Shape := ⟨2, ![1024, 1440]⟩
abbrev S256 : Shape := ⟨1, ![256]⟩
abbrev S256x1536 : Shape := ⟨2, ![256, 1536]⟩
abbrev S128 : Shape := ⟨1, ![128]⟩
abbrev S128x2048 : Shape := ⟨2, ![128, 2048]⟩
abbrev S1024x256 : Shape := ⟨2, ![1024, 256]⟩
abbrev S1024x128 : Shape := ⟨2, ![1024, 128]⟩
abbrev S1024x32 : Shape := ⟨2, ![1024, 32]⟩
abbrev S1024x1408 : Shape := ⟨2, ![1024, 1408]⟩
abbrev S1408x1024 : Shape := ⟨2, ![1408, 1024]⟩
abbrev S1024x16 : Shape := ⟨2, ![1024, 16]⟩
abbrev S_ : Shape := ⟨0, ![]⟩
abbrev S1024x64 : Shape := ⟨2, ![1024, 64]⟩
abbrev S1024x384 : Shape := ⟨2, ![1024, 384]⟩
abbrev S128x16x128 : Shape := ⟨3, ![128, 16, 128]⟩
abbrev S128x16x64 : Shape := ⟨3, ![128, 16, 64]⟩
abbrev S128x1024 : Shape := ⟨2, ![128, 1024]⟩
abbrev S256x1 : Shape := ⟨2, ![256, 1]⟩
abbrev S256x128 : Shape := ⟨2, ![256, 128]⟩
abbrev S128x1 : Shape := ⟨2, ![128, 1]⟩
abbrev S128x128 : Shape := ⟨2, ![128, 128]⟩
abbrev S1x128 : Shape := ⟨2, ![1, 128]⟩
abbrev S1536x256 : Shape := ⟨2, ![1536, 256]⟩
abbrev S16 : Shape := ⟨1, ![16]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S16x16384 : Shape := ⟨2, ![16, 16384]⟩
abbrev S1x1024 : Shape := ⟨2, ![1, 1024]⟩
abbrev S2x16x16384x96 : Shape := ⟨4, ![2, 16, 16384, 96]⟩
abbrev S2x16x32x96x512 : Shape := ⟨5, ![2, 16, 32, 96, 512]⟩
abbrev S2x16x32x64x512 : Shape := ⟨5, ![2, 16, 32, 64, 512]⟩
abbrev S2x1024x16384 : Shape := ⟨3, ![2, 1024, 16384]⟩
abbrev S1x512x1024 : Shape := ⟨3, ![1, 512, 1024]⟩
abbrev S1x512x512 : Shape := ⟨3, ![1, 512, 512]⟩
abbrev S1x1x1024 : Shape := ⟨3, ![1, 1, 1024]⟩
abbrev S16x512 : Shape := ⟨2, ![16, 512]⟩
abbrev S512x128 : Shape := ⟨2, ![512, 128]⟩
abbrev S1x16x512x96 : Shape := ⟨4, ![1, 16, 512, 96]⟩
abbrev S1x16x1x96x512 : Shape := ⟨5, ![1, 16, 1, 96, 512]⟩
abbrev S1x16x1x64x512 : Shape := ⟨5, ![1, 16, 1, 64, 512]⟩
abbrev S1x1024x512 : Shape := ⟨3, ![1, 1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1408x512 : Shape := ⟨2, ![1408, 512]⟩
abbrev S1024x512 : Shape := ⟨2, ![1024, 512]⟩
abbrev S256x512 : Shape := ⟨2, ![256, 512]⟩
abbrev S1x512 : Shape := ⟨2, ![1, 512]⟩
abbrev S1536x512 : Shape := ⟨2, ![1536, 512]⟩
abbrev S64x512 : Shape := ⟨2, ![64, 512]⟩
abbrev S1x1x1x64x512 : Shape := ⟨5, ![1, 1, 1, 64, 512]⟩
abbrev S1x1x1x16x512 : Shape := ⟨5, ![1, 1, 1, 16, 512]⟩
abbrev S128x512 : Shape := ⟨2, ![128, 512]⟩
abbrev S16x64x512 : Shape := ⟨3, ![16, 64, 512]⟩
abbrev S512x384 : Shape := ⟨2, ![512, 384]⟩
abbrev S512x2048 : Shape := ⟨2, ![512, 2048]⟩
abbrev S512x96 : Shape := ⟨2, ![512, 96]⟩
abbrev S1x1x512x96 : Shape := ⟨4, ![1, 1, 512, 96]⟩

abbrev nBuf : Space → Nat
  | .hbm => 89
  | .vmem => 42
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x16384x3328, .bf16⟩
  | .hbm, ⟨4, _⟩ => ⟨S2x1x1024, .f32⟩
  | .hbm, ⟨5, _⟩ => ⟨S1024x1024, .bf16⟩
  | .hbm, ⟨6, _⟩ => ⟨S1024, .f32⟩
  | .hbm, ⟨7, _⟩ => ⟨S2x1x1024, .f32⟩
  | .hbm, ⟨8, _⟩ => ⟨S2x1x1024, .f32⟩
  | .hbm, ⟨9, _⟩ => ⟨S1024x1440, .f32⟩
  | .hbm, ⟨10, _⟩ => ⟨S256, .f32⟩
  | .hbm, ⟨11, _⟩ => ⟨S256x1536, .f32⟩
  | .hbm, ⟨12, _⟩ => ⟨S128, .f32⟩
  | .hbm, ⟨13, _⟩ => ⟨S128x2048, .f32⟩
  | .hbm, ⟨14, _⟩ => ⟨S1024x256, .f32⟩
  | .hbm, ⟨15, _⟩ => ⟨S1024x128, .f32⟩
  | .hbm, ⟨16, _⟩ => ⟨S1024x32, .f32⟩
  | .hbm, ⟨17, _⟩ => ⟨S1024x1024, .f32⟩
  | .hbm, ⟨18, _⟩ => ⟨S1024x1408, .f32⟩
  | .hbm, ⟨19, _⟩ => ⟨S1408x1024, .f32⟩
  | .hbm, ⟨20, _⟩ => ⟨S1408x1024, .bf16⟩
  | .hbm, ⟨21, _⟩ => ⟨S1024x16, .f32⟩
  | .hbm, ⟨22, _⟩ => ⟨S1024x16, .f32⟩
  | .hbm, ⟨23, _⟩ => ⟨S1024x16, .f32⟩
  | .hbm, ⟨24, _⟩ => ⟨S1024x32, .f32⟩
  | .hbm, ⟨25, _⟩ => ⟨S_, .f32⟩
  | .hbm, ⟨26, _⟩ => ⟨S1024x64, .f32⟩
  | .hbm, ⟨27, _⟩ => ⟨S_, .f32⟩
  | .hbm, ⟨28, _⟩ => ⟨S1024x32, .f32⟩
  | .hbm, ⟨29, _⟩ => ⟨S1024x384, .f32⟩
  | .hbm, ⟨30, _⟩ => ⟨S1024x384, .bf16⟩
  | .hbm, ⟨31, _⟩ => ⟨S128x16x128, .f32⟩
  | .hbm, ⟨32, _⟩ => ⟨S128x16x64, .f32⟩
  | .hbm, ⟨33, _⟩ => ⟨S128x16x64, .f32⟩
  | .hbm, ⟨34, _⟩ => ⟨S_, .f32⟩
  | .hbm, ⟨35, _⟩ => ⟨S128x16x64, .f32⟩
  | .hbm, ⟨36, _⟩ => ⟨S128x16x128, .f32⟩
  | .hbm, ⟨37, _⟩ => ⟨S128x2048, .f32⟩
  | .hbm, ⟨38, _⟩ => ⟨S128x2048, .bf16⟩
  | .hbm, ⟨39, _⟩ => ⟨S128x16x64, .f32⟩
  | .hbm, ⟨40, _⟩ => ⟨S128x1024, .f32⟩
  | .hbm, ⟨41, _⟩ => ⟨S1024x128, .f32⟩
  | .hbm, ⟨42, _⟩ => ⟨S1024x128, .bf16⟩
  | .hbm, ⟨43, _⟩ => ⟨S256x1, .f32⟩
  | .hbm, ⟨44, _⟩ => ⟨S256x128, .f32⟩
  | .hbm, ⟨45, _⟩ => ⟨S128x1, .f32⟩
  | .hbm, ⟨46, _⟩ => ⟨S128x128, .f32⟩
  | .hbm, ⟨47, _⟩ => ⟨S1x128, .f32⟩
  | .hbm, ⟨48, _⟩ => ⟨S1536x256, .f32⟩
  | .hbm, ⟨49, _⟩ => ⟨S1536x256, .bf16⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S16384, .f32⟩
  | .hbm, ⟨67, _⟩ => ⟨S16384x1, .f32⟩
  | .hbm, ⟨68, _⟩ => ⟨S1x16, .f32⟩
  | .hbm, ⟨69, _⟩ => ⟨S16384x16, .f32⟩
  | .hbm, ⟨70, _⟩ => ⟨S16384x16, .f32⟩
  | .hbm, ⟨71, _⟩ => ⟨S16384x16, .f32⟩
  | .hbm, ⟨72, _⟩ => ⟨S16384x16, .f32⟩
  | .hbm, ⟨73, _⟩ => ⟨S16384x16, .f32⟩
  | .hbm, ⟨74, _⟩ => ⟨S_, .f32⟩
  | .hbm, ⟨75, _⟩ => ⟨S16384x64, .f32⟩
  | .hbm, ⟨76, _⟩ => ⟨S_, .f32⟩
  | .hbm, ⟨77, _⟩ => ⟨S16384x32, .f32⟩
  | .hbm, ⟨78, _⟩ => ⟨S16384x128, .f32⟩
  | .hbm, ⟨79, _⟩ => ⟨S16384x128, .f32⟩
  | .hbm, ⟨80, _⟩ => ⟨S16x16384, .f32⟩
  | .hbm, ⟨81, _⟩ => ⟨S16x16384, .f32⟩
  | .hbm, ⟨82, _⟩ => ⟨S2x16384x1024, .bf16⟩
  | .hbm, ⟨83, _⟩ => ⟨S1x1024, .f32⟩
  | .hbm, ⟨84, _⟩ => ⟨S2x16384x1024, .f32⟩
  | .hbm, ⟨85, _⟩ => ⟨S2x16x16384x96, .bf16⟩
  | .hbm, ⟨86, _⟩ => ⟨S2x16x32x96x512, .bf16⟩
  | .hbm, ⟨87, _⟩ => ⟨S2x16x32x64x512, .bf16⟩
  | .hbm, ⟨88, _⟩ => ⟨S2x1024x16384, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1408x1024, .bf16⟩
  | .local _ .vmem, ⟨17, _⟩ => ⟨S1024x384, .bf16⟩
  | .local _ .vmem, ⟨18, _⟩ => ⟨S256x128, .f32⟩
  | .local _ .vmem, ⟨19, _⟩ => ⟨S128x128, .f32⟩
  | .local _ .vmem, ⟨20, _⟩ => ⟨S1x128, .f32⟩
  | .local _ .vmem, ⟨21, _⟩ => ⟨S1536x256, .bf16⟩
  | .local _ .vmem, ⟨22, _⟩ => ⟨S128x2048, .bf16⟩
  | .local _ .vmem, ⟨23, _⟩ => ⟨S1024x128, .bf16⟩
  | .local _ .vmem, ⟨24, _⟩ => ⟨S16x512, .f32⟩
  | .local _ .vmem, ⟨25, _⟩ => ⟨S16x512, .f32⟩
  | .local _ .vmem, ⟨26, _⟩ => ⟨S16x512, .f32⟩
  | .local _ .vmem, ⟨27, _⟩ => ⟨S16x512, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S1x512x1024, .f32⟩
  | .local _ .vmem, ⟨33, _⟩ => ⟨S1x512x1024, .f32⟩
  | .local _ .vmem, ⟨34, _⟩ => ⟨S1x16x512x96, .bf16⟩
  | .local _ .vmem, ⟨35, _⟩ => ⟨S1x16x512x96, .bf16⟩
  | .local _ .vmem, ⟨36, _⟩ => ⟨S1x16x1x96x512, .bf16⟩
  | .local _ .vmem, ⟨37, _⟩ => ⟨S1x16x1x96x512, .bf16⟩
  | .local _ .vmem, ⟨38, _⟩ => ⟨S1x16x1x64x512, .bf16⟩
  | .local _ .vmem, ⟨39, _⟩ => ⟨S1x16x1x64x512, .bf16⟩
  | .local _ .vmem, ⟨40, _⟩ => ⟨S1x1024x512, .bf16⟩
  | .local _ .vmem, ⟨41, _⟩ => ⟨S1x1024x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60_0 : Ref sig .tc := ⟨.hbm, 84, rfl⟩
abbrev main_v60_1 : Ref sig .tc := ⟨.hbm, 85, rfl⟩
abbrev main_v60_2 : Ref sig .tc := ⟨.hbm, 86, rfl⟩
abbrev main_v60_3 : Ref sig .tc := ⟨.hbm, 87, rfl⟩
abbrev main_v60_4 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_24 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1408x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1536x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S16x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x16x512x96 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x16x1x96x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x16x1x64x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1024x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Reference4.lean ====
abbrev S2x16384x1024 : Shape := ⟨3, ![2, 16384, 1024]⟩
abbrev S2x16384x512 : Shape := ⟨3, ![2, 16384, 512]⟩
abbrev S2x16384x3328 : Shape := ⟨3, ![2, 16384, 3328]⟩
abbrev S2x1x1024 : Shape := ⟨3, ![2, 1, 1024]⟩
abbrev S1024x1024 : Shape := ⟨2, ![1024, 1024]⟩
abbrev S1024 : Shape := ⟨1, ![1024]⟩
abbrev S1024x1440 : Shape := ⟨2, ![1024, 1440]⟩
abbrev S256 : Shape := ⟨1, ![256]⟩
abbrev S256x1536 : Shape := ⟨2, ![256, 1536]⟩
abbrev S128 : Shape := ⟨1, ![128]⟩
abbrev S128x2048 : Shape := ⟨2, ![128, 2048]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x1440 : Shape := ⟨3, ![2, 16384, 1440]⟩
abbrev S2x16384x256 : Shape := ⟨3, ![2, 16384, 256]⟩
abbrev S2x16384x128 : Shape := ⟨3, ![2, 16384, 128]⟩
abbrev S2x16384x32 : Shape := ⟨3, ![2, 16384, 32]⟩
abbrev S1x1x256 : Shape := ⟨3, ![1, 1, 256]⟩
abbrev S2x16384x1536 : Shape := ⟨3, ![2, 16384, 1536]⟩
abbrev S2x16384x16x96 : Shape := ⟨4, ![2, 16384, 16, 96]⟩
abbrev S1x1x128 : Shape := ⟨3, ![1, 1, 128]⟩
abbrev S2x16384x2048 : Shape := ⟨3, ![2, 16384, 2048]⟩
abbrev S2x16384x16x128 : Shape := ⟨4, ![2, 16384, 16, 128]⟩
abbrev S16384 : Shape := ⟨1, ![16384]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S2x16384x16x32 : Shape := ⟨4, ![2, 16384, 16, 32]⟩
abbrev S16384x1x16 : Shape := ⟨3, ![16384, 1, 16]⟩
abbrev S2x16384x16x16 : Shape := ⟨4, ![2, 16384, 16, 16]⟩
abbrev S1x16384x1x16 : Shape := ⟨4, ![1, 16384, 1, 16]⟩
abbrev S2x16384x16 : Shape := ⟨3, ![2, 16384, 16]⟩
abbrev S1x16384x16 : Shape := ⟨3, ![1, 16384, 16]⟩
abbrev S2x16384x1x32 : Shape := ⟨4, ![2, 16384, 1, 32]⟩
abbrev S2x16384x16x64 : Shape := ⟨4, ![2, 16384, 16, 64]⟩
abbrev S2x32x512x16x96 : Shape := ⟨5, ![2, 32, 512, 16, 96]⟩
abbrev S2x16x32x96x512 : Shape := ⟨5, ![2, 16, 32, 96, 512]⟩
abbrev S2x32x512x16x64 : Shape := ⟨5, ![2, 32, 512, 16, 64]⟩
abbrev S2x16x32x64x512 : Shape := ⟨5, ![2, 16, 32, 64, 512]⟩
abbrev S2x16x16384x96 : Shape := ⟨4, ![2, 16, 16384, 96]⟩
abbrev S2x1024x16384 : Shape := ⟨3, ![2, 1024, 16384]⟩

abbrev nBuf : Space → Nat
  | .hbm => 187
  | .vmem => 0
  | .smem => 0
  | _ => 0

abbrev hbmTy0_0 (i : Nat) : BufTy := match i % 128 with
  | 0 => ⟨S2x16384x1024, .f32⟩
  | 1 => ⟨S2x16384x512, .bf16⟩
  | 2 => ⟨S2x16384x512, .bf16⟩
  | 3 => ⟨S2x16384x3328, .bf16⟩
  | 4 => ⟨S2x1x1024, .f32⟩
  | 5 => ⟨S1024x1024, .bf16⟩
  | 6 => ⟨S1024, .f32⟩
  | 7 => ⟨S2x1x1024, .f32⟩
  | 8 => ⟨S2x1x1024, .f32⟩
  | 9 => ⟨S1024x1440, .f32⟩
  | 10 => ⟨S256, .f32⟩
  | 11 => ⟨S256x1536, .f32⟩
  | 12 => ⟨S128, .f32⟩
  | 13 => ⟨S128x2048, .f32⟩
  | 14 => ⟨S2x16384x1024, .bf16⟩
  | 15 => ⟨S2x16384x1024, .f32⟩
  | 16 => ⟨S2x16384x1024, .bf16⟩
  | 17 => ⟨S2x16384x1024, .f32⟩
  | 18 => ⟨S2x16384x1024, .f32⟩
  | 19 => ⟨S2x16384x1024, .f32⟩
  | 20 => ⟨S_, .f32⟩
  | 21 => ⟨S2x16384x1024, .f32⟩
  | 22 => ⟨S2x16384x1024, .f32⟩
  | 23 => ⟨S_, .f32⟩
  | 24 => ⟨S2x16384x1024, .f32⟩
  | 25 => ⟨S2x16384x1024, .f32⟩
  | 26 => ⟨S2x16384x1024, .f32⟩
  | 27 => ⟨S2x16384x1024, .f32⟩
  | 28 => ⟨S1024x1024, .f32⟩
  | 29 => ⟨S2x16384x1024, .f32⟩
  | 30 => ⟨S2x16384x1024, .f32⟩
  | 31 => ⟨S2x16384x1024, .f32⟩
  | 32 => ⟨S2x16384x1024, .f32⟩
  | 33 => ⟨S2x16384x1024, .f32⟩
  | 34 => ⟨S_, .f32⟩
  | 35 => ⟨S2x16384, .f32⟩
  | 36 => ⟨S2x16384x1, .f32⟩
  | 37 => ⟨S_, .f32⟩
  | 38 => ⟨S2x16384x1, .f32⟩
  | 39 => ⟨S2x16384x1, .f32⟩
  | 40 => ⟨S_, .f32⟩
  | 41 => ⟨S2x16384x1, .f32⟩
  | 42 => ⟨S2x16384x1, .f32⟩
  | 43 => ⟨S2x16384x1, .f32⟩
  | 44 => ⟨S2x16384x1024, .f32⟩
  | 45 => ⟨S2x16384x1024, .f32⟩
  | 46 => ⟨S1x1x1024, .f32⟩
  | 47 => ⟨S2x16384x1024, .f32⟩
  | 48 => ⟨S2x16384x1024, .f32⟩
  | 49 => ⟨S_, .f32⟩
  | 50 => ⟨S2x1x1024, .f32⟩
  | 51 => ⟨S2x1x1024, .f32⟩
  | 52 => ⟨S2x16384x1024, .f32⟩
  | 53 => ⟨S2x16384x1024, .f32⟩
  | 54 => ⟨S2x16384x1024, .f32⟩
  | 55 => ⟨S2x16384x1024, .f32⟩
  | 56 => ⟨S2x16384x1440, .f32⟩
  | 57 => ⟨S2x16384x256, .f32⟩
  | 58 => ⟨S2x16384x128, .f32⟩
  | 59 => ⟨S2x16384x32, .f32⟩
  | 60 => ⟨S2x16384x1024, .f32⟩
  | 61 => ⟨S2x16384x256, .f32⟩
  | 62 => ⟨S_, .f32⟩
  | 63 => ⟨S2x16384, .f32⟩
  | 64 => ⟨S2x16384x1, .f32⟩
  | 65 => ⟨S_, .f32⟩
  | 66 => ⟨S2x16384x1, .f32⟩
  | 67 => ⟨S2x16384x1, .f32⟩
  | 68 => ⟨S_, .f32⟩
  | 69 => ⟨S2x16384x1, .f32⟩
  | 70 => ⟨S2x16384x1, .f32⟩
  | 71 => ⟨S2x16384x1, .f32⟩
  | 72 => ⟨S2x16384x256, .f32⟩
  | 73 => ⟨S2x16384x256, .f32⟩
  | 74 => ⟨S1x1x256, .f32⟩
  | 75 => ⟨S2x16384x256, .f32⟩
  | 76 => ⟨S2x16384x256, .f32⟩
  | 77 => ⟨S2x16384x1536, .f32⟩
  | 78 => ⟨S2x16384x16x96, .f32⟩
  | 79 => ⟨S2x16384x128, .f32⟩
  | 80 => ⟨S_, .f32⟩
  | 81 => ⟨S2x16384, .f32⟩
  | 82 => ⟨S2x16384x1, .f32⟩
  | 83 => ⟨S_, .f32⟩
  | 84 => ⟨S2x16384x1, .f32⟩
  | 85 => ⟨S2x16384x1, .f32⟩
  | 86 => ⟨S_, .f32⟩
  | 87 => ⟨S2x16384x1, .f32⟩
  | 88 => ⟨S2x16384x1, .f32⟩
  | 89 => ⟨S2x16384x1, .f32⟩
  | 90 => ⟨S2x16384x128, .f32⟩
  | 91 => ⟨S2x16384x128, .f32⟩
  | 92 => ⟨S1x1x128, .f32⟩
  | 93 => ⟨S2x16384x128, .f32⟩
  | 94 => ⟨S2x16384x128, .f32⟩
  | 95 => ⟨S2x16384x2048, .f32⟩
  | 96 => ⟨S2x16384x16x128, .f32⟩
  | 97 => ⟨S16384, .f32⟩
  | 98 => ⟨S16384x1, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S1x16, .f32⟩
  | 116 => ⟨S16384x16, .f32⟩
  | 117 => ⟨S16384x16, .f32⟩
  | 118 => ⟨S16384x16, .f32⟩
  | 119 => ⟨S16384x16, .f32⟩
  | 120 => ⟨S16384x16, .f32⟩
  | 121 => ⟨S2x16384x16x32, .f32⟩
  | 122 => ⟨S16384x1x16, .f32⟩
  | 123 => ⟨S16384x1x16, .f32⟩
  | 124 => ⟨S2x16384x16x16, .f32⟩
  | 125 => ⟨S2x16384x16x16, .f32⟩
  | 126 => ⟨S1x16384x1x16, .f32⟩
  | 127 => ⟨S2x16384x16x16, .f32⟩
  | _ => ⟨S2x16384x1024, .f32⟩

abbrev hbmTy0_1 (i : Nat) : BufTy := match i % 128 with
  | 0 => ⟨S2x16384x16x16, .f32⟩
  | 1 => ⟨S1x16384x1x16, .f32⟩
  | 2 => ⟨S2x16384x16x16, .f32⟩
  | 3 => ⟨S2x16384x16x16, .f32⟩
  | 4 => ⟨S2x16384x16x16, .f32⟩
  | 5 => ⟨S1x16384x1x16, .f32⟩
  | 6 => ⟨S2x16384x16x16, .f32⟩
  | 7 => ⟨S2x16384x16x16, .f32⟩
  | 8 => ⟨S1x16384x1x16, .f32⟩
  | 9 => ⟨S2x16384x16x16, .f32⟩
  | 10 => ⟨S2x16384x16x16, .f32⟩
  | 11 => ⟨S2x16384x16x16, .f32⟩
  | 12 => ⟨S2x16384x16x32, .f32⟩
  | 13 => ⟨S2x16384x16, .f32⟩
  | 14 => ⟨S2x16384x16, .f32⟩
  | 15 => ⟨S1x16384x16, .f32⟩
  | 16 => ⟨S2x16384x16, .f32⟩
  | 17 => ⟨S2x16384x16, .f32⟩
  | 18 => ⟨S1x16384x16, .f32⟩
  | 19 => ⟨S2x16384x16, .f32⟩
  | 20 => ⟨S2x16384x16, .f32⟩
  | 21 => ⟨S2x16384x16, .f32⟩
  | 22 => ⟨S1x16384x16, .f32⟩
  | 23 => ⟨S2x16384x16, .f32⟩
  | 24 => ⟨S2x16384x16, .f32⟩
  | 25 => ⟨S1x16384x16, .f32⟩
  | 26 => ⟨S2x16384x16, .f32⟩
  | 27 => ⟨S2x16384x16, .f32⟩
  | 28 => ⟨S2x16384x16, .f32⟩
  | 29 => ⟨S2x16384x32, .f32⟩
  | 30 => ⟨S2x16384x1x32, .f32⟩
  | 31 => ⟨S2x16384x16x32, .f32⟩
  | 32 => ⟨S2x16384x16x64, .f32⟩
  | 33 => ⟨S2x16384x16x96, .f32⟩
  | 34 => ⟨S_, .f32⟩
  | 35 => ⟨S2x16384x16x96, .f32⟩
  | 36 => ⟨S2x16384x16x96, .f32⟩
  | 37 => ⟨S2x16384x16x64, .f32⟩
  | 38 => ⟨S2x16384x16x96, .f32⟩
  | 39 => ⟨S2x32x512x16x96, .f32⟩
  | 40 => ⟨S2x16x32x96x512, .f32⟩
  | 41 => ⟨S2x16384x16x64, .f32⟩
  | 42 => ⟨S2x32x512x16x64, .f32⟩
  | 43 => ⟨S2x16x32x64x512, .f32⟩
  | 44 => ⟨S2x16x16384x96, .f32⟩
  | 45 => ⟨S2x16x16384x96, .bf16⟩
  | 46 => ⟨S2x16x32x96x512, .bf16⟩
  | 47 => ⟨S2x16x32x64x512, .bf16⟩
  | 48 => ⟨S2x16384x1024, .f32⟩
  | 49 => ⟨S2x16384x1024, .f32⟩
  | 50 => ⟨S_, .f32⟩
  | 51 => ⟨S2x16384x1024, .f32⟩
  | 52 => ⟨S2x16384x1024, .f32⟩
  | 53 => ⟨S_, .f32⟩
  | 54 => ⟨S2x16384x1024, .f32⟩
  | 55 => ⟨S2x16384x1024, .f32⟩
  | 56 => ⟨S2x16384x1024, .f32⟩
  | 57 => ⟨S2x1024x16384, .f32⟩
  | 58 => ⟨S2x1024x16384, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_cst_8 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_9 : Ref sig .tc := ⟨.hbm, 100, rfl⟩
abbrev main_v68 : Ref sig .tc := ⟨.hbm, 101, rfl⟩
abbrev main_v69 : Ref sig .tc := ⟨.hbm, 102, rfl⟩
abbrev main_cst_10 : Ref sig .tc := ⟨.hbm, 103, rfl⟩
abbrev main_v70 : Ref sig .tc := ⟨.hbm, 104, rfl⟩
abbrev main_v71 : Ref sig .tc := ⟨.hbm, 105, rfl⟩
abbrev main_cst_11 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_cst_13 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_14 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_call1_v0 : Ref sig .tc := ⟨.hbm, 176, rfl⟩
abbrev main_call1_v1 : Ref sig .tc := ⟨.hbm, 177, rfl⟩
abbrev main_call1_cst : Ref sig .tc := ⟨.hbm, 178, rfl⟩
abbrev main_call1_v2 : Ref sig .tc := ⟨.hbm, 179, rfl⟩
abbrev main_call1_v3 : Ref sig .tc := ⟨.hbm, 180, rfl⟩
abbrev main_call1_cst_0 : Ref sig .tc := ⟨.hbm, 181, rfl⟩
abbrev main_call1_v4 : Ref sig .tc := ⟨.hbm, 182, rfl⟩
abbrev main_call1_v5 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩

abbrev nD : Nat := 1
abbrev τ : Topo := Topo.v7x

variable {F : FTy → Type} [FloatOps F]
-- ==== Kernel5.lean ====
abbrev S32x1024 : Shape := ⟨2, ![32, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x32x3072 : Shape := ⟨3, ![2, 32, 3072]⟩
abbrev S1x1024x768 : Shape := ⟨3, ![1, 1024, 768]⟩
abbrev S1x1x768 : Shape := ⟨3, ![1, 1, 768]⟩
abbrev S1x32x768 : Shape := ⟨3, ![1, 32, 768]⟩
abbrev S1024x768 : Shape := ⟨2, ![1024, 768]⟩
abbrev S32x768 : Shape := ⟨2, ![32, 768]⟩
abbrev S1x768 : Shape := ⟨2, ![1, 768]⟩

abbrev nBuf : Space → Nat
  | .hbm => 6
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S2x1024x3072, .f32⟩
  | .hbm, ⟨2, _⟩ => ⟨S2x3072, .f32⟩
  | .hbm, ⟨3, _⟩ => ⟨S2x1024x3072, .bf16⟩
  | .hbm, ⟨4, _⟩ => ⟨S2x1x3072, .f32⟩
  | .hbm, ⟨5, _⟩ => ⟨S2x32x3072, .f32⟩
  | .local _ .vmem, ⟨0, _⟩ => ⟨S32x1024, .f32⟩
  | .local _ .vmem, ⟨1, _⟩ => ⟨S1x1024x768, .bf16⟩
  | .local _ .vmem, ⟨2, _⟩ => ⟨S1x1024x768, .bf16⟩
  | .local _ .vmem, ⟨3, _⟩ => ⟨S1x1x768, .f32⟩
  | .local _ .vmem, ⟨4, _⟩ => ⟨S1x1x768, .f32⟩
  | .local _ .vmem, ⟨5, _⟩ => ⟨S1x32x768, .f32⟩
  | .local _ .vmem, ⟨6, _⟩ => ⟨S1x32x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5.lean ====
abbrev S32x1024 : Shape := ⟨2, ![32, 1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S32x3072 : Shape := ⟨2, ![32, 3072]⟩
abbrev S1x3072 : Shape := ⟨2, ![1, 3072]⟩
abbrev S3072 : Shape := ⟨1, ![3072]⟩
abbrev S1x32x3072 : Shape := ⟨3, ![1, 32, 3072]⟩
abbrev S2x32x3072 : Shape := ⟨3, ![2, 32, 3072]⟩

abbrev nBuf : Space → Nat
  | .hbm => 31
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x1024x3072, .f32⟩
  | .hbm, ⟨2, _⟩ => ⟨S2x3072, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1x1024x3072, .f32⟩
  | .hbm, ⟨13, _⟩ => ⟨S1024x3072, .f32⟩
  | .hbm, ⟨14, _⟩ => ⟨S32x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S32x3072, .f32⟩
  | .hbm, ⟨19, _⟩ => ⟨S32x3072, .f32⟩
  | .hbm, ⟨20, _⟩ => ⟨S1x1024x3072, .f32⟩
  | .hbm, ⟨21, _⟩ => ⟨S1024x3072, .f32⟩
  | .hbm, ⟨22, _⟩ => ⟨S32x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S32x3072, .f32⟩
  | .hbm, ⟨27, _⟩ => ⟨S32x3072, .f32⟩
  | .hbm, ⟨28, _⟩ => ⟨S1x32x3072, .f32⟩
  | .hbm, ⟨29, _⟩ => ⟨S1x32x3072, .f32⟩
  | .hbm, ⟨30, _⟩ => ⟨S2x32x3072, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel6.lean ====
abbrev S16x2048x1024 : Shape := ⟨3, ![16, 2048, 1024]⟩
abbrev S16x16x2x64x1024 : Shape := ⟨5, ![16, 16, 2, 64, 1024]⟩
abbrev S16x1024x2048 : Shape := ⟨3, ![16, 1024, 2048]⟩
abbrev S16x1x1024 : Shape := ⟨3, ![16, 1, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x16x1x64x1024 : Shape := ⟨5, ![1, 16, 1, 64, 1024]⟩
abbrev S1x1x1024 : Shape := ⟨3, ![1, 1, 1024]⟩
abbrev S16x64x1024 : Shape := ⟨3, ![16, 64, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x16x2x64x1024, .bf16⟩
  | .hbm, ⟨2, _⟩ => ⟨S16x1024x2048, .bf16⟩
  | .hbm, ⟨3, _⟩ => ⟨S16x1x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1x64x1024, .bf16⟩
  | .local _ .vmem, ⟨3, _⟩ => ⟨S1x16x1x64x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![arg0.toNat, c0_i32_11.toNat, v16.toNat, c0_i32_12.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6.lean ====
abbrev S16x2048x1024 : Shape := ⟨3, ![16, 2048, 1024]⟩
abbrev S16x16x2x64x1024 : Shape := ⟨5, ![16, 16, 2, 64, 1024]⟩
abbrev S16x1024x2048 : Shape := ⟨3, ![16, 1024, 2048]⟩
abbrev S16x1x1024 : Shape := ⟨3, ![16, 1, 1024]⟩
abbrev S1024x1024 : Shape := ⟨2, ![1024, 1024]⟩
abbrev S1024 : Shape := ⟨1, ![1024]⟩
abbrev S16x2x1024x16x64 : Shape := ⟨5, ![16, 2, 1024, 16, 64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x16x2x64x1024, .bf16⟩
  | .hbm, ⟨2, _⟩ => ⟨S16x1024x2048, .bf16⟩
  | .hbm, ⟨3, _⟩ => ⟨S16x1x1024, .f32⟩
  | .hbm, ⟨4, _⟩ => ⟨S1024x1024, .f32⟩
  | .hbm, ⟨5, _⟩ => ⟨S1024, .f32⟩
  | .hbm, ⟨6, _⟩ => ⟨S16x16x2x64x1024, .f32⟩
  | .hbm, ⟨7, _⟩ => ⟨S16x2x1024x16x64, .f32⟩
  | .hbm, ⟨8, _⟩ => ⟨S16x2048x1024, .f32⟩
  | .hbm, ⟨9, _⟩ => ⟨S16x1024x2048, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Memory.lean ====
/-
  The frame of the printed kernel: at every point of the grid the body runs without a fault on its blocks and its scratch
  buffers, whatever they hold, and gives the input blocks back as they were. What the output block holds is left open here.
-/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Memory

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of the core's, whole, at contents that nothing names. -/
def anything {s : Shape} {e : EltTy} (c : Dev nD) (b : Memref sig .tc .vmem s e) : sProp 𝕄 :=
  iprop(∃ d, owns (c : Thread nD τ) b fullShare d)

set_option maxHeartbeats 1000000 in
/-- The body on whole buffers: the three inputs come back as they were, the output and the scratch buffers at some contents. -/
theorem body (c : Dev nD) (i : grid0.Coords) (q : Memref sig .tc .vmem S1x1x32x96x512 .bf16) (hq : q.IsWhole) (k : Memref sig .tc .vmem S1x1x16384x96 .bf16) (hk : k.IsWhole) (v : Memref sig .tc .vmem S1x1x32x64x512 .bf16) (hv : v.IsWhole) (o : Memref sig .tc .vmem S1x1x16x64x1024 .bf16) (ho : o.IsWhole) (s : Memref sig .tc .vmem S4096x1024 .f32) (hs : s.IsWhole) (p : Memref sig .tc .vmem S4096x1024 .bf16) (hp : p.IsWhole) (a : Memref sig .tc .vmem S80x1024 .f32) (ha : a.IsWhole)
    (x0 : Vec F S1x1x32x96x512 .bf16) (x1 : Vec F S1x1x16384x96 .bf16) (x2 : Vec F S1x1x32x64x512 .bf16) (E : Set ℕ) (K : PUnit → sProp 𝕄) :
    iprop(owns (c : Thread nD τ) q fullShare x0 ∗ owns (c : Thread nD τ) k fullShare x1 ∗ owns (c : Thread nD τ) v fullShare x2
        ∗ anything c o ∗ anything c s ∗ anything c p ∗ anything c a
        ∗ (iprop(owns (c : Thread nD τ) q fullShare x0 ∗ owns (c : Thread nD τ) k fullShare x1 ∗ owns (c : Thread nD τ) v fullShare x2
            ∗ anything c o ∗ anything c s ∗ anything c p ∗ anything c a) -∗ K ⟨⟩))
      ⊢ wp frame (wpE (defs₀ (F := F)) Variants.none c none) E (cc0_mla_attention i q hq k hk v hv o ho s hs p hp a ha) K := by
  simp only [cc0_mla_attention_eq_skeleton]; unfold cc0_mla_attention_skel
  simp only [k0_part4_eq_skeleton, k0_part5_eq_skeleton, k0_part6_eq_skeleton, k0_part7_eq_skeleton, k0_part8_eq_skeleton]
  unfold anything owns
  iintro ⟨⟨%fq, %eq, Hq⟩, ⟨%fk, %ek, Hk⟩, ⟨%fv, %ev, Hv⟩, ⟨%d3, %f3, -, Ho⟩, ⟨%d4, %f4, -, Hs⟩, ⟨%d5, %f5, -, Hp⟩, ⟨%d6, %f6, -, Ha⟩, HK⟩
  obtain rfl := hq.eq_unread eq; obtain rfl := hk.eq_unread ek; obtain rfl := hv.eq_unread ev
  sl_exec
  sl_step
  iapply HK
  isplitl [Hq]
  · iexists _; isplitr; · ipureintro; exact hq.read_unread _
    iexact Hq
  isplitl [Hk]
  · iexists _; isplitr; · ipureintro; exact hk.read_unread _
    iexact Hk
  isplitl [Hv]
  · iexists _; isplitr; · ipureintro; exact hv.read_unread _
    iexact Hv
  isplitl [Ho]
  · iexists _, _; isplitr; swap; · iexact Ho
    ipureintro; rfl
  isplitl [Hs]
  · iexists _, _; isplitr; swap; · iexact Hs
    ipureintro; rfl
  isplitl [Hp]
  · iexists _, _; isplitr; swap; · iexact Hp
    ipureintro; rfl
  iexists _, _; isplitr; swap; · iexact Ha
  ipureintro; rfl

/-- The output window is left open. -/
def left : Fin 4 → Bool := fun w => w.val == 3

/-- The pipeline's proof data: the inputs' buffers keep their blocks, nothing is named of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = iblk m c 0 t := before0_0_of m (dats m 0 c) (dats_A m c 0) (after_0 m c) t d
theorem before_1 (c : Dev nD) (t : Fin cfg0.N) (d) : (dats m 0 c).before 1 t d = iblk m c 1 t := before0_1_of m (dats m 0 c) (dats_A m c 1) (after_1 m c) t d
theorem before_2 (c : Dev nD) (t : Fin cfg0.N) (d) : (dats m 0 c).before 2 t d = iblk m c 2 t := before0_2_of m (dats m 0 c) (dats_A m c 2) (after_2 m c) t d

/-- The invariant between points: the three scratch buffers at some contents, and the generator register. -/
theorem phi_eq (c : Dev nD) :
    (Pipeline.ΦA spec0 c : sProp 𝕄)
      = iprop(iprop(anything c (Memref.whole cc0_scratch0) ∗ anything c (Memref.whole cc0_scratch1) ∗ anything c (Memref.whole cc0_scratch2)) ∗ (∃ r, prngReg c r)) := by
  unfold Pipeline.ΦA; rw [scopedRest0_eq]; unfold anything; simp only [owns_whole]; try rfl

/-- What a point's body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ anything c (st0_3 t))

/-- and what it hands back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ anything c (st0_3 t))

theorem point (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2,
    show (dats m 0 c).Φ t.castSucc = Pipeline.ΦA spec0 c from rfl, phi_eq]
  iintro ⟨⟨⟨HS, HP, HA⟩, Hg⟩, Ho, ⟨%d0, H0⟩, ⟨%d1, H1⟩, ⟨%d2, H2⟩, H3⟩
  iapply (body c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [HS]; · iexact HS
  isplitl [HP]; · iexact HP
  isplitl [HA]; · iexact HA
  iintro ⟨H0, H1, H2, H3, HS, HP, HA⟩
  isplitl [HS HP HA Hg]
  · isplitl [HS HP HA]
    · isplitl [HS]; · iexact HS
      isplitl [HP]; · iexact HP
      iexact HA
    iexact Hg
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ left := fun t => by
  rw [bigSep_W0, bigSep_W0, row]
  exact triple_restated (point m c t) rfl .rfl fun _ => .rfl

set_option backward.isDefEq.respectTransparency.types false in
/-- The launch runs, the input arrays end as they were, and every semaphore ends at zero. -/
theorem launched : θ_run defs (onTc (τ := τ) (main (F := F))) (s₀ m ρ) (fun r => Pipeline.RDat.FramePost (cfgs 0) (fun c => (dats m 0 c).toRForget left) (V m) r ∧ r.2.sem = fun _ => 0) :=
  Pipeline.θ_run_frame_forget (Q' := _) cfgs (dats m) (0 : Fin 1) launch0 defs₀ Variants.none left m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end as they were, and every semaphore ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ⟨?_, ?_, ?_⟩, h.2⟩) (launched m ρ)
  · exact (Pipeline.RDat.FramePost.arr_in h.1 c 0 rfl).trans (dats_A m c 0)
  · exact (Pipeline.RDat.FramePost.arr_in h.1 c 1 rfl).trans (dats_A m c 1)
  · exact (Pipeline.RDat.FramePost.arr_in h.1 c 2 rfl).trans (dats_A m c 2)

end Cert.Kernel.Memory

end
-- ==== Proof.Steps.lean ====
/-
  The attention kernel's schedule as a pure recursion, at any interpretation of the floats.

  The kernel walks 64 steps `i` (16 query blocks of 1024, each against 4 chunks of 4096 keys). Step `i` has scores
  `sc i`, their column maxima `mt i`, a running maximum `mx i` (restarted at each query block), a rescaling `al i`,
  unnormalised weights `pr i` and an accumulator `ac (i+1)`. The kernel runs the three stages skewed: at loop trip
  `k` it accumulates step `k`, exponentiates step `k + 1` and scores step `k + 2`. `St` is what it carries from trip
  to trip and `step` one trip; `St.at k` says the state before trip `k` is the one the plain recursion gives.
-/
module

public import proofs.«01_k».proof.Proof.Gen.KernelIdeal.Loops
public import Idealize.ShloMosaic.Lib.Pipeline.Value
public import Idealize.ShloMosaic.Lib.Pointwise

@[expose] public section

set_option maxRecDepth 16384

noncomputable section

namespace Cert.KernelIdeal.Attn

open Idealize.ShloMosaic Idealize.SL.Sem
open Cert.KernelIdeal Cert.KernelIdeal.Gen

variable {F : FTy → Type} [FloatOps F] [Named F]

/-! ## The blocks a step reads -/

theorem q_inb (i j : ℕ) : ∀ a, (![0, 0, 2 * (i / 4 % 16) + j % 2, 0, 0] : Fin 5 → ℕ) a + S1x1x1x96x512.size a ≤ S1x1x32x96x512.size a := by
  intro a; fin_cases a
  · exact Nat.le_refl _
  · exact Nat.le_refl _
  · show 2 * (i / 4 % 16) + j % 2 + 1 ≤ 32; omega
  · exact Nat.le_refl _
  · exact Nat.le_refl _

theorem k_inb (i : ℕ) : ∀ a, (![0, 0, 4096 * (i % 4), 0] : Fin 4 → ℕ) a + S1x1x4096x96.size a ≤ S1x1x16384x96.size a := by
  intro a; fin_cases a
  · exact Nat.le_refl _
  · exact Nat.le_refl _
  · show 4096 * (i % 4) + 4096 ≤ 16384; omega
  · exact Nat.le_refl _

theorem v_inb (i j : ℕ) : ∀ a, (![0, 0, 8 * (i % 4) + j % 8, 0, 0] : Fin 5 → ℕ) a + S1x1x1x64x512.size a ≤ S1x1x32x64x512.size a := by
  intro a; fin_cases a
  · exact Nat.le_refl _
  · exact Nat.le_refl _
  · show 8 * (i % 4) + j % 8 + 1 ≤ 32; omega
  · exact Nat.le_refl _
  · exact Nat.le_refl _

/-- Half `j` of step `i`'s query block. -/
def qb (x0 : Vec F S1x1x32x96x512 .bf16) (i j : ℕ) : Vec F S1x1x1x96x512 .bf16 :=
  View.ld x0 (Rect.unit (s := S1x1x32x96x512) ![0, 0, 2 * (i / 4 % 16) + j % 2, 0, 0] S1x1x1x96x512.size (q_inb i j))

/-- Step `i`'s chunk of keys. -/
def kb (x1 : Vec F S1x1x16384x96 .bf16) (i : ℕ) : Vec F S1x1x4096x96 .bf16 :=
  View.ld x1 (Rect.unit (s := S1x1x16384x96) ![0, 0, 4096 * (i % 4), 0] S1x1x4096x96.size (k_inb i))

/-- Block `j` of step `i`'s chunk of values. -/
def vb (x2 : Vec F S1x1x32x64x512 .bf16) (i j : ℕ) : Vec F S1x1x1x64x512 .bf16 :=
  View.ld x2 (Rect.unit (s := S1x1x32x64x512) ![0, 0, 8 * (i % 4) + j % 8, 0, 0] S1x1x1x64x512.size (v_inb i j))

/-! ## The plain recursion -/

/-- Step `i`'s scores, keys by queries. -/
def sc (x0 : Vec F S1x1x32x96x512 .bf16) (x1 : Vec F S1x1x16384x96 .bf16) (i : ℕ) : FVec F S4096x1024 .f32 :=
  k0_pay25 (qb x0 i 0) (qb x0 i 1) (kb x1 i)

/-- Their maxima over the chunk's keys. -/
def mt (x0 : Vec F S1x1x32x96x512 .bf16) (x1 : Vec F S1x1x16384x96 .bf16) (i : ℕ) : FVec F S1x1024 .f32 :=
  k0_pay26 (qb x0 i 0) (qb x0 i 1) (kb x1 i)

/-- The running maximum after step `i`. -/
def mx (x0 : Vec F S1x1x32x96x512 .bf16) (x1 : Vec F S1x1x16384x96 .bf16) : ℕ → FVec F S1x1024 .f32
  | 0 => maximumf (k0_pay16 (F := F)) (mt x0 x1 0)
  | i + 1 => maximumf (if (i + 1) % 4 = 0 then k0_pay16 (F := F) else mx x0 x1 i) (mt x0 x1 (i + 1))

/-- The running maximum step `i` starts from. -/
def mp (x0 : Vec F S1x1x32x96x512 .bf16) (x1 : Vec F S1x1x16384x96 .bf16) : ℕ → FVec F S1x1024 .f32
  | 0 => k0_pay16 (F := F)
  | i + 1 => if (i + 1) % 4 = 0 then k0_pay16 (F := F) else mx x0 x1 i

theorem mx_eq (x0 : Vec F S1x1x32x96x512 .bf16) (x1 : Vec F S1x1x16384x96 .bf16) (i : ℕ) :
    mx x0 x1 i = maximumf (mp x0 x1 i) (mt x0 x1 i) := by cases i <;> rfl

/-- The weights of scores `s` under the maxima `m`. -/
def weights (s : FVec F S4096x1024 .f32) (m : FVec F S1x1024 .f32) : FVec F S4096x1024 .bf16 :=
  k0_pay19 (truncf .bf16 (exp2 (subf s (broadcastTo S4096x1024 m broadcasts_S1x1024_S4096x1024))) bitsLt_bf16_f32)

/-- Step `i`'s rescaling of what is accumulated. -/
def al (x0 : Vec F S1x1x32x96x512 .bf16) (x1 : Vec F S1x1x16384x96 .bf16) (i : ℕ) : FVec F S1x1024 .f32 :=
  exp2 (subf (mp x0 x1 i) (mx x0 x1 i))

/-- Step `i`'s weights. -/
def pr (x0 : Vec F S1x1x32x96x512 .bf16) (x1 : Vec F S1x1x16384x96 .bf16) (i : ℕ) : FVec F S4096x1024 .bf16 :=
  weights (sc x0 x1 i) (mx x0 x1 i)

/-- One accumulation: the rescaled accumulator plus step `i`'s weighted values, the ones' rows below them. -/
def accum (v0 : FVec F S16x4096 .bf16) (x2 : Vec F S1x1x32x64x512 .bf16) (i : ℕ) (r : FVec F S1x1024 .f32) (a : Vec F S80x1024 .f32)
    (p : Vec F S4096x1024 .bf16) : FVec F S80x1024 .f32 :=
  k0_pay6 v0 r (k0_pay2 (vb x2 i 0)) (k0_pay3 (vb x2 i 1)) (k0_pay4 (vb x2 i 2)) (k0_pay5 (vb x2 i 3)) (vb x2 i 4) (vb x2 i 5)
    (vb x2 i 6) (vb x2 i 7) a p

/-- The accumulator before step `i`. -/
def ac (x0 : Vec F S1x1x32x96x512 .bf16) (x1 : Vec F S1x1x16384x96 .bf16) (x2 : Vec F S1x1x32x64x512 .bf16) : ℕ → FVec F S80x1024 .f32
  | 0 => k0_pay13 (F := F)
  | i + 1 => accum (k0_pay12 (F := F)) x2 i (al x0 x1 i) (ac x0 x1 x2 i) (pr x0 x1 i)

/-- The one index of a query block's tile under the output block's index. -/
def tileIdx (y : S1x1x16x64x1024.Idx) : S1x1x1x64x1024.Idx := ix5 (0 : Fin 1) (0 : Fin 1) (0 : Fin 1) (y 3) (y 4)

/-- The output block: query block `q` is the accumulator after its fourth chunk, normalised. -/
def ob (x0 : Vec F S1x1x32x96x512 .bf16) (x1 : Vec F S1x1x16384x96 .bf16) (x2 : Vec F S1x1x32x64x512 .bf16) : Vec F S1x1x16x64x1024 .bf16 :=
  fun y => k0_pay7 (ac x0 x1 x2 (4 * (y 2).val + 4)) (tileIdx y)

/-! ## The skewed schedule -/

/-- What the kernel holds between two trips: the carried values, the output block, the scores, the weights and the
    accumulator. -/
structure St (F : FTy → Type) [FloatOps F] where
  carry : FVec F S1x1024 .f32 × FVec F S1x1024 .f32 × FVec F S1x1024 .f32
  o : Vec F S1x1x16x64x1024 .bf16
  s : Vec F S4096x1024 .f32
  p : Vec F S4096x1024 .bf16
  a : Vec F S80x1024 .f32

/-- Query block `q` of the output block replaced. -/
def putTile (q : ℕ) (w : Vec F S1x1x1x64x1024 .bf16) (o : Vec F S1x1x16x64x1024 .bf16) : Vec F S1x1x16x64x1024 .bf16 :=
  fun y => if (y 2).val = q then w (tileIdx y) else o y

/-- One trip: accumulate step `k`, exponentiate step `k + 1`, score step `k + 2`. -/
def step (v0 : FVec F S16x4096 .bf16) (x0 : Vec F S1x1x32x96x512 .bf16) (x1 : Vec F S1x1x16384x96 .bf16) (x2 : Vec F S1x1x32x64x512 .bf16)
    (k : ℕ) (t : St F) : St F :=
  let a := accum v0 x2 k t.carry.2.2 t.a t.p
  let b := if (k + 1) % 4 = 0 then k0_pay16 (F := F) else t.carry.1
  let m := maximumf b t.carry.2.1
  { carry := (m, mt x0 x1 (k + 2), exp2 (subf b m))
    o := putTile (k / 4 % 16) (k0_pay7 a) t.o
    s := sc x0 x1 (k + 2)
    p := weights t.s m
    a := a }

/-- The state before trip `k`, from the state `t` at the loop's entry. -/
def run (v0 : FVec F S16x4096 .bf16) (x0 : Vec F S1x1x32x96x512 .bf16) (x1 : Vec F S1x1x16384x96 .bf16) (x2 : Vec F S1x1x32x64x512 .bf16)
    (t : St F) : ℕ → St F
  | 0 => t
  | k + 1 => step v0 x0 x1 x2 k (run v0 x0 x1 x2 t k)

/-- The state the plain recursion gives before trip `k`, whatever the tiles not yet finished hold. -/
structure At (x0 : Vec F S1x1x32x96x512 .bf16) (x1 : Vec F S1x1x16384x96 .bf16) (x2 : Vec F S1x1x32x64x512 .bf16) (k : ℕ) (t : St F) : Prop where
  carry : t.carry = (mx x0 x1 k, mt x0 x1 (k + 1), al x0 x1 k)
  s : t.s = sc x0 x1 (k + 1)
  p : t.p = pr x0 x1 k
  a : t.a = ac x0 x1 x2 k
  o : ∀ y : S1x1x16x64x1024.Idx, 4 * (y 2).val + 4 ≤ k → t.o y = ob x0 x1 x2 y

theorem At.step {x0 : Vec F S1x1x32x96x512 .bf16} {x1 : Vec F S1x1x16384x96 .bf16} {x2 : Vec F S1x1x32x64x512 .bf16} {k : ℕ} {t : St F}
    (hk : k < 64) (h : At x0 x1 x2 k t) : At x0 x1 x2 (k + 1) (step (k0_pay12 (F := F)) x0 x1 x2 k t) := by
  obtain ⟨hc, hs, hp, ha, ho⟩ := h
  have ha' : accum (k0_pay12 (F := F)) x2 k t.carry.2.2 t.a t.p = ac x0 x1 x2 (k + 1) := by rw [hc, ha, hp]; rfl
  have hb : (if (k + 1) % 4 = 0 then k0_pay16 (F := F) else t.carry.1) = mp x0 x1 (k + 1) := by rw [hc]; rfl
  have hm : maximumf (if (k + 1) % 4 = 0 then k0_pay16 (F := F) else t.carry.1) t.carry.2.1 = mx x0 x1 (k + 1) := by rw [hc, mx]
  refine ⟨?_, rfl, ?_, ha', fun y hy => ?_⟩
  · show (maximumf (if (k + 1) % 4 = 0 then k0_pay16 (F := F) else t.carry.1) t.carry.2.1, mt x0 x1 (k + 2),
      exp2 (subf (if (k + 1) % 4 = 0 then k0_pay16 (F := F) else t.carry.1)
        (maximumf (if (k + 1) % 4 = 0 then k0_pay16 (F := F) else t.carry.1) t.carry.2.1))) = _
    rw [hm, hb]; rfl
  · show weights t.s (maximumf (if (k + 1) % 4 = 0 then k0_pay16 (F := F) else t.carry.1) t.carry.2.1) = _
    rw [hm, hs]; rfl
  · show putTile (k / 4 % 16) (k0_pay7 (accum (k0_pay12 (F := F)) x2 k t.carry.2.2 t.a t.p)) t.o y = _
    rw [ha']; unfold putTile
    split
    · rename_i hq
      have : 4 * (y 2).val + 4 = k + 1 := by omega
      unfold ob; rw [this]
    · rename_i hq
      exact ho y (by omega)

theorem At.run {x0 : Vec F S1x1x32x96x512 .bf16} {x1 : Vec F S1x1x16384x96 .bf16} {x2 : Vec F S1x1x32x64x512 .bf16} {t : St F}
    (h : At x0 x1 x2 0 t) : ∀ k, k ≤ 64 → At x0 x1 x2 k (run (k0_pay12 (F := F)) x0 x1 x2 t k)
  | 0, _ => h
  | k + 1, hk => (At.run h k (by omega)).step (by omega)

end Cert.KernelIdeal.Attn
-- ==== Proof.Trip.lean ====
/-
  One trip of the kernel's loop, and the loop by its invariant: before trip `k` the buffers and the carried values are
  the pure schedule's state `run … k` (Steps.lean).
-/
module

public import proofs.«01_k».proof.Proof.Steps
public import Idealize.ShloMosaic.Lib.WritesUnit
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-! ## The words of a trip -/

theorem trips_eq : k0_t1_loop.trips = 62 := by decide +kernel

theorem off1_eq : ∀ (k : Fin k0_t1_loop.trips) (j : Fin 8),
    k0_off1 k (BitVec.ofNat 32 j.val) = ![0, 0, 8 * (k.val % 4) + j.val % 8, 0, 0] := by decide +kernel
theorem off2_eq : ∀ k : Fin k0_t1_loop.trips, k0_off2 k = ![0, 0, k.val / 4 % 16, 0, 0] := by decide +kernel
theorem off3_eq : ∀ (k : Fin k0_t1_loop.trips) (j : Fin 2),
    k0_off3 k (BitVec.ofNat 32 j.val) = ![0, 0, 2 * ((k.val + 2) / 4 % 16) + j.val % 2, 0, 0] := by decide +kernel
theorem off4_eq : ∀ k : Fin k0_t1_loop.trips, k0_off4 k = ![0, 0, 4096 * ((k.val + 2) % 4), 0] := by decide +kernel

theorem restart_eq : ∀ k : Fin k0_t1_loop.trips,
    Scalar.cmpi .eq (Scalar.andi (Scalar.subi (Scf.iv 2#32 1#32 k.val) 1#32) 3#32) 0#32 = if (k.val + 1) % 4 = 0 then 1#1 else 0#1 := by
  decide +kernel

theorem pay8_eq (k : Fin k0_t1_loop.trips) (m : FVec F S1x1024 .f32) :
    k0_pay8 m (Scf.iv 2#32 1#32 k.val) = if (k.val + 1) % 4 = 0 then k0_pay16 (F := F) else m := by
  unfold k0_pay8
  simp only [restart_eq]
  split <;> rfl

/-! ## What a load of one block reads -/

theorem hz2 : (![0, 0] : Fin 2 → ℕ) = fun _ => 0 := funext fun a => by fin_cases a <;> rfl

theorem rd_q (v : View sig .tc .vmem S1x1x32x96x512 .bf16) (X : v.ty.Contents (Elt F)) {off : Fin 5 → ℕ} (inb) (i j : ℕ)
    (h : off = ![0, 0, 2 * (i / 4 % 16) + j % 2, 0, 0]) :
    v.readAt (Elt F) (Rect.unit (s := S1x1x32x96x512) off S1x1x1x96x512.size inb).toLoadRect X = qb (v.read (Elt F) X) i j := by subst h; rfl

theorem rd_k (v : View sig .tc .vmem S1x1x16384x96 .bf16) (X : v.ty.Contents (Elt F)) {off : Fin 4 → ℕ} (inb) (i : ℕ)
    (h : off = ![0, 0, 4096 * (i % 4), 0]) :
    v.readAt (Elt F) (Rect.unit (s := S1x1x16384x96) off S1x1x4096x96.size inb).toLoadRect X = kb (v.read (Elt F) X) i := by subst h; rfl

theorem rd_v (v : View sig .tc .vmem S1x1x32x64x512 .bf16) (X : v.ty.Contents (Elt F)) {off : Fin 5 → ℕ} (inb) (i j : ℕ)
    (h : off = ![0, 0, 8 * (i % 4) + j % 8, 0, 0]) :
    v.readAt (Elt F) (Rect.unit (s := S1x1x32x64x512) off S1x1x1x64x512.size inb).toLoadRect X = vb (v.read (Elt F) X) i j := by subst h; rfl

theorem rd_whole {n0 n1 : ℕ} {e : EltTy} (v : View sig .tc .vmem ⟨2, ![n0, n1]⟩ e) (X : v.ty.Contents (Elt F)) (inb) :
    v.readAt (Elt F) (Rect.unit (s := ⟨2, ![n0, n1]⟩) ![0, 0] (⟨2, ![n0, n1]⟩ : Shape).size inb).toLoadRect X = v.read (Elt F) X := by
  rw [View.readAt_eq_ld, View.ld_unit_zero (S := ⟨2, ![n0, n1]⟩) hz2]

theorem wr_whole {n0 n1 : ℕ} {e : EltTy} (v : View sig .tc .vmem ⟨2, ![n0, n1]⟩ e) (f : v.ty.Contents (Elt F)) (inb)
    (w : (⟨2, ![n0, n1]⟩ : Shape).Idx → Elt F e) (L : List (View.Piece (Elt F) ⟨2, ![n0, n1]⟩ e)) :
    v.read (Elt F) (v.writes (Elt F) f (⟨Rect.unit (s := ⟨2, ![n0, n1]⟩) ![0, 0] (⟨2, ![n0, n1]⟩ : Shape).size inb, w⟩ :: L)) = w := by
  funext y
  exact View.read_writes_cons_unit_of_mem v f inb w L y y hz2 fun a => (Nat.zero_add _).symm

/-- An output index in query block `q` is the block's offsets plus its place in the tile. -/
theorem tile_at (y : S1x1x16x64x1024.Idx) {q : ℕ} (hy : (y 2).val = q) :
    ∀ a, (y a).val = (![0, 0, q, 0, 0] : Fin 5 → ℕ) a + (tileIdx y a).val := by
  intro a
  have h0 : (y 0).val < 1 := (y 0).isLt
  have h1 : (y 1).val < 1 := (y 1).isLt
  fin_cases a
  · show (y 0).val = 0 + 0; omega
  · show (y 1).val = 0 + 0; omega
  · show (y 2).val = q + 0; omega
  · show (y 3).val = 0 + (y 3).val; omega
  · show (y 4).val = 0 + (y 4).val; omega

/-- The buffers and the carried values are those of the schedule's state `t`; what is only read is at its contents. -/
abbrev Holds (c : Dev nD) (arg2 : Memref sig .tc .vmem S1x1x32x96x512 .bf16) (arg3 : Memref sig .tc .vmem S1x1x16384x96 .bf16) (arg4 : Memref sig .tc .vmem S1x1x32x64x512 .bf16) (arg5 : Memref sig .tc .vmem S1x1x16x64x1024 .bf16) (arg6 : Memref sig .tc .vmem S4096x1024 .f32) (arg7 : Memref sig .tc .vmem S4096x1024 .bf16) (arg8 : Memref sig .tc .vmem S80x1024 .f32)
    (X2 : BufTy.Contents (Elt F) arg2.view.ty) (X3 : BufTy.Contents (Elt F) arg3.view.ty) (X4 : BufTy.Contents (Elt F) arg4.view.ty)
    (t : St F) (acc : FVec F S1x1024 .f32 × FVec F S1x1024 .f32 × FVec F S1x1024 .f32) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4)
    ∗ (∃ f, (arg5.view.loc (c : Thread nD τ) ↦[arg5.view.set]{fullShare} f) ∗ ⌜arg5.view.read (Elt F) f = t.o⌝)
    ∗ (∃ f, (arg6.view.loc (c : Thread nD τ) ↦[arg6.view.set]{fullShare} f) ∗ ⌜arg6.view.read (Elt F) f = t.s⌝)
    ∗ (∃ f, (arg7.view.loc (c : Thread nD τ) ↦[arg7.view.set]{fullShare} f) ∗ ⌜arg7.view.read (Elt F) f = t.p⌝)
    ∗ (∃ f, (arg8.view.loc (c : Thread nD τ) ↦[arg8.view.set]{fullShare} f) ∗ ⌜arg8.view.read (Elt F) f = t.a⌝)
    ∗ ⌜acc = t.carry⌝)

/-- One trip's region, run once at a symbolic trip and an arbitrary state. -/
theorem trip (𝒱 : Variants) (c : Dev nD) (bd : Option 𝒱.V) (E : Set ℕ) (i : grid0.Coords) (arg2 : Memref sig .tc .vmem S1x1x32x96x512 .bf16) (harg2 : arg2.IsWhole) (arg3 : Memref sig .tc .vmem S1x1x16384x96 .bf16) (harg3 : arg3.IsWhole) (arg4 : Memref sig .tc .vmem S1x1x32x64x512 .bf16) (harg4 : arg4.IsWhole) (arg5 : Memref sig .tc .vmem S1x1x16x64x1024 .bf16) (harg5 : arg5.IsWhole) (arg6 : Memref sig .tc .vmem S4096x1024 .f32) (harg6 : arg6.IsWhole) (arg7 : Memref sig .tc .vmem S4096x1024 .bf16) (harg7 : arg7.IsWhole) (arg8 : Memref sig .tc .vmem S80x1024 .f32) (harg8 : arg8.IsWhole)
    (v0 : FVec F S16x4096 .bf16) (v22 : FVec F S1x1024 .f32) (v23 : FVec F S1x1024 .f32) (v28 : FVec F S4096x1024 .bf16)
    (X2 : BufTy.Contents (Elt F) arg2.view.ty) (X3 : BufTy.Contents (Elt F) arg3.view.ty) (X4 : BufTy.Contents (Elt F) arg4.view.ty)
    (k : Fin k0_t1_loop.trips) (t : St F) (acc : FVec F S1x1024 .f32 × FVec F S1x1024 .f32 × FVec F S1x1024 .f32) :
    Holds c arg2 arg3 arg4 arg5 arg6 arg7 arg8 X2 X3 X4 t acc
      ⊢ wp frame (wpE (defs₀ (F := F)) 𝒱 (c : Thread nD τ) bd) E (k0_t1_body (F := F) i arg2 harg2 arg3 harg3 arg4 harg4 arg5 harg5 arg6 harg6 arg7 harg7 arg8 harg8 v0 v22 v23 v28 k acc)
          (Holds c arg2 arg3 arg4 arg5 arg6 arg7 arg8 X2 X3 X4
            (step v0 (arg2.view.read (Elt F) X2) (arg3.view.read (Elt F) X3) (arg4.view.read (Elt F) X4) k.val t)) := by
  have hk : k.val < 62 := Nat.lt_of_lt_of_le k.isLt k0_t1_abs.2.1
  unfold k0_t1_body
  iintro ⟨HR2, HR3, HR4, ⟨%f5, HW5, %h5⟩, ⟨%f6, HW6, %h6⟩, ⟨%f7, HW7, %h7⟩, ⟨%f8, HW8, %h8⟩, %hacc⟩
  subst hacc
  sl_exec
  sl_step
  isplitl [HR2]; · iexact HR2
  isplitl [HR3]; · iexact HR3
  isplitl [HR4]; · iexact HR4
  isplitl [HW5]
  · iexists _; isplitl [HW5]; · iexact HW5
    ipureintro
    sl_unfold_run_names
    rw [View.readCov_cons_toLoadRect]
    rw [rd_v (off := k0_off1 k 0#32) _ _ _ k.val 0 (off1_eq k 0), rd_v (off := k0_off1 k 1#32) _ _ _ k.val 1 (off1_eq k 1), rd_v (off := k0_off1 k 2#32) _ _ _ k.val 2 (off1_eq k 2), rd_v (off := k0_off1 k 3#32) _ _ _ k.val 3 (off1_eq k 3), rd_v (off := k0_off1 k 4#32) _ _ _ k.val 4 (off1_eq k 4), rd_v (off := k0_off1 k 5#32) _ _ _ k.val 5 (off1_eq k 5), rd_v (off := k0_off1 k 6#32) _ _ _ k.val 6 (off1_eq k 6), rd_v (off := k0_off1 k 7#32) _ _ _ k.val 7 (off1_eq k 7), rd_whole, rd_whole, h7, h8]
    funext y
    show _ = putTile (k.val / 4 % 16) _ t.o y
    unfold putTile
    split
    · rename_i hy
      exact View.read_writes_cons_unit_of_mem _ _ _ _ _ y (tileIdx y) (off2_eq k) (tile_at y hy)
    · rename_i hy
      rw [View.read_writes_cons_unit_of_not_mem _ _ _ _ _ y (off2_eq k) 2 (by
        show (y 2).val < k.val / 4 % 16 ∨ k.val / 4 % 16 + 1 ≤ (y 2).val
        omega)]
      exact congrFun h5 y
  isplitl [HW6]
  · iexists _; isplitl [HW6]; · iexact HW6
    ipureintro
    sl_unfold_run_names
    rw [rd_q (off := k0_off3 k 0#32) _ _ _ (k.val + 2) 0 (off3_eq k 0), rd_q (off := k0_off3 k 1#32) _ _ _ (k.val + 2) 1 (off3_eq k 1), rd_k _ _ _ (k.val + 2) (off4_eq k)]
    rw [wr_whole]
    rfl
  isplitl [HW7]
  · iexists _; isplitl [HW7]; · iexact HW7
    ipureintro
    sl_unfold_run_names
    rw [wr_whole, rd_whole, h6]
    unfold k0_pay10 k0_pay9
    rw [pay8_eq]
    rfl
  isplitl [HW8]
  · iexists _; isplitl [HW8]; · iexact HW8
    ipureintro
    sl_unfold_run_names
    rw [wr_whole]
    rw [rd_v (off := k0_off1 k 0#32) _ _ _ k.val 0 (off1_eq k 0), rd_v (off := k0_off1 k 1#32) _ _ _ k.val 1 (off1_eq k 1), rd_v (off := k0_off1 k 2#32) _ _ _ k.val 2 (off1_eq k 2), rd_v (off := k0_off1 k 3#32) _ _ _ k.val 3 (off1_eq k 3), rd_v (off := k0_off1 k 4#32) _ _ _ k.val 4 (off1_eq k 4), rd_v (off := k0_off1 k 5#32) _ _ _ k.val 5 (off1_eq k 5), rd_v (off := k0_off1 k 6#32) _ _ _ k.val 6 (off1_eq k 6), rd_v (off := k0_off1 k 7#32) _ _ _ k.val 7 (off1_eq k 7), rd_whole, rd_whole, h7, h8]
    rfl
  ipureintro
  sl_unfold_run_names
  rw [rd_q (off := k0_off3 k 0#32) _ _ _ (k.val + 2) 0 (off3_eq k 0), rd_q (off := k0_off3 k 1#32) _ _ _ (k.val + 2) 1 (off3_eq k 1), rd_k _ _ _ (k.val + 2) (off4_eq k)]
  unfold k0_pay11 k0_pay9
  rw [pay8_eq]
  rfl

set_option warn.classDefReducibility false in
/-- The loop by its invariant: before trip `k`, the schedule's state `k` trips from the entry's. -/
@[sl_loop] def loopInv (𝒱 : Variants) (c : Dev nD) (bd : Option 𝒱.V) (E : Set ℕ) (i : grid0.Coords) (arg2 : Memref sig .tc .vmem S1x1x32x96x512 .bf16) (harg2 : arg2.IsWhole) (arg3 : Memref sig .tc .vmem S1x1x16384x96 .bf16) (harg3 : arg3.IsWhole) (arg4 : Memref sig .tc .vmem S1x1x32x64x512 .bf16) (harg4 : arg4.IsWhole) (arg5 : Memref sig .tc .vmem S1x1x16x64x1024 .bf16) (harg5 : arg5.IsWhole) (arg6 : Memref sig .tc .vmem S4096x1024 .f32) (harg6 : arg6.IsWhole) (arg7 : Memref sig .tc .vmem S4096x1024 .bf16) (harg7 : arg7.IsWhole) (arg8 : Memref sig .tc .vmem S80x1024 .f32) (harg8 : arg8.IsWhole)
    (v0 : FVec F S16x4096 .bf16) (v22 : FVec F S1x1024 .f32) (v23 : FVec F S1x1024 .f32) (v28 : FVec F S4096x1024 .bf16)
    (X2 : BufTy.Contents (Elt F) arg2.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty) (G8 : BufTy.Contents (Elt F) arg8.view.ty)
    (init : FVec F S1x1024 .f32 × FVec F S1x1024 .f32 × FVec F S1x1024 .f32) :
    LoopInvTy_k0_t1 (F := F) Unit ℕ (UR sig nD τ) ℕ 𝒱 c bd E i arg2 harg2 arg3 harg3 arg4 harg4 arg5 harg5 arg6 harg6 arg7 harg7 arg8 harg8 v0 v22 v23 v28 init where
  inv k acc := Holds c arg2 arg3 arg4 arg5 arg6 arg7 arg8 X2 X3 X4
    (run v0 (arg2.view.read (Elt F) X2) (arg3.view.read (Elt F) X3) (arg4.view.read (Elt F) X4)
      ⟨init, arg5.view.read (Elt F) G5, arg6.view.read (Elt F) G6, arg7.view.read (Elt F) G7, arg8.view.read (Elt F) G8⟩ k) acc
  step k acc := trip 𝒱 c bd E i arg2 harg2 arg3 harg3 arg4 harg4 arg5 harg5 arg6 harg6 arg7 harg7 arg8 harg8 v0 v22 v23 v28 X2 X3 X4 k _ acc

end Cert.KernelIdeal.Attn
-- ==== Proof.Body.lean ====
/-
  The kernel's whole body, run once: the inputs' buffers are left as they were, the output's buffer holds the pure
  schedule's output block `ob` (Steps.lean).
-/
module

public import proofs.«01_k».proof.Proof.Trip

@[expose] public section

set_option maxRecDepth 16384
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The accumulation the kernel writes out after its loop is step 62's. -/
theorem beforeLast {x0 : Vec F S1x1x32x96x512 .bf16} {x1 : Vec F S1x1x16384x96 .bf16} {x2 : Vec F S1x1x32x64x512 .bf16}
    {r : FVec F S1x1024 .f32} {a : Vec F S80x1024 .f32} {p : Vec F S4096x1024 .bf16} (hr : r = al x0 x1 62) (ha : a = ac x0 x1 x2 62) (hp : p = pr x0 x1 62) :
    k0_pay29 (k0_pay28 (k0_pay12 (F := F)) r (k0_pay27 (vb x2 62 0)) (vb x2 62 1) (vb x2 62 2) (vb x2 62 3) (vb x2 62 4) (vb x2 62 5) (vb x2 62 6)
      (vb x2 62 7) a p) = ac x0 x1 x2 63 := by subst hr ha hp; rfl

/-- The last accumulation, its weights with it, is step 63's. -/
theorem last {x0 : Vec F S1x1x32x96x512 .bf16} {x1 : Vec F S1x1x16384x96 .bf16} {x2 : Vec F S1x1x32x64x512 .bf16}
    {m n : FVec F S1x1024 .f32} {s : Vec F S4096x1024 .f32} {a : Vec F S80x1024 .f32} (hm : m = mx x0 x1 62) (hn : n = mt x0 x1 63) (hs : s = sc x0 x1 63)
    (ha : a = ac x0 x1 x2 63) :
    k0_pay37 (k0_pay12 (F := F)) (k0_pay34 m n) (k0_pay35 (vb x2 63 0)) (k0_pay36 (vb x2 63 1)) (vb x2 63 2) (vb x2 63 3) (vb x2 63 4) (vb x2 63 5)
      (vb x2 63 6) (vb x2 63 7) a (k0_pay33 m n s) = ac x0 x1 x2 64 := by subst hm hn hs ha; rfl

/-- The body's run: what is read is left as it was, and the output's buffer ends at the output block. -/
theorem body (c : Dev nD) (i : grid0.Coords) (arg2 : Memref sig .tc .vmem S1x1x32x96x512 .bf16) (harg2 : arg2.IsWhole) (arg3 : Memref sig .tc .vmem S1x1x16384x96 .bf16) (harg3 : arg3.IsWhole) (arg4 : Memref sig .tc .vmem S1x1x32x64x512 .bf16) (harg4 : arg4.IsWhole) (arg5 : Memref sig .tc .vmem S1x1x16x64x1024 .bf16) (harg5 : arg5.IsWhole) (arg6 : Memref sig .tc .vmem S4096x1024 .f32) (harg6 : arg6.IsWhole) (arg7 : Memref sig .tc .vmem S4096x1024 .bf16) (harg7 : arg7.IsWhole) (arg8 : Memref sig .tc .vmem S80x1024 .f32) (harg8 : arg8.IsWhole)
    (x0 : Vec F S1x1x32x96x512 .bf16) (x1 : Vec F S1x1x16384x96 .bf16) (x2 : Vec F S1x1x32x64x512 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (ob x0 x1 x2) ∗ (∃ d, owns (c : Thread nD τ) arg6 fullShare d)
            ∗ (∃ d, owns (c : Thread nD τ) arg7 fullShare d) ∗ (∃ d, owns (c : Thread nD τ) arg8 fullShare d)) -∗ K ⟨⟩))
      ⊢ wp frame (wpE (defs₀ (F := F)) Variants.none (c : Thread nD τ) none) E (cc0_mla_attention i arg2 harg2 arg3 harg3 arg4 harg4 arg5 harg5 arg6 harg6 arg7 harg7 arg8 harg8) K := by
  simp only [cc0_mla_attention_eq_skeleton]; unfold cc0_mla_attention_skel
  simp only [k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    revert hL4 hL6 hL8 hL10
    sl_unfold_run_names
    intro h5 h6 h7 h8
    have key : ∀ (f : arg8.view.ty.Contents (Elt F)) (t : St F), arg8.view.read (Elt F) f = (run (k0_pay12 (F := F)) (arg2.view.read (Elt F) (harg2.unread x0)) (arg3.view.read (Elt F) (harg3.unread x1))
        (arg4.view.read (Elt F) (harg4.unread x2)) t (Scf.trips k0_t1_loop.lb k0_t1_loop.ub k0_t1_loop.st)).a → At x0 x1 x2 0 t →
        ∃ R : St F, run (k0_pay12 (F := F)) (arg2.view.read (Elt F) (harg2.unread x0)) (arg3.view.read (Elt F) (harg3.unread x1))
          (arg4.view.read (Elt F) (harg4.unread x2)) t (Scf.trips k0_t1_loop.lb k0_t1_loop.ub k0_t1_loop.st) = R ∧ At x0 x1 x2 62 R := by
      intro f t _ h
      refine ⟨_, rfl, ?_⟩
      rw [harg2.read_unread, harg3.read_unread, harg4.read_unread]
      exact h.run 62 (by omega)
    obtain ⟨R, hR, H⟩ := key _ _ h8 (by
      rw [wr_whole, wr_whole, wr_whole, View.readCov_cons_toLoadRect]
      rw [rd_q (off := ![0, 0, 0, 0, 0]) _ _ _ 0 0 rfl, rd_q (off := ![0, 0, 1, 0, 0]) _ _ _ 0 1 rfl, rd_k (off := ![0, 0, 0, 0]) _ _ _ 0 rfl, rd_k (off := ![0, 0, 4096, 0]) _ _ _ 1 rfl, harg2.read_unread, harg3.read_unread]
      exact ⟨rfl, rfl, rfl, rfl, fun y hy => absurd hy (by omega)⟩)
    rw [hR] at h5 h6 h7 h8 ⊢
    clear hR key
    rw [View.readCov_cons_toLoadRect, View.readCov_cons_toLoadRect, View.readCov_cons_toLoadRect, rd_whole, rd_whole, rd_whole, h6, h7, h8,
      rd_v (off := ![0, 0, 16, 0, 0]) _ _ _ 62 0 rfl, rd_v (off := ![0, 0, 17, 0, 0]) _ _ _ 62 1 rfl, rd_v (off := ![0, 0, 18, 0, 0]) _ _ _ 62 2 rfl, rd_v (off := ![0, 0, 19, 0, 0]) _ _ _ 62 3 rfl, rd_v (off := ![0, 0, 20, 0, 0]) _ _ _ 62 4 rfl, rd_v (off := ![0, 0, 21, 0, 0]) _ _ _ 62 5 rfl, rd_v (off := ![0, 0, 22, 0, 0]) _ _ _ 62 6 rfl, rd_v (off := ![0, 0, 23, 0, 0]) _ _ _ 62 7 rfl, rd_v (off := ![0, 0, 24, 0, 0]) _ _ _ 63 0 rfl, rd_v (off := ![0, 0, 25, 0, 0]) _ _ _ 63 1 rfl, rd_v (off := ![0, 0, 26, 0, 0]) _ _ _ 63 2 rfl, rd_v (off := ![0, 0, 27, 0, 0]) _ _ _ 63 3 rfl, rd_v (off := ![0, 0, 28, 0, 0]) _ _ _ 63 4 rfl, rd_v (off := ![0, 0, 29, 0, 0]) _ _ _ 63 5 rfl, rd_v (off := ![0, 0, 30, 0, 0]) _ _ _ 63 6 rfl, rd_v (off := ![0, 0, 31, 0, 0]) _ _ _ 63 7 rfl, harg4.read_unread]
    funext y
    by_cases hy : (y 2).val = 15
    · refine (View.read_writes_cons_unit_of_mem _ _ _ _ _ y (tileIdx y) rfl (tile_at y hy)).trans ?_
      show k0_pay7 _ (tileIdx y) = k0_pay7 (ac x0 x1 x2 (4 * (y 2).val + 4)) (tileIdx y)
      rw [hy, show 4 * 15 + 4 = 64 from rfl]
      have hm : R.carry.1 = mx x0 x1 62 := by rw [H.carry]
      have hn : R.carry.2.1 = mt x0 x1 63 := by rw [H.carry]
      have hr : R.carry.2.2 = al x0 x1 62 := by rw [H.carry]
      have e := last (x2 := x2) hm hn H.s (beforeLast hr H.a H.p)
      exact congrArg (fun a => k0_pay7 a (tileIdx y)) e
    · have out : (y 2).val < 15 ∨ 15 + 1 ≤ (y 2).val := by omega
      rw [View.read_writes_cons_unit_of_not_mem _ _ _ _ _ y rfl 2 out, View.read_writes_cons_unit_of_not_mem _ _ _ _ _ y rfl 2 out]
      have : (y 2).val < 16 := (y 2).isLt
      exact (congrFun h5 y).trans (H.o y (by omega))
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.Attn
-- ==== Proof.Launch.lean ====
/-
  The launch: the kernel's whole body (Body.lean) at every point of the grid, so the output array ends holding the
  pure schedule's output block (Steps.lean) of each batch and head, and the arguments end as they were.
-/
module

public import proofs.«01_k».proof.Proof.Body
public import proofs.«01_k».proof.Proof.Gen.KernelIdeal.Frame
public import Idealize.ShloMosaic.Lib.Pipeline.Value
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch buffers: the scores, the weights, the accumulator. -/
abbrev scS : Memref sig .tc .vmem S4096x1024 .f32 := Memref.whole cc0_scratch0
abbrev scP : Memref sig .tc .vmem S4096x1024 .bf16 := Memref.whole cc0_scratch1
abbrev scA : Memref sig .tc .vmem S80x1024 .f32 := Memref.whole cc0_scratch2

theorem phi_eq (c : Dev nD) :
    (Pipeline.ΦA spec0 c : sProp 𝕄)
      = iprop(iprop((∃ d, owns (c : Thread nD τ) scS fullShare d) ∗ (∃ d, owns (c : Thread nD τ) scP fullShare d)
          ∗ (∃ d, owns (c : Thread nD τ) scA fullShare d)) ∗ (∃ r, prngReg c r)) := by
  unfold Pipeline.ΦA; rw [scopedRest0_eq]; simp only [scS, scP, scA, owns_whole]; try rfl

/-- The pipeline's proof data: the inputs' buffers keep their blocks, the output's is left at the output block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ob (F := F) (iblk m c 0 t) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = ob (F := F) (iblk m c 0 t) (iblk m c 1 t) (iblk m c 2 t) := by dsimp only [dats]

theorem before_0 (c : Dev nD) (t : Fin cfg0.N) (d) : (dats m 0 c).before 0 t d = iblk m c 0 t := before0_0_of m (dats m 0 c) (dats_A m c 0) (after_0 m c) t d
theorem before_1 (c : Dev nD) (t : Fin cfg0.N) (d) : (dats m 0 c).before 1 t d = iblk m c 1 t := before0_1_of m (dats m 0 c) (dats_A m c 1) (after_1 m c) t d
theorem before_2 (c : Dev nD) (t : Fin cfg0.N) (d) : (dats m 0 c).before 2 t d = iblk m c 2 t := before0_2_of m (dats m 0 c) (dats_A m c 2) (after_2 m c) t d

/-- What a point's body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem point (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3,
    show (dats m 0 c).Φ t.castSucc = Pipeline.ΦA spec0 c from rfl, phi_eq]
  iintro ⟨⟨⟨HS, HP, HA⟩, Hg⟩, Ho, ⟨%d0, H0⟩, ⟨%d1, H1⟩, ⟨%d2, H2⟩, ⟨%d3, H3⟩⟩
  iapply (body c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS]; · iexact HS
  isplitl [HP]; · iexact HP
  isplitl [HA]; · iexact HA
  iintro ⟨H0, H1, H2, H3, HS, HP, HA⟩
  isplitl [HS HP HA Hg]
  · isplitl [HS HP HA]
    · isplitl [HS]; · iexact HS
      isplitl [HP]; · iexact HP
      iexact HA
    iexact Hg
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
/-- The launch runs to the frame's post, and every semaphore ends at zero. -/
theorem launched : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end as they were, and every semaphore ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launched m ρ)))
    ((θ_run defs _ _).mono (fun _ h => h.2) (launched m ρ))

/-! ## The output array -/

/-- Batch `b`'s and head `h`'s queries, keys and values. -/
def qOf (x : Vec F S2x16x32x96x512 .bf16) (b : Fin 2) (h : Fin 16) : Vec F S1x1x32x96x512 .bf16 := fun j => x (ix5 b h (j 2) (j 3) (j 4))
def kOf (x : Vec F S2x16x16384x96 .bf16) (b : Fin 2) (h : Fin 16) : Vec F S1x1x16384x96 .bf16 := fun j => x (ix4 b h (j 2) (j 3))
def vOf (x : Vec F S2x16x32x64x512 .bf16) (b : Fin 2) (h : Fin 16) : Vec F S1x1x32x64x512 .bf16 := fun j => x (ix5 b h (j 2) (j 3) (j 4))

/-- The output: each batch's and head's output block. -/
def outp (x0 : Vec F S2x16x32x96x512 .bf16) (x1 : Vec F S2x16x16384x96 .bf16) (x2 : Vec F S2x16x32x64x512 .bf16) : Vec F S2x16x16x64x1024 .bf16 :=
  fun y => ob (qOf x0 (y 0) (y 1)) (kOf x1 (y 0) (y 1)) (vOf x2 (y 0) (y 1)) (ix5 (0 : Fin 1) (0 : Fin 1) (y 2) (y 3) (y 4))

theorem idx0 : ∀ t : Fin cfg0.N, (fun a => win0_0.index t a) = ![t.val / 16, t.val % 16, 0, 0, 0] := by decide +kernel
theorem idx1 : ∀ t : Fin cfg0.N, (fun a => win0_1.index t a) = ![t.val / 16, t.val % 16, 0, 0] := by decide +kernel
theorem idx2 : ∀ t : Fin cfg0.N, (fun a => win0_2.index t a) = ![t.val / 16, t.val % 16, 0, 0, 0] := by decide +kernel
theorem idx3 : ∀ t : Fin cfg0.N, (fun a => win0_3.index t a) = ![t.val / 16, t.val % 16, 0, 0, 0] := by decide +kernel

/-- A point's batch and head. -/
def bOf (t : Fin cfg0.N) : Fin 2 := ⟨t.val / 16, by have h := t.isLt; have e : cfg0.N = 32 := N_0; omega⟩
def hOf (t : Fin cfg0.N) : Fin 16 := ⟨t.val % 16, Nat.mod_lt _ (by decide)⟩

theorem iblk0 (c : Dev nD) (t : Fin cfg0.N) : iblk m c 0 t = qOf (m ((c : Thread nD τ).loc main_arg0)) (bOf t) (hOf t) := by
  funext j
  unfold iblk qOf
  rw [View.read_apply]
  show m ((c : Thread nD τ).loc main_arg0) _ = m ((c : Thread nD τ).loc main_arg0) _
  congr 1
  funext a
  apply Fin.ext
  have h0 : (j 0).val < 1 := (j 0).isLt
  have h1 : (j 1).val < 1 := (j 1).isLt
  have hi := fun a => congrFun (idx0 t) a
  match a with
  | ⟨0, _⟩ => show win0_0.index t 0 * 1 + 1 * (j 0).val = t.val / 16; rw [hi 0]; show t.val / 16 * 1 + _ = _; omega
  | ⟨1, _⟩ => show win0_0.index t 1 * 1 + 1 * (j 1).val = t.val % 16; rw [hi 1]; show t.val % 16 * 1 + _ = _; omega
  | ⟨2, _⟩ => show win0_0.index t 2 * 32 + 1 * (j 2).val = (j 2).val; rw [hi 2]; show 0 * 32 + _ = _; omega
  | ⟨3, _⟩ => show win0_0.index t 3 * 96 + 1 * (j 3).val = (j 3).val; rw [hi 3]; show 0 * 96 + _ = _; omega
  | ⟨4, _⟩ => show win0_0.index t 4 * 512 + 1 * (j 4).val = (j 4).val; rw [hi 4]; show 0 * 512 + _ = _; omega

theorem iblk1 (c : Dev nD) (t : Fin cfg0.N) : iblk m c 1 t = kOf (m ((c : Thread nD τ).loc main_arg1)) (bOf t) (hOf t) := by
  funext j
  unfold iblk kOf
  rw [View.read_apply]
  show m ((c : Thread nD τ).loc main_arg1) _ = m ((c : Thread nD τ).loc main_arg1) _
  congr 1
  funext a
  apply Fin.ext
  have h0 : (j 0).val < 1 := (j 0).isLt
  have h1 : (j 1).val < 1 := (j 1).isLt
  have hi := fun a => congrFun (idx1 t) a
  match a with
  | ⟨0, _⟩ => show win0_1.index t 0 * 1 + 1 * (j 0).val = t.val / 16; rw [hi 0]; show t.val / 16 * 1 + _ = _; omega
  | ⟨1, _⟩ => show win0_1.index t 1 * 1 + 1 * (j 1).val = t.val % 16; rw [hi 1]; show t.val % 16 * 1 + _ = _; omega
  | ⟨2, _⟩ => show win0_1.index t 2 * 16384 + 1 * (j 2).val = (j 2).val; rw [hi 2]; show 0 * 16384 + _ = _; omega
  | ⟨3, _⟩ => show win0_1.index t 3 * 96 + 1 * (j 3).val = (j 3).val; rw [hi 3]; show 0 * 96 + _ = _; omega

theorem iblk2 (c : Dev nD) (t : Fin cfg0.N) : iblk m c 2 t = vOf (m ((c : Thread nD τ).loc main_arg2)) (bOf t) (hOf t) := by
  funext j
  unfold iblk vOf
  rw [View.read_apply]
  show m ((c : Thread nD τ).loc main_arg2) _ = m ((c : Thread nD τ).loc main_arg2) _
  congr 1
  funext a
  apply Fin.ext
  have h0 : (j 0).val < 1 := (j 0).isLt
  have h1 : (j 1).val < 1 := (j 1).isLt
  have hi := fun a => congrFun (idx2 t) a
  match a with
  | ⟨0, _⟩ => show win0_2.index t 0 * 1 + 1 * (j 0).val = t.val / 16; rw [hi 0]; show t.val / 16 * 1 + _ = _; omega
  | ⟨1, _⟩ => show win0_2.index t 1 * 1 + 1 * (j 1).val = t.val % 16; rw [hi 1]; show t.val % 16 * 1 + _ = _; omega
  | ⟨2, _⟩ => show win0_2.index t 2 * 32 + 1 * (j 2).val = (j 2).val; rw [hi 2]; show 0 * 32 + _ = _; omega
  | ⟨3, _⟩ => show win0_2.index t 3 * 64 + 1 * (j 3).val = (j 3).val; rw [hi 3]; show 0 * 64 + _ = _; omega
  | ⟨4, _⟩ => show win0_2.index t 4 * 512 + 1 * (j 4).val = (j 4).val; rw [hi 4]; show 0 * 512 + _ = _; omega

/-- The output of the arguments as launched. -/
abbrev result (c : Dev nD) : Buf (Elt F) ((c : Thread nD τ).loc main_v0) :=
  outp (m ((c : Thread nD τ).loc main_arg0)) (m ((c : Thread nD τ).loc main_arg1)) (m ((c : Thread nD τ).loc main_arg2))

theorem flushed_3 (c : Dev nD) (t : Fin cfg0.N) : (dats m 0 c).flushed 3 t = ((cfg0.win 3).blk t).view.read (Elt F) (result m c) := by
  show (cfg0.win 3).cut (grid0.coords t) ((dats m 0 c).after 3 t) = _
  rw [after_3, iblk0, iblk1, iblk2]
  funext j
  rw [View.read_apply]
  have h0 : (j 0).val < 1 := (j 0).isLt
  have h1 : (j 1).val < 1 := (j 1).isLt
  have hi := fun a => congrFun (idx3 t) a
  have e : ((cfg0.win 3).blk t).view.emb j = (ix5 (bOf t) (hOf t) (j 2) (j 3) (j 4) : S2x16x16x64x1024.Idx) := by
    funext a
    apply Fin.ext
    match a with
    | ⟨0, _⟩ => show win0_3.index t 0 * 1 + 1 * (j 0).val = t.val / 16; rw [hi 0]; show t.val / 16 * 1 + _ = _; omega
    | ⟨1, _⟩ => show win0_3.index t 1 * 1 + 1 * (j 1).val = t.val % 16; rw [hi 1]; show t.val % 16 * 1 + _ = _; omega
    | ⟨2, _⟩ => show win0_3.index t 2 * 16 + 1 * (j 2).val = (j 2).val; rw [hi 2]; show 0 * 16 + _ = _; omega
    | ⟨3, _⟩ => show win0_3.index t 3 * 64 + 1 * (j 3).val = (j 3).val; rw [hi 3]; show 0 * 64 + _ = _; omega
    | ⟨4, _⟩ => show win0_3.index t 4 * 1024 + 1 * (j 4).val = (j 4).val; rw [hi 4]; show 0 * 1024 + _ = _; omega
  rw [e]
  show ob _ _ _ _ = outp _ _ _ _
  unfold outp
  show ob _ _ _ _ = ob (qOf _ (bOf t) (hOf t)) (kOf _ (bOf t) (hOf t)) (vOf _ (bOf t) (hOf t)) _
  congr 1
  funext a
  apply Fin.ext
  match a with
  | ⟨0, _⟩ => show (j 0).val = 0; omega
  | ⟨1, _⟩ => show (j 1).val = 0; omega
  | ⟨2, _⟩ => rfl
  | ⟨3, _⟩ => rfl
  | ⟨4, _⟩ => rfl

/-- The output array ends holding the output: its points' blocks cover it. -/
theorem final_3 (c : Dev nD) : (dats m 0 c).arrAt 3 cfg0.N = result m c :=
  (dats m 0 c).arrAt_eq_of_cover 3 (result m c) (fun t _ => flushed_3 m c t) fun i => by
    have h0 : (i 0).val < 2 := (i 0).isLt
    have h1 : (i 1).val < 16 := (i 1).isLt
    have h2 : (i 2).val < 16 := (i 2).isLt
    have h3 : (i 3).val < 64 := (i 3).isLt
    have h4 : (i 4).val < 1024 := (i 4).isLt
    let t : Fin cfg0.N := ⟨16 * (i 0).val + (i 1).val, by have e : cfg0.N = 32 := N_0; omega⟩
    have ht0 : t.val / 16 = (i 0).val := by show (16 * (i 0).val + (i 1).val) / 16 = _; omega
    have ht1 : t.val % 16 = (i 1).val := by show (16 * (i 0).val + (i 1).val) % 16 = _; omega
    have hi := fun a => congrFun (idx3 t) a
    refine ⟨t, flush0_3 t, ?_⟩
    show i ∈ ((View.whole main_v0).slice (win0_3.rect t)).set
    rw [View.set_slice_whole, Rect.mem_set_unit]
    intro a
    match a with
    | ⟨0, _⟩ => show win0_3.index t 0 * 1 ≤ (i 0).val ∧ (i 0).val < win0_3.index t 0 * 1 + 1; rw [hi 0]; show t.val / 16 * 1 ≤ _ ∧ _ < t.val / 16 * 1 + 1; omega
    | ⟨1, _⟩ => show win0_3.index t 1 * 1 ≤ (i 1).val ∧ (i 1).val < win0_3.index t 1 * 1 + 1; rw [hi 1]; show t.val % 16 * 1 ≤ _ ∧ _ < t.val % 16 * 1 + 1; omega
    | ⟨2, _⟩ => show win0_3.index t 2 * 16 ≤ (i 2).val ∧ (i 2).val < win0_3.index t 2 * 16 + 16; rw [hi 2]; show 0 * 16 ≤ _ ∧ _ < 0 * 16 + 16; omega
    | ⟨3, _⟩ => show win0_3.index t 3 * 64 ≤ (i 3).val ∧ (i 3).val < win0_3.index t 3 * 64 + 64; rw [hi 3]; show 0 * 64 ≤ _ ∧ _ < 0 * 64 + 64; omega
    | ⟨4, _⟩ => show win0_3.index t 4 * 1024 ≤ (i 4).val ∧ (i 4).val < win0_3.index t 4 * 1024 + 1024; rw [hi 4]; show 0 * 1024 ≤ _ ∧ _ < 0 * 1024 + 1024; omega

/-- The run, read: the result is the output of the arguments, which end as they were. -/
theorem value : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 3).trans (final_3 m c), h.2.1 c⟩) (θ_run_and (launched m ρ) (quiescent m ρ))

end Cert.KernelIdeal.Attn
-- ==== Proof.Entries.lean ====
/-
  What the schedule's pieces (Steps.lean) hold at an index, floats read as extended reals.
-/
module

public import proofs.«01_k».proof.Proof.Steps
public import Idealize.ShloMosaic.PureOps.Ideal
public import Idealize.ShloMosaic.PureOps.Ideal.Laws

@[expose] public section

set_option maxRecDepth 16384

noncomputable section

namespace Cert.KernelIdeal.Attn

open Idealize.ShloMosaic Idealize.SL.Sem
open Cert.KernelIdeal Cert.KernelIdeal.Gen

variable (x0 : Vec Ideal S1x1x32x96x512 .bf16) (x1 : Vec Ideal S1x1x16384x96 .bf16) (x2 : Vec Ideal S1x1x32x64x512 .bf16)

theorem negInf : Ideal.ofBits .f32 0xFF800000#32 = ⊥ := by simp [Ideal.ofBits, Ideal.ieee]

/-- The score of the chunk's key `k` under the block's query `c`. -/
theorem sc_apply (i : ℕ) (k : Fin 4096) (c : Fin 1024) :
    sc x0 x1 i (ix2 k c) = ∑ d : Fin 96, x1 (ix4 0 0 ⟨4096 * (i % 4) + k.val, by omega⟩ d)
      * x0 (ix5 0 0 ⟨2 * (i / 4 % 16) + c.val / 512, by omega⟩ d ⟨c.val % 512, by omega⟩) := by
  unfold sc
  pointwise [k0_pay25, k0_pay24, qb, kb]
  refine Finset.sum_congr rfl fun d _ => congrArg _ ?_
  split
  · congr 2 <;> apply Fin.ext <;> dsimp only <;> omega
  · congr 2 <;> apply Fin.ext <;> dsimp only <;> omega

theorem mt_apply (i : ℕ) (c : Fin 1024) :
    mt x0 x1 i (ix2 0 c) = (Finset.univ : Finset (Fin 4096)).fold max ⊥ fun k => sc x0 x1 i (ix2 k c) := by
  unfold mt sc
  unfold k0_pay25 k0_pay26
  generalize k0_pay24 (qb x0 i 0) (qb x0 i 1) (kb x1 i) = s
  pointwise
  rw [negInf]

theorem pay16_apply (c : Fin 1024) : k0_pay16 (F := Ideal) (ix2 0 c) = ⊥ := by
  pointwise [k0_pay16]
  rfl

theorem ob_apply (q : Fin 16) (d : Fin 64) (c : Fin 1024) :
    ob x0 x1 x2 (ix5 0 0 q d c) = ac x0 x1 x2 (4 * q.val + 4) (ix2 ⟨d.val, by omega⟩ c)
      * Ideal.div 1 (ac x0 x1 x2 (4 * q.val + 4) (ix2 64 c)) := by
  show k0_pay7 (ac x0 x1 x2 (4 * q.val + 4)) (ix5 0 0 0 d c) = _
  generalize ac x0 x1 x2 (4 * q.val + 4) = a
  pointwise [k0_pay7]

theorem pay13_apply (d : Fin 80) (c : Fin 1024) : k0_pay13 (F := Ideal) (ix2 d c) = 0 := by
  pointwise [k0_pay13]

theorem pr_apply (i : ℕ) (k : Fin 4096) (c : Fin 1024) :
    pr x0 x1 i (ix2 k c) = Ideal.exp2 (sc x0 x1 i (ix2 k c) - mx x0 x1 i (ix2 0 c)) := by
  unfold pr weights
  generalize sc x0 x1 i = s
  generalize mx x0 x1 i = m
  pointwise [k0_pay19]
  rfl

theorem al_apply (i : ℕ) (c : Fin 1024) :
    al x0 x1 i (ix2 0 c) = Ideal.exp2 (mp x0 x1 i (ix2 0 c) - mx x0 x1 i (ix2 0 c)) := by
  unfold al
  pointwise
  rfl

/-- The value of the chunk's key `k` at feature `d`; the rows past the features are ones. -/
def vals (i : ℕ) (d : Fin 80) (k : Fin 4096) : EReal :=
  if h : d.val < 64 then x2 (ix5 0 0 ⟨8 * (i % 4) + k.val / 512, by omega⟩ ⟨d.val, h⟩ ⟨k.val % 512, by omega⟩) else 1

theorem accum_apply (i : ℕ) (r : FVec Ideal S1x1024 .f32) (a : Vec Ideal S80x1024 .f32) (p : Vec Ideal S4096x1024 .bf16)
    (d : Fin 80) (c : Fin 1024) :
    accum (k0_pay12 (F := Ideal)) x2 i r a p (ix2 d c) = a (ix2 d c) * r (ix2 0 c) + ∑ k : Fin 4096, vals x2 i d k * p (ix2 k c) := by
  unfold accum
  pointwise [k0_pay6, k0_pay2, k0_pay3, k0_pay4, k0_pay5, k0_pay12, vb]
  refine congrArg _ (Finset.sum_congr rfl fun k _ => congrArg (· * p (ix2 k c)) ?_)
  unfold vals
  have hk := k.isLt
  split
  · repeat' split
    all_goals congr 2 <;> apply Fin.ext <;> dsimp only <;> omega
  · rfl

end Cert.KernelIdeal.Attn

end
-- ==== Proof.Softmax.lean ====
/-
  Softmax weights over the extended reals, by powers of two and by exponentials, for real scores and any values.
-/
module

public import Idealize.ShloMosaic.PureOps.Ideal
public import Idealize.ShloMosaic.PureOps.Ideal.Laws

@[expose] public section

noncomputable section

namespace Cert.Softmax

open Idealize.ShloMosaic

variable {ι : Type} (s : Finset ι)

/-- A sum of reals, read in the extended reals. -/
theorem coe_sum (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A nonnegative real factor goes into a sum of any extended reals. -/
theorem sum_mul_coe (f : ι → EReal) {r : ℝ} (hr : 0 ≤ r) : (∑ i ∈ s, f i) * (r : EReal) = ∑ i ∈ s, f i * (r : EReal) := by
  classical
  induction s using Finset.induction_on with
  | empty => simp
  | insert a s h ih =>
    rw [Finset.sum_insert h, Finset.sum_insert h,
      EReal.right_distrib_of_nonneg_of_ne_top (EReal.coe_nonneg.2 hr) (EReal.coe_ne_top r), ih]

/-- The greatest of finitely many reals, at least one, is a real. -/
theorem fold_max_real (hs : s.Nonempty) (f : ι → ℝ) : ∃ r : ℝ, (s.fold max ⊥ fun k => (f k : EReal)) = (r : EReal) := by
  have h1 : (s.fold max ⊥ fun k => (f k : EReal)) ≠ ⊤ :=
    ne_of_lt ((Finset.fold_max_lt _).2 ⟨bot_lt_top, fun k _ => EReal.coe_lt_top _⟩)
  have h2 : (s.fold max ⊥ fun k => (f k : EReal)) ≠ ⊥ :=
    ne_of_gt ((Finset.lt_fold_max _).2 (Or.inr ⟨_, hs.choose_spec, EReal.bot_lt_coe _⟩))
  exact ⟨_, (EReal.coe_toReal h1 h2).symm⟩

/-- Two to the difference of two reals. -/
theorem exp2_sub (x y : ℝ) : Ideal.exp2 ((x : EReal) - (y : EReal)) = (((2 : ℝ) ^ (x - y) : ℝ) : EReal) := by
  rw [← EReal.coe_sub, Ideal.exp2_coe]; rfl

/-- Rescaling a weight taken under one maximum to another. -/
theorem rescale (v : EReal) (x y z : ℝ) :
    v * (((2 : ℝ) ^ (x - y) : ℝ) : EReal) * (((2 : ℝ) ^ (y - z) : ℝ) : EReal) = v * (((2 : ℝ) ^ (x - z) : ℝ) : EReal) := by
  rw [mul_assoc, ← EReal.coe_mul, ← Real.rpow_add (by norm_num), show x - y + (y - z) = x - z by ring]

variable [Fintype ι] [Nonempty ι]

/-- The softmax weight of `k`, of scores counted in powers of two. -/
def weight (S : ι → ℝ) (k : ι) : ℝ := (2 : ℝ) ^ S k / ∑ j, (2 : ℝ) ^ S j

theorem total_pos (S : ι → ℝ) : 0 < ∑ j, (2 : ℝ) ^ S j :=
  Finset.sum_pos (fun _ _ => Real.rpow_pos_of_pos (by norm_num) _) Finset.univ_nonempty

/-- Weights under any shift `M` of the scores, normalised at the end. -/
theorem normalised (S : ι → ℝ) (V : ι → EReal) (M : ℝ) :
    (∑ k, V k * (((2 : ℝ) ^ (S k - M) : ℝ) : EReal)) * Ideal.div 1 (∑ k, (1 : EReal) * (((2 : ℝ) ^ (S k - M) : ℝ) : EReal))
      = ∑ k, V k * (weight S k : EReal) := by
  have hL := total_pos fun k => S k - M
  simp only [one_mul]
  rw [coe_sum, Ideal.div_coe hL.ne', one_mul, sum_mul_coe _ _ (by positivity)]
  refine Finset.sum_congr rfl fun k _ => ?_
  rw [mul_assoc, ← EReal.coe_mul]
  congr 2
  have hM : (2 : ℝ) ^ M ≠ 0 := (Real.rpow_pos_of_pos (by norm_num) _).ne'
  have hT := (total_pos S).ne'
  simp only [Real.rpow_sub (show (0 : ℝ) < 2 by norm_num), ← Finset.sum_div]
  unfold weight
  field_simp

/-- The exponential softmax of the scores times `log 2`, under any shift, has the same weights. -/
theorem softmax (S : ι → ℝ) (m : ℝ) (k : ι) :
    Ideal.div (Ideal.exp (((S k * Real.log 2 : ℝ) : EReal) - (m : EReal)))
        (∑ j, Ideal.exp (((S j * Real.log 2 : ℝ) : EReal) - (m : EReal))) = (weight S k : EReal) := by
  have e : ∀ j, Ideal.exp (((S j * Real.log 2 : ℝ) : EReal) - (m : EReal)) = (((2 : ℝ) ^ S j / Real.exp m : ℝ) : EReal) := fun j => by
    rw [← EReal.coe_sub, Ideal.exp_coe, Real.exp_sub, Real.rpow_def_of_pos (by norm_num), mul_comm]
  have hm := (Real.exp_pos m).ne'
  have hT := (total_pos S).ne'
  simp only [e]
  rw [coe_sum, ← Finset.sum_div, Ideal.div_coe (div_ne_zero hT hm), ← EReal.coe_mul]
  congr 1
  unfold weight
  field_simp

end Cert.Softmax

end
-- ==== Proof.Online.lean ====
/-
  The schedule's running softmax, for real queries and keys: a query block's outputs are the values weighted by the
  softmax weights of its scores.
-/
module

public import proofs.«01_k».proof.Proof.Entries
public import proofs.«01_k».proof.Proof.Softmax
public import Idealize.ShloMosaic.Lib.Pipeline.ValueKit.Acc

@[expose] public section

set_option maxRecDepth 16384

noncomputable section

namespace Cert.KernelIdeal.Attn

open Idealize.ShloMosaic Idealize.SL.Sem
open Cert.KernelIdeal Cert.KernelIdeal.Gen Cert.Softmax

/-- Real entries, read in the extended reals. -/
abbrev up {s : Shape} (X : s.Idx → ℝ) : Vec Ideal s .bf16 := fun i => ((X i : ℝ) : EReal)

variable (X0 : S1x1x32x96x512.Idx → ℝ) (X1 : S1x1x16384x96.Idx → ℝ) (x2 : Vec Ideal S1x1x32x64x512 .bf16)

/-- Step `i`'s score of the chunk's key `k` under the block's query `c`, as a real. -/
def stepScore (i : ℕ) (k : Fin 4096) (c : Fin 1024) : ℝ :=
  ∑ d : Fin 96, X1 (ix4 0 0 ⟨4096 * (i % 4) + k.val, by omega⟩ d)
    * X0 (ix5 0 0 ⟨2 * (i / 4 % 16) + c.val / 512, by omega⟩ d ⟨c.val % 512, by omega⟩)

theorem sc_real (i : ℕ) (k : Fin 4096) (c : Fin 1024) : sc (up X0) (up X1) i (ix2 k c) = (stepScore X0 X1 i k c : EReal) := by
  rw [sc_apply]
  unfold stepScore
  rw [← coe_sum]
  exact Finset.sum_congr rfl fun d _ => (EReal.coe_mul _ _).symm

theorem mt_real (i : ℕ) (c : Fin 1024) : ∃ r : ℝ, mt (up X0) (up X1) i (ix2 0 c) = (r : EReal) := by
  rw [mt_apply]
  simp only [sc_real]
  exact fold_max_real _ ⟨0, Finset.mem_univ _⟩ _

/-- Every running maximum is a real. -/
theorem mx_real (c : Fin 1024) : ∀ i : ℕ, ∃ r : ℝ, mx (up X0) (up X1) i (ix2 0 c) = (r : EReal) := by
  have key : ∀ i, (mp (up X0) (up X1) i (ix2 0 c) = (⊥ : EReal) ∨ ∃ r : ℝ, mp (up X0) (up X1) i (ix2 0 c) = (r : EReal)) →
      ∃ r : ℝ, mx (up X0) (up X1) i (ix2 0 c) = (r : EReal) := by
    intro i h
    obtain ⟨t, ht⟩ := mt_real X0 X1 i c
    rw [mx_eq, maximumf_apply, ht]
    rcases h with h | ⟨r, h⟩
    · exact ⟨t, by rw [h]; exact max_eq_right bot_le⟩
    · exact ⟨max r t, by rw [h]; exact (EReal.coe_strictMono.monotone.map_max).symm⟩
  intro i
  induction i with
  | zero => exact key 0 (Or.inl (pay16_apply c))
  | succ i ih =>
    refine key (i + 1) ?_
    by_cases h : (i + 1) % 4 = 0
    · exact Or.inl ((congrFun (if_pos h) _).trans (pay16_apply c))
    · obtain ⟨r, hr⟩ := ih
      exact Or.inr ⟨r, (congrFun (if_neg h) _).trans hr⟩

theorem mp_first (q : ℕ) (c : Fin 1024) : mp (up X0) (up X1) (4 * q) (ix2 0 c) = (⊥ : EReal) := by
  rcases q with _ | q
  · exact pay16_apply c
  · exact (congrFun (if_pos (by omega : (4 * q + 3 + 1) % 4 = 0)) _).trans (pay16_apply c)

theorem mp_next (i : ℕ) (h : (i + 1) % 4 ≠ 0) (c : Fin 1024) :
    mp (up X0) (up X1) (i + 1) (ix2 0 c) = mx (up X0) (up X1) i (ix2 0 c) := congrFun (if_neg h) _

/-- The accumulator after `n + 1` of query block `q`'s four steps: the values so far, each weighted by two to its score less
    the running maximum. -/
theorem ac_sum (q : ℕ) (d : Fin 80) (c : Fin 1024) : ∀ n : ℕ, n < 4 → ∀ M : ℝ, mx (up X0) (up X1) (4 * q + n) (ix2 0 c) = (M : EReal) →
    ac (up X0) (up X1) x2 (4 * q + n + 1) (ix2 d c) = ∑ j ∈ Finset.range (n + 1), ∑ k : Fin 4096,
      vals x2 (4 * q + j) d k * (((2 : ℝ) ^ (stepScore X0 X1 (4 * q + j) k c - M) : ℝ) : EReal) := by
  intro n
  induction n with
  | zero =>
    intro _ M hM
    have h0 : mp (up X0) (up X1) (4 * q + 0) (ix2 0 c) = (⊥ : EReal) := mp_first X0 X1 q c
    show accum (k0_pay12 (F := Ideal)) x2 (4 * q + 0) (al (up X0) (up X1) (4 * q + 0)) (ac (up X0) (up X1) x2 (4 * q + 0))
      (pr (up X0) (up X1) (4 * q + 0)) (ix2 d c) = _
    rw [accum_apply, al_apply, hM, h0, EReal.bot_sub, Ideal.exp2_bot, mul_zero, zero_add, Finset.sum_range_one]
    refine Finset.sum_congr rfl fun k _ => ?_
    rw [pr_apply, sc_real, hM, exp2_sub]
  | succ n ih =>
    intro hn M hM
    obtain ⟨M', hM'⟩ := mx_real X0 X1 c (4 * q + n)
    show accum (k0_pay12 (F := Ideal)) x2 (4 * q + n + 1) (al (up X0) (up X1) (4 * q + n + 1)) (ac (up X0) (up X1) x2 (4 * q + n + 1))
      (pr (up X0) (up X1) (4 * q + n + 1)) (ix2 d c) = _
    have hM1 : mx (up X0) (up X1) (4 * q + n + 1) (ix2 0 c) = (M : EReal) := hM
    rw [accum_apply, al_apply, hM1, mp_next _ _ _ (by omega), hM', exp2_sub, ih (by omega) M' hM',
      sum_mul_coe _ _ (Real.rpow_nonneg (by norm_num) _), Finset.sum_range_succ _ (n + 1)]
    congr 1
    · refine Finset.sum_congr rfl fun j _ => ?_
      rw [sum_mul_coe _ _ (Real.rpow_nonneg (by norm_num) _)]
      exact Finset.sum_congr rfl fun k _ => rescale _ _ _ _
    · refine Finset.sum_congr rfl fun k _ => ?_
      rw [pr_apply, sc_real, hM1, exp2_sub]
      rfl

/-- The score of key `k` under query `c` of block `q`. -/
def score (q : Fin 16) (c : Fin 1024) (k : Fin 16384) : ℝ :=
  ∑ d : Fin 96, X1 (ix4 0 0 k d) * X0 (ix5 0 0 ⟨2 * q.val + c.val / 512, by omega⟩ d ⟨c.val % 512, by omega⟩)

/-- Row `d` of the values under key `k`, the rows of ones below them. -/
def rows (d : Fin 80) (k : Fin 16384) : EReal :=
  if h : d.val < 64 then x2 (ix5 0 0 ⟨k.val / 512, by omega⟩ ⟨d.val, h⟩ ⟨k.val % 512, by omega⟩) else 1

theorem stepScore_eq (q : Fin 16) (c : Fin 1024) (j : Fin 4) (k : Fin 4096) (h : j.val * 4096 + k.val < 16384) :
    stepScore X0 X1 (4 * q.val + j.val) k c = score X0 X1 q c ⟨j.val * 4096 + k.val, h⟩ := by
  unfold stepScore score
  refine Finset.sum_congr rfl fun d _ => ?_
  have e1 : (⟨4096 * ((4 * q.val + j.val) % 4) + k.val, by omega⟩ : Fin 16384) = ⟨j.val * 4096 + k.val, h⟩ := Fin.ext (by
    show 4096 * ((4 * q.val + j.val) % 4) + k.val = j.val * 4096 + k.val; omega)
  have e2 : (⟨2 * ((4 * q.val + j.val) / 4 % 16) + c.val / 512, by omega⟩ : Fin 32) = ⟨2 * q.val + c.val / 512, by omega⟩ := Fin.ext (by
    show 2 * ((4 * q.val + j.val) / 4 % 16) + c.val / 512 = 2 * q.val + c.val / 512; omega)
  rw [e1, e2]

theorem vals_eq (q : Fin 16) (d : Fin 80) (j : Fin 4) (k : Fin 4096) (h : j.val * 4096 + k.val < 16384) :
    vals x2 (4 * q.val + j.val) d k = rows x2 d ⟨j.val * 4096 + k.val, h⟩ := by
  unfold vals rows
  split
  · have e1 : (⟨8 * ((4 * q.val + j.val) % 4) + k.val / 512, by omega⟩ : Fin 32) = ⟨(j.val * 4096 + k.val) / 512, by omega⟩ := Fin.ext (by
      show 8 * ((4 * q.val + j.val) % 4) + k.val / 512 = (j.val * 4096 + k.val) / 512; omega)
    have e2 : (⟨k.val % 512, by omega⟩ : Fin 512) = ⟨(j.val * 4096 + k.val) % 512, by omega⟩ := Fin.ext (by
      show k.val % 512 = (j.val * 4096 + k.val) % 512; omega)
    rw [e1, e2]
  · rfl

/-- After query block `q`'s four steps the accumulator sums over all the keys. -/
theorem ac_full (q : Fin 16) (d : Fin 80) (c : Fin 1024) (M : ℝ) (hM : mx (up X0) (up X1) (4 * q.val + 3) (ix2 0 c) = (M : EReal)) :
    ac (up X0) (up X1) x2 (4 * q.val + 4) (ix2 d c)
      = ∑ k : Fin 16384, rows x2 d k * (((2 : ℝ) ^ (score X0 X1 q c k - M) : ℝ) : EReal) := by
  rw [show 4 * q.val + 4 = 4 * q.val + 3 + 1 from rfl, ac_sum X0 X1 x2 q.val d c 3 (by omega) M hM, Finset.sum_range]
  refine Fin.sum_mul_add_congr (S := 4) (n := 4096) (f := fun k : Fin 16384 => rows x2 d k * (((2 : ℝ) ^ (score X0 X1 q c k - M) : ℝ) : EReal))
    (fun j k h => ?_) (by norm_num)
  rw [vals_eq x2 q d j k h, stepScore_eq X0 X1 q c j k h]

/-- The kernel's output: the values weighted by the softmax weights. -/
theorem ob_sum (q : Fin 16) (d : Fin 64) (c : Fin 1024) :
    ob (up X0) (up X1) x2 (ix5 0 0 q d c) = ∑ k : Fin 16384, x2 (ix5 0 0 ⟨k.val / 512, by omega⟩ d ⟨k.val % 512, by omega⟩)
      * (weight (score X0 X1 q c) k : EReal) := by
  obtain ⟨M, hM⟩ := mx_real X0 X1 c (4 * q.val + 3)
  have h1 : ∀ k, rows x2 64 k = 1 := fun k => dif_neg (by decide)
  have hd : ∀ k, rows x2 ⟨d.val, by omega⟩ k = x2 (ix5 0 0 ⟨k.val / 512, by omega⟩ d ⟨k.val % 512, by omega⟩) := fun k => dif_pos d.isLt
  rw [ob_apply, ac_full X0 X1 x2 q _ c M hM, ac_full X0 X1 x2 q _ c M hM]
  simp only [h1]
  rw [normalised]
  simp only [hd]

end Cert.KernelIdeal.Attn

end
-- ==== Proof.Reference.lean ====
/-
  What the reference computes, at an index.
-/
module

public import proofs.«01_k».proof.Proof.Softmax
public import proofs.«01_k».proof.Proof.Gen.ReferenceIdeal.Run
public import Idealize.ShloMosaic.Lib.Pointwise

@[expose] public section

set_option maxRecDepth 16384

noncomputable section

namespace Cert.ReferenceIdeal.Attn

open Idealize.ShloMosaic
open Cert.ReferenceIdeal Cert.ReferenceIdeal.Gen

variable (x0 : FVec Ideal S2x16x32x96x512 .bf16) (x1 : FVec Ideal S2x16x16384x96 .bf16) (x2 : FVec Ideal S2x16x32x64x512 .bf16)

/-- The scores: queries by keys, `log 2` taken in. -/
def scores : FVec Ideal S2x16x16384x16384 .f32 :=
  mulf (Host.dotGeneral dot_S2x16x16384x96_S2x16x16384x96_S2x16x16384x16384_3_3_2_2_01_01 none
      (shapeCast _ (transpose S2x16x32x512x96 [0, 1, 2, 4, 3] (extf .f32 x0 bitsLt_bf16_f32) transposes_S2x16x32x96x512_S2x16x32x512x96_0_1_2_4_3)
        shapeCasts_S2x16x32x512x96_S2x16x16384x96) (extf .f32 x1 bitsLt_bf16_f32))
    (broadcastInDim S2x16x16384x16384 ![] bcast_S_S2x16x16384x16384 (Host.log (constant S_ .f32 0x40000000#32)))

/-- Their maxima over the keys. -/
def tops : FVec Ideal S2x16x16384 .f32 :=
  maximumf (broadcastInDim S2x16x16384 ![] bcast_S_S2x16x16384 (constant S_ .f32 0xFF800000#32))
    (Host.reduce FloatOps.maximumf (scores x0 x1) (constant S_ .f32 0xFF800000#32) reducesTo_S2x16x16384x16384_S2x16x16384_d3 h_S_)

/-- A value per query laid along the keys. -/
def along (v : FVec Ideal S2x16x16384 .f32) : FVec Ideal S2x16x16384x16384 .f32 :=
  broadcastInDim S2x16x16384x16384 ![0, 1, 2, 3] bcast_S2x16x16384x1_S2x16x16384x16384_0_1_2_3
    (broadcastInDim S2x16x16384x1 ![0, 1, 2] bcast_S2x16x16384_S2x16x16384x1_0_1_2 v)

/-- The exponentials of the scores less their maxima. -/
def exps : FVec Ideal S2x16x16384x16384 .f32 := Host.exp (subf (scores x0 x1) (along (tops x0 x1)))

/-- The softmax over the keys. -/
def probs : FVec Ideal S2x16x16384x16384 .f32 :=
  Host.divf (exps x0 x1) (along (Host.reduceAdd (exps x0 x1) (constant S_ .f32 0x00000000#32) reducesTo_S2x16x16384x16384_S2x16x16384_d3 h_S_))

/-- The result. -/
def refOut : FVec Ideal S2x16x16x64x1024 .bf16 :=
  truncf .bf16 (transpose S2x16x16x64x1024 [0, 1, 2, 4, 3] (shapeCast _ (Host.dotGeneral dot_S2x16x16384x16384_S2x16x16384x64_S2x16x16384x64_3_2_2_3_01_01 none
    (probs x0 x1)
    (shapeCast _ (transpose S2x16x32x512x64 [0, 1, 2, 4, 3] (extf .f32 x2 bitsLt_bf16_f32) transposes_S2x16x32x64x512_S2x16x32x512x64_0_1_2_4_3)
        shapeCasts_S2x16x32x512x64_S2x16x16384x64)) shapeCasts_S2x16x16384x64_S2x16x16x1024x64) transposes_S2x16x16x1024x64_S2x16x16x64x1024_0_1_2_4_3) bitsLt_bf16_f32

theorem negInf : Ideal.ofBits .f32 0xFF800000#32 = ⊥ := by simp [Ideal.ofBits, Ideal.ieee]

theorem two : Ideal.ofBits .f32 0x40000000#32 = 2 := by
  simp [Ideal.ofBits, Ideal.ieee]
  rw [← EReal.coe_mul]
  exact congrArg _ (by norm_num : (8388608 : ℝ) * (2 ^ 22)⁻¹ = 2)

theorem scores_apply (b : Fin 2) (h : Fin 16) (q k : Fin 16384) :
    scores x0 x1 (ix4 b h q k) = (∑ d : Fin 96, x0 (ix5 b h ⟨q.val / 512, by omega⟩ d ⟨q.val % 512, by omega⟩) * x1 (ix4 b h k d)) * ((Real.log 2 : ℝ) : EReal) := by
  pointwise [scores]
  rw [two, show (2 : EReal) = ((2 : ℝ) : EReal) from rfl, Ideal.log_coe, if_neg (by norm_num)]

/-- The greatest of reals along the last axis, at least one, from `-∞`: a real. -/
theorem reduce_real {n0 n1 n2 n3 : ℕ} {t u : Shape} (x : FVec Ideal ⟨4, ![n0, n1, n2, n3 + 1]⟩ .f32) (init : FVec Ideal u .f32)
    (h : (⟨4, ![n0, n1, n2, n3 + 1]⟩ : Shape).ReducesTo [3] t) (hu : 0 < u.numel) (j : t.Idx) (hi : ∀ i, init i = (⊥ : EReal))
    (hx : ∀ i, ∃ r : ℝ, x i = (r : EReal)) : ∃ r : ℝ, Host.reduce FloatOps.maximumf x init h hu j = (r : EReal) := by
  choose X hX using hx
  obtain rfl : x = fun i => (X i : EReal) := funext hX
  rw [Host.reduce_eq_fold, hi]
  exact Cert.Softmax.fold_max_real _ ⟨ix4 _ _ _ 0, Finset.mem_filter.2 ⟨Finset.mem_univ _, (h.fiber_r4_a3 j _).2 ⟨0, rfl⟩⟩⟩ X

theorem tops_real (hs : ∀ i, ∃ r : ℝ, scores x0 x1 i = (r : EReal)) (j : S2x16x16384.Idx) :
    ∃ r : ℝ, tops x0 x1 j = (r : EReal) := by
  obtain ⟨r, hr⟩ := reduce_real (scores x0 x1) (constant S_ .f32 0xFF800000#32) reducesTo_S2x16x16384x16384_S2x16x16384_d3 h_S_ j
    (fun _ => negInf) hs
  refine ⟨r, ?_⟩
  unfold tops
  rw [maximumf_apply, hr]
  pointwise
  rw [negInf]
  exact max_eq_right bot_le

theorem exps_apply (b : Fin 2) (h : Fin 16) (q k : Fin 16384) :
    exps x0 x1 (ix4 b h q k) = Ideal.exp (scores x0 x1 (ix4 b h q k) - tops x0 x1 (ix3 b h q)) := by
  unfold exps
  generalize scores x0 x1 = s
  generalize tops x0 x1 = t
  pointwise [along]

theorem probs_apply (b : Fin 2) (h : Fin 16) (q k : Fin 16384) :
    probs x0 x1 (ix4 b h q k) = Ideal.div (exps x0 x1 (ix4 b h q k)) (∑ j : Fin 16384, exps x0 x1 (ix4 b h q j)) := by
  unfold probs
  generalize exps x0 x1 = s
  pointwise [along]

theorem refOut_apply (b : Fin 2) (h : Fin 16) (q : Fin 16) (d : Fin 64) (c : Fin 1024) :
    refOut x0 x1 x2 (ix5 b h q d c) = ∑ k : Fin 16384, probs x0 x1 (ix4 b h ⟨q.val * 1024 + c.val, by omega⟩ k)
      * x2 (ix5 b h ⟨k.val / 512, by omega⟩ d ⟨k.val % 512, by omega⟩) := by
  unfold refOut
  generalize probs x0 x1 = s
  pointwise

end Cert.ReferenceIdeal.Attn

end
-- ==== Proof.Same.lean ====
/-
  The kernel's output is the reference's, for queries and keys that hold reals; and the precondition says they do.
-/
module

public import proofs.«01_k».proof.Proof.Online
public import proofs.«01_k».proof.Proof.Launch
public import proofs.«01_k».proof.Proof.Reference
public import proofs.«01_k».proof.Proof.Gen.Pre_finite_qk
public import Idealize.ShloMosaic.Lib.ReduceAll

@[expose] public section

set_option maxRecDepth 16384

noncomputable section

namespace Cert.Same

open Idealize.ShloMosaic
open Cert.KernelIdeal (S2x16x32x96x512 S2x16x16384x96 S2x16x32x64x512 S2x16x16x64x1024)
open Cert.KernelIdeal.Attn (up score outp qOf kOf vOf ob_sum)
open Cert.ReferenceIdeal.Attn (scores tops exps probs refOut)
open Cert.Softmax

variable (X0 : S2x16x32x96x512.Idx → ℝ) (X1 : S2x16x16384x96.Idx → ℝ) (x2 : FVec Ideal S2x16x32x64x512 .bf16)

/-- The score of key `k` under query `q`, for one batch and head. -/
def dots (b : Fin 2) (h : Fin 16) (q k : Fin 16384) : ℝ :=
  ∑ d : Fin 96, X0 (ix5 b h ⟨q.val / 512, by omega⟩ d ⟨q.val % 512, by omega⟩) * X1 (ix4 b h k d)

theorem scores_real (b : Fin 2) (h : Fin 16) (q k : Fin 16384) :
    scores (up X0) (up X1) (ix4 b h q k) = ((dots X0 X1 b h q k * Real.log 2 : ℝ) : EReal) := by
  rw [Cert.ReferenceIdeal.Attn.scores_apply, EReal.coe_mul]
  unfold dots
  rw [← coe_sum]
  simp only [EReal.coe_mul]

theorem probs_real (b : Fin 2) (h : Fin 16) (q k : Fin 16384) :
    probs (up X0) (up X1) (ix4 b h q k) = (weight (dots X0 X1 b h q) k : EReal) := by
  obtain ⟨m, hm⟩ := Cert.ReferenceIdeal.Attn.tops_real (up X0) (up X1) (fun i => by
    idx_vars i
    exact ⟨_, scores_real X0 X1 _ _ _ _⟩) (ix3 b h q)
  rw [Cert.ReferenceIdeal.Attn.probs_apply]
  simp only [Cert.ReferenceIdeal.Attn.exps_apply, scores_real, hm]
  exact softmax _ m k

theorem score_eq (b : Fin 2) (h : Fin 16) (q : Fin 16) (c : Fin 1024) (hq : q.val * 1024 + c.val < 16384) :
    score (fun j => X0 (ix5 b h (j 2) (j 3) (j 4))) (fun j => X1 (ix4 b h (j 2) (j 3))) q c
      = dots X0 X1 b h ⟨q.val * 1024 + c.val, hq⟩ := by
  funext k
  unfold score dots
  refine Finset.sum_congr rfl fun d _ => ?_
  have e1 : (⟨2 * q.val + c.val / 512, by omega⟩ : Fin 32) = ⟨(q.val * 1024 + c.val) / 512, by omega⟩ := Fin.ext (by
    show 2 * q.val + c.val / 512 = (q.val * 1024 + c.val) / 512; omega)
  have e2 : (⟨c.val % 512, by omega⟩ : Fin 512) = ⟨(q.val * 1024 + c.val) % 512, by omega⟩ := Fin.ext (by
    show c.val % 512 = (q.val * 1024 + c.val) % 512; omega)
  rw [e1, e2]
  exact mul_comm _ _

theorem same_at (b : Fin 2) (h q : Fin 16) (d : Fin 64) (c : Fin 1024) :
    outp (F := Ideal) (up X0) (up X1) x2 (ix5 b h q d c) = refOut (up X0) (up X1) x2 (ix5 b h q d c) := by
  have hc := c.isLt
  have hq := q.isLt
  rw [Cert.ReferenceIdeal.Attn.refOut_apply]
  refine (ob_sum (fun j => X0 (ix5 b h (j 2) (j 3) (j 4))) (fun j => X1 (ix4 b h (j 2) (j 3))) (vOf x2 b h) q d c).trans ?_
  rw [score_eq X0 X1 b h q c (by omega)]
  refine Finset.sum_congr rfl fun k _ => ?_
  rw [probs_real]
  exact mul_comm _ _

/-- The two programs' results are equal when queries and keys hold reals. -/
theorem same (x0 : FVec Ideal S2x16x32x96x512 .bf16) (x1 : FVec Ideal S2x16x16384x96 .bf16) (h0 : ∀ i, ∃ r : ℝ, x0 i = (r : EReal))
    (h1 : ∀ i, ∃ r : ℝ, x1 i = (r : EReal)) : outp (F := Ideal) x0 x1 x2 = refOut x0 x1 x2 := by
  choose X0 h0 using h0
  choose X1 h1 using h1
  obtain rfl : x0 = up X0 := funext h0
  obtain rfl : x1 = up X1 := funext h1
  funext y
  idx_vars y
  exact same_at X0 X1 x2 _ _ _ _ _

/-- A value whose absolute value lies below `+∞` is a real. -/
theorem real_of_abs_lt (x : EReal) (h : Ideal.cmp .olt (max x (-x)) (Ideal.ofBits .f32 0x7F800000#32) = 1#1) : ∃ r : ℝ, x = (r : EReal) := by
  have top : Ideal.ofBits .f32 0x7F800000#32 = ⊤ := by simp [Ideal.ofBits, Ideal.ieee]
  rw [top] at h
  have hlt : max x (-x) < ⊤ := by
    by_contra hn
    simp [Ideal.cmp, hn] at h
  refine ⟨x.toReal, (EReal.coe_toReal ?_ ?_).symm⟩
  · rintro rfl
    simp at hlt
  · rintro rfl
    simp at hlt

theorem reals (x0 : FVec Ideal S2x16x32x96x512 .bf16) (x1 : FVec Ideal S2x16x16384x96 .bf16)
    (e : Cert.Pre_finite_qk.fn (F := Ideal) x0 x1 x2 = fun _ => 1#1) :
    (∀ i, ∃ r : ℝ, x0 i = (r : EReal)) ∧ ∀ i, ∃ r : ℝ, x1 i = (r : EReal) := by
  unfold Cert.Pre_finite_qk.fn at e
  obtain ⟨e0, e1⟩ := IntOp.andi_eq_one.1 (congrFun e ix0)
  have : Subsingleton Cert.Pre_finite_qk.S_.Idx := ⟨fun a b => funext fun k => k.elim0⟩
  constructor
  · intro i
    have h := Host.reduce_andi_all _ _ _ _ _ e0 i
    exact real_of_abs_lt _ h
  · intro i
    have h := Host.reduce_andi_all _ _ _ _ _ e1 i
    exact real_of_abs_lt _ h

end Cert.Same

end
-- ==== Proof.FrontFrame.lean ====
/-
Frame of the call `odd_front`, for `Kernel4Ideal`: what the body leaves in each output window, written out as the list of
its stores; the body's triple; the run of the whole grid; and the frame claim. The query window is written by three
stores a head, of two sizes.
-/
module

public import proofs.«01_k».proof.Proof.Gen.Kernel4Ideal.Frame.Runs
public import Idealize.ShloMosaic.Lib.Claim

@[expose] public section

set_option maxRecDepth 16384

noncomputable section

namespace Cert.Kernel4Ideal.Front

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the body leaves in each output window -/

/-- The tile of `x` plus the gated product of the attention outputs with the output weights. -/
def blockSum (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) : FVec F S512x1024 .f32 :=
  k0_pay1 (View.ld x3 (Rect.unit (s := S1x512x1024) ![0, 0, 0] S1x512x1024.size inb_S1x512x1024_S1x512x1024_0_0_0)) (View.ld x1 (Rect.unit (s := S1x512x512) ![0, 0, 0] S1x512x512.size inb_S1x512x512_S1x512x512_0_0_0)) (View.ld x2 (Rect.unit (s := S1x512x512) ![0, 0, 0] S1x512x512.size inb_S1x512x512_S1x512x512_0_0_0)) (View.ld x0 (Rect.unit (s := S1x512x1024) ![0, 0, 0] S1x512x1024.size inb_S1x512x1024_S1x512x1024_0_0_0)) (View.ld x4 (Rect.unit (s := S1x1x1024) ![0, 0, 0] S1x1x1024.size inb_S1x1x1024_S1x1x1024_0_0_0)) (View.ld x5 (Rect.unit (s := S1024x1024) ![0, 0] S1024x1024.size inb_S1024x1024_S1024x1024_0_0))

/-- The modulated norm of that tile. -/
def hidden (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) : FVec F S512x1024 .bf16 :=
  k0_pay3 (blockSum x0 x1 x2 x3 x4 x5) (View.ld x6 (Rect.unit (s := S1x1024) ![0, 0] S1x1024.size inb_S1x1024_S1x1024_0_0)) (View.ld x7 (Rect.unit (s := S1x1x1024) ![0, 0, 0] S1x1x1024.size inb_S1x1x1024_S1x1x1024_0_0_0)) (View.ld x8 (Rect.unit (s := S1x1x1024) ![0, 0, 0] S1x1x1024.size inb_S1x1x1024_S1x1x1024_0_0_0))

/-- The transposed projections of the normed tile: gate, query latent and key-value latent rows. -/
def projT (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) : FVec F S1408x512 .f32 :=
  k0_pay4 (blockSum x0 x1 x2 x3 x4 x5) (View.ld x6 (Rect.unit (s := S1x1024) ![0, 0] S1x1024.size inb_S1x1024_S1x1024_0_0)) (View.ld x7 (Rect.unit (s := S1x1x1024) ![0, 0, 0] S1x1x1024.size inb_S1x1x1024_S1x1x1024_0_0_0)) (View.ld x8 (Rect.unit (s := S1x1x1024) ![0, 0, 0] S1x1x1024.size inb_S1x1x1024_S1x1x1024_0_0_0)) (View.ld x9 (Rect.unit (s := S1408x1024) ![0, 0] S1408x1024.size inb_S1408x1024_S1408x1024_0_0))

/-- The query rows of all heads, before the rotation. -/
def queryT (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) (x11 : Vec F S256x128 .f32) (x14 : Vec F S1536x256 .bf16) : FVec F S1536x512 .f32 :=
  k0_pay6 (projT x0 x1 x2 x3 x4 x5 x6 x7 x8 x9) (View.ld x11 (Rect.unit (s := S256x128) ![0, 0] S256x128.size inb_S256x128_S256x128_0_0)) (View.ld x14 (Rect.unit (s := S1536x256) ![0, 0] S1536x256.size inb_S1536x256_S1536x256_0_0))

/-- The cosine table's block. -/
def cosBlk (x17 : Vec F S16x512 .f32) : FVec F S16x512 .f32 :=
  k0_pay7 (View.ld x17 (Rect.unit (s := S16x512) ![0, 0] S16x512.size inb_S16x512_S16x512_0_0))

/-- The sine table's block. -/
def sinBlk (x18 : Vec F S16x512 .f32) : FVec F S16x512 .f32 :=
  k0_pay8 (View.ld x18 (Rect.unit (s := S16x512) ![0, 0] S16x512.size inb_S16x512_S16x512_0_0))

/-- The unrotated key columns of all heads. -/
def keyNope (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x10 : Vec F S1024x384 .bf16) (x13 : Vec F S1x128 .f32) (x15 : Vec F S128x2048 .bf16) : FVec F S512x2048 .f32 :=
  k0_pay102 (hidden x0 x1 x2 x3 x4 x5 x6 x7 x8) (View.ld x10 (Rect.unit (s := S1024x384) ![0, 0] S1024x384.size inb_S1024x384_S1024x384_0_0)) (View.ld x13 (Rect.unit (s := S1x128) ![0, 0] S1x128.size inb_S1x128_S1x128_0_0)) (View.ld x15 (Rect.unit (s := S128x2048) ![0, 0] S128x2048.size inb_S128x2048_S128x2048_0_0))

/-- The rotated key columns, shared by the heads. -/
def keyRope (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x10 : Vec F S1024x384 .bf16) (x19 : Vec F S512x128 .f32) (x20 : Vec F S512x128 .f32) : FVec F S512x128 .f32 :=
  k0_pay103 (hidden x0 x1 x2 x3 x4 x5 x6 x7 x8) (View.ld x10 (Rect.unit (s := S1024x384) ![0, 0] S1024x384.size inb_S1024x384_S1024x384_0_0)) (View.ld x19 (Rect.unit (s := S512x128) ![0, 0] S512x128.size inb_S512x128_S512x128_0_0)) (View.ld x20 (Rect.unit (s := S512x128) ![0, 0] S512x128.size inb_S512x128_S512x128_0_0))

/-- What the body leaves in the window of the sum: its one store. -/
def outSumPieces (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) : List (View.Piece (Elt F) S1x512x1024 .f32) :=
  [⟨Rect.unit (s := S1x512x1024) ![0, 0, 0] S1x512x1024.size inb_S1x512x1024_S1x512x1024_0_0_0, k0_pay2 (View.ld x3 (Rect.unit (s := S1x512x1024) ![0, 0, 0] S1x512x1024.size inb_S1x512x1024_S1x512x1024_0_0_0)) (View.ld x1 (Rect.unit (s := S1x512x512) ![0, 0, 0] S1x512x512.size inb_S1x512x512_S1x512x512_0_0_0)) (View.ld x2 (Rect.unit (s := S1x512x512) ![0, 0, 0] S1x512x512.size inb_S1x512x512_S1x512x512_0_0_0)) (View.ld x0 (Rect.unit (s := S1x512x1024) ![0, 0, 0] S1x512x1024.size inb_S1x512x1024_S1x512x1024_0_0_0)) (View.ld x4 (Rect.unit (s := S1x1x1024) ![0, 0, 0] S1x1x1024.size inb_S1x1x1024_S1x1x1024_0_0_0)) (View.ld x5 (Rect.unit (s := S1024x1024) ![0, 0] S1024x1024.size inb_S1024x1024_S1024x1024_0_0))⟩]

/-- Those stores cover the window. -/
theorem outSum_cover (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (y : S1x512x1024.Idx) :
    ∃ pc ∈ outSumPieces x0 x1 x2 x3 x4 x5, y ∈ pc.1.set :=
  View.cover_of_tiledL (outSumPieces x0 x1 x2 x3 x4 x5) S1x512x1024.size (by sl_kernel_rfl) y

/-- The window's contents after the body. -/
def outSum (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) : Vec F S1x512x1024 .f32 :=
  View.canon (outSumPieces x0 x1 x2 x3 x4 x5)

/-- What the body leaves in the window of the keys: its stores, one head each, the last first. -/
def outKeyPieces (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x10 : Vec F S1024x384 .bf16) (x13 : Vec F S1x128 .f32) (x15 : Vec F S128x2048 .bf16) (x19 : Vec F S512x128 .f32) (x20 : Vec F S512x128 .f32) : List (View.Piece (Elt F) S1x16x512x96 .bf16) :=
  [⟨Rect.unit (s := S1x16x512x96) ![0, 15, 0, 0] S1x1x512x96.size inb_S1x16x512x96_S1x1x512x96_0_15_0_0, k0_pay119 (keyNope x0 x1 x2 x3 x4 x5 x6 x7 x8 x10 x13 x15) (keyRope x0 x1 x2 x3 x4 x5 x6 x7 x8 x10 x19 x20)⟩,
    ⟨Rect.unit (s := S1x16x512x96) ![0, 14, 0, 0] S1x1x512x96.size inb_S1x16x512x96_S1x1x512x96_0_14_0_0, k0_pay118 (keyNope x0 x1 x2 x3 x4 x5 x6 x7 x8 x10 x13 x15) (keyRope x0 x1 x2 x3 x4 x5 x6 x7 x8 x10 x19 x20)⟩,
    ⟨Rect.unit (s := S1x16x512x96) ![0, 13, 0, 0] S1x1x512x96.size inb_S1x16x512x96_S1x1x512x96_0_13_0_0, k0_pay117 (keyNope x0 x1 x2 x3 x4 x5 x6 x7 x8 x10 x13 x15) (keyRope x0 x1 x2 x3 x4 x5 x6 x7 x8 x10 x19 x20)⟩,
    ⟨Rect.unit (s := S1x16x512x96) ![0, 12, 0, 0] S1x1x512x96.size inb_S1x16x512x96_S1x1x512x96_0_12_0_0, k0_pay116 (keyNope x0 x1 x2 x3 x4 x5 x6 x7 x8 x10 x13 x15) (keyRope x0 x1 x2 x3 x4 x5 x6 x7 x8 x10 x19 x20)⟩,
    ⟨Rect.unit (s := S1x16x512x96) ![0, 11, 0, 0] S1x1x512x96.size inb_S1x16x512x96_S1x1x512x96_0_11_0_0, k0_pay115 (keyNope x0 x1 x2 x3 x4 x5 x6 x7 x8 x10 x13 x15) (keyRope x0 x1 x2 x3 x4 x5 x6 x7 x8 x10 x19 x20)⟩,
    ⟨Rect.unit (s := S1x16x512x96) ![0, 10, 0, 0] S1x1x512x96.size inb_S1x16x512x96_S1x1x512x96_0_10_0_0, k0_pay114 (keyNope x0 x1 x2 x3 x4 x5 x6 x7 x8 x10 x13 x15) (keyRope x0 x1 x2 x3 x4 x5 x6 x7 x8 x10 x19 x20)⟩,
    ⟨Rect.unit (s := S1x16x512x96) ![0, 9, 0, 0] S1x1x512x96.size inb_S1x16x512x96_S1x1x512x96_0_9_0_0, k0_pay113 (keyNope x0 x1 x2 x3 x4 x5 x6 x7 x8 x10 x13 x15) (keyRope x0 x1 x2 x3 x4 x5 x6 x7 x8 x10 x19 x20)⟩,
    ⟨Rect.unit (s := S1x16x512x96) ![0, 8, 0, 0] S1x1x512x96.size inb_S1x16x512x96_S1x1x512x96_0_8_0_0, k0_pay112 (keyNope x0 x1 x2 x3 x4 x5 x6 x7 x8 x10 x13 x15) (keyRope x0 x1 x2 x3 x4 x5 x6 x7 x8 x10 x19 x20)⟩,
    ⟨Rect.unit (s := S1x16x512x96) ![0, 7, 0, 0] S1x1x512x96.size inb_S1x16x512x96_S1x1x512x96_0_7_0_0, k0_pay111 (keyNope x0 x1 x2 x3 x4 x5 x6 x7 x8 x10 x13 x15) (keyRope x0 x1 x2 x3 x4 x5 x6 x7 x8 x10 x19 x20)⟩,
    ⟨Rect.unit (s := S1x16x512x96) ![0, 6, 0, 0] S1x1x512x96.size inb_S1x16x512x96_S1x1x512x96_0_6_0_0, k0_pay110 (keyNope x0 x1 x2 x3 x4 x5 x6 x7 x8 x10 x13 x15) (keyRope x0 x1 x2 x3 x4 x5 x6 x7 x8 x10 x19 x20)⟩,
    ⟨Rect.unit (s := S1x16x512x96) ![0, 5, 0, 0] S1x1x512x96.size inb_S1x16x512x96_S1x1x512x96_0_5_0_0, k0_pay109 (keyNope x0 x1 x2 x3 x4 x5 x6 x7 x8 x10 x13 x15) (keyRope x0 x1 x2 x3 x4 x5 x6 x7 x8 x10 x19 x20)⟩,
    ⟨Rect.unit (s := S1x16x512x96) ![0, 4, 0, 0] S1x1x512x96.size inb_S1x16x512x96_S1x1x512x96_0_4_0_0, k0_pay108 (keyNope x0 x1 x2 x3 x4 x5 x6 x7 x8 x10 x13 x15) (keyRope x0 x1 x2 x3 x4 x5 x6 x7 x8 x10 x19 x20)⟩,
    ⟨Rect.unit (s := S1x16x512x96) ![0, 3, 0, 0] S1x1x512x96.size inb_S1x16x512x96_S1x1x512x96_0_3_0_0, k0_pay107 (keyNope x0 x1 x2 x3 x4 x5 x6 x7 x8 x10 x13 x15) (keyRope x0 x1 x2 x3 x4 x5 x6 x7 x8 x10 x19 x20)⟩,
    ⟨Rect.unit (s := S1x16x512x96) ![0, 2, 0, 0] S1x1x512x96.size inb_S1x16x512x96_S1x1x512x96_0_2_0_0, k0_pay106 (keyNope x0 x1 x2 x3 x4 x5 x6 x7 x8 x10 x13 x15) (keyRope x0 x1 x2 x3 x4 x5 x6 x7 x8 x10 x19 x20)⟩,
    ⟨Rect.unit (s := S1x16x512x96) ![0, 1, 0, 0] S1x1x512x96.size inb_S1x16x512x96_S1x1x512x96_0_1_0_0, k0_pay105 (keyNope x0 x1 x2 x3 x4 x5 x6 x7 x8 x10 x13 x15) (keyRope x0 x1 x2 x3 x4 x5 x6 x7 x8 x10 x19 x20)⟩,
    ⟨Rect.unit (s := S1x16x512x96) ![0, 0, 0, 0] S1x1x512x96.size inb_S1x16x512x96_S1x1x512x96_0_0_0_0, k0_pay104 (hidden x0 x1 x2 x3 x4 x5 x6 x7 x8) (View.ld x10 (Rect.unit (s := S1024x384) ![0, 0] S1024x384.size inb_S1024x384_S1024x384_0_0)) (View.ld x13 (Rect.unit (s := S1x128) ![0, 0] S1x128.size inb_S1x128_S1x128_0_0)) (View.ld x15 (Rect.unit (s := S128x2048) ![0, 0] S128x2048.size inb_S128x2048_S128x2048_0_0)) (View.ld x19 (Rect.unit (s := S512x128) ![0, 0] S512x128.size inb_S512x128_S512x128_0_0)) (View.ld x20 (Rect.unit (s := S512x128) ![0, 0] S512x128.size inb_S512x128_S512x128_0_0))⟩]

/-- Those stores cover the window. -/
theorem outKey_cover (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x10 : Vec F S1024x384 .bf16) (x13 : Vec F S1x128 .f32) (x15 : Vec F S128x2048 .bf16) (x19 : Vec F S512x128 .f32) (x20 : Vec F S512x128 .f32) (y : S1x16x512x96.Idx) :
    ∃ pc ∈ outKeyPieces x0 x1 x2 x3 x4 x5 x6 x7 x8 x10 x13 x15 x19 x20, y ∈ pc.1.set :=
  View.cover_of_tiledL (outKeyPieces x0 x1 x2 x3 x4 x5 x6 x7 x8 x10 x13 x15 x19 x20) S1x1x512x96.size (by sl_kernel_rfl) y

/-- The window's contents after the body. -/
def outKey (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x10 : Vec F S1024x384 .bf16) (x13 : Vec F S1x128 .f32) (x15 : Vec F S128x2048 .bf16) (x19 : Vec F S512x128 .f32) (x20 : Vec F S512x128 .f32) : Vec F S1x16x512x96 .bf16 :=
  View.canon (outKeyPieces x0 x1 x2 x3 x4 x5 x6 x7 x8 x10 x13 x15 x19 x20)

/-- What the body leaves in the window of the transposed queries: three stores a head, the last first. -/
def outQueryPieces (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) (x11 : Vec F S256x128 .f32) (x14 : Vec F S1536x256 .bf16) (x17 : Vec F S16x512 .f32) (x18 : Vec F S16x512 .f32) : List (View.Piece (Elt F) S1x16x1x96x512 .bf16) :=
  [⟨Rect.unit (s := S1x16x1x96x512) ![0, 15, 0, 80, 0] S1x1x1x16x512.size inb_S1x16x1x96x512_S1x1x1x16x512_0_15_0_80_0, k0_pay98 (cosBlk x17) (sinBlk x18) (k0_pay94 (queryT x0 x1 x2 x3 x4 x5 x6 x7 x8 x9 x11 x14)) (k0_pay95 (queryT x0 x1 x2 x3 x4 x5 x6 x7 x8 x9 x11 x14))⟩,
    ⟨Rect.unit (s := S1x16x1x96x512) ![0, 15, 0, 64, 0] S1x1x1x16x512.size inb_S1x16x1x96x512_S1x1x1x16x512_0_15_0_64_0, k0_pay97 (k0_pay96 (queryT x0 x1 x2 x3 x4 x5 x6 x7 x8 x9 x11 x14) (cosBlk x17) (sinBlk x18))⟩,
    ⟨Rect.unit (s := S1x16x1x96x512) ![0, 15, 0, 0, 0] S1x1x1x64x512.size inb_S1x16x1x96x512_S1x1x1x64x512_0_15_0_0_0, k0_pay93 (queryT x0 x1 x2 x3 x4 x5 x6 x7 x8 x9 x11 x14)⟩,
    ⟨Rect.unit (s := S1x16x1x96x512) ![0, 14, 0, 80, 0] S1x1x1x16x512.size inb_S1x16x1x96x512_S1x1x1x16x512_0_14_0_80_0, k0_pay92 (queryT x0 x1 x2 x3 x4 x5 x6 x7 x8 x9 x11 x14) (cosBlk x17) (sinBlk x18)⟩,
    ⟨Rect.unit (s := S1x16x1x96x512) ![0, 14, 0, 64, 0] S1x1x1x16x512.size inb_S1x16x1x96x512_S1x1x1x16x512_0_14_0_64_0, k0_pay91 (queryT x0 x1 x2 x3 x4 x5 x6 x7 x8 x9 x11 x14) (cosBlk x17) (sinBlk x18)⟩,
    ⟨Rect.unit (s := S1x16x1x96x512) ![0, 14, 0, 0, 0] S1x1x1x64x512.size inb_S1x16x1x96x512_S1x1x1x64x512_0_14_0_0_0, k0_pay88 (k0_pay87 (queryT x0 x1 x2 x3 x4 x5 x6 x7 x8 x9 x11 x14))⟩,
    ⟨Rect.unit (s := S1x16x1x96x512) ![0, 13, 0, 80, 0] S1x1x1x16x512.size inb_S1x16x1x96x512_S1x1x1x16x512_0_13_0_80_0, k0_pay86 (queryT x0 x1 x2 x3 x4 x5 x6 x7 x8 x9 x11 x14) (cosBlk x17) (sinBlk x18)⟩,
    ⟨Rect.unit (s := S1x16x1x96x512) ![0, 13, 0, 64, 0] S1x1x1x16x512.size inb_S1x16x1x96x512_S1x1x1x16x512_0_13_0_64_0, k0_pay85 (queryT x0 x1 x2 x3 x4 x5 x6 x7 x8 x9 x11 x14) (cosBlk x17) (sinBlk x18)⟩,
    ⟨Rect.unit (s := S1x16x1x96x512) ![0, 13, 0, 0, 0] S1x1x1x64x512.size inb_S1x16x1x96x512_S1x1x1x64x512_0_13_0_0_0, k0_pay82 (queryT x0 x1 x2 x3 x4 x5 x6 x7 x8 x9 x11 x14)⟩,
    ⟨Rect.unit (s := S1x16x1x96x512) ![0, 12, 0, 80, 0] S1x1x1x16x512.size inb_S1x16x1x96x512_S1x1x1x16x512_0_12_0_80_0, k0_pay81 (queryT x0 x1 x2 x3 x4 x5 x6 x7 x8 x9 x11 x14) (cosBlk x17) (sinBlk x18)⟩,
    ⟨Rect.unit (s := S1x16x1x96x512) ![0, 12, 0, 64, 0] S1x1x1x16x512.size inb_S1x16x1x96x512_S1x1x1x16x512_0_12_0_64_0, k0_pay80 (queryT x0 x1 x2 x3 x4 x5 x6 x7 x8 x9 x11 x14) (cosBlk x17) (sinBlk x18)⟩,
    ⟨Rect.unit (s := S1x16x1x96x512) ![0, 12, 0, 0, 0] S1x1x1x64x512.size inb_S1x16x1x96x512_S1x1x1x64x512_0_12_0_0_0, k0_pay77 (queryT x0 x1 x2 x3 x4 x5 x6 x7 x8 x9 x11 x14)⟩,
    ⟨Rect.unit (s := S1x16x1x96x512) ![0, 11, 0, 80, 0] S1x1x1x16x512.size inb_S1x16x1x96x512_S1x1x1x16x512_0_11_0_80_0, k0_pay76 (k0_pay75 (queryT x0 x1 x2 x3 x4 x5 x6 x7 x8 x9 x11 x14) (cosBlk x17) (sinBlk x18)) (Scalar.ofBits .f32 0x3E16C740#32 : F .f32)⟩,
    ⟨Rect.unit (s := S1x16x1x96x512) ![0, 11, 0, 64, 0] S1x1x1x16x512.size inb_S1x16x1x96x512_S1x1x1x16x512_0_11_0_64_0, k0_pay74 (queryT x0 x1 x2 x3 x4 x5 x6 x7 x8 x9 x11 x14) (cosBlk x17) (sinBlk x18)⟩,
    ⟨Rect.unit (s := S1x16x1x96x512) ![0, 11, 0, 0, 0] S1x1x1x64x512.size inb_S1x16x1x96x512_S1x1x1x64x512_0_11_0_0_0, k0_pay71 (queryT x0 x1 x2 x3 x4 x5 x6 x7 x8 x9 x11 x14)⟩,
    ⟨Rect.unit (s := S1x16x1x96x512) ![0, 10, 0, 80, 0] S1x1x1x16x512.size inb_S1x16x1x96x512_S1x1x1x16x512_0_10_0_80_0, k0_pay70 (cosBlk x17) (sinBlk x18) (k0_pay66 (queryT x0 x1 x2 x3 x4 x5 x6 x7 x8 x9 x11 x14)) (k0_pay67 (queryT x0 x1 x2 x3 x4 x5 x6 x7 x8 x9 x11 x14))⟩,
    ⟨Rect.unit (s := S1x16x1x96x512) ![0, 10, 0, 64, 0] S1x1x1x16x512.size inb_S1x16x1x96x512_S1x1x1x16x512_0_10_0_64_0, k0_pay69 (k0_pay68 (queryT x0 x1 x2 x3 x4 x5 x6 x7 x8 x9 x11 x14) (cosBlk x17) (sinBlk x18))⟩,
    ⟨Rect.unit (s := S1x16x1x96x512) ![0, 10, 0, 0, 0] S1x1x1x64x512.size inb_S1x16x1x96x512_S1x1x1x64x512_0_10_0_0_0, k0_pay65 (queryT x0 x1 x2 x3 x4 x5 x6 x7 x8 x9 x11 x14)⟩,
    ⟨Rect.unit (s := S1x16x1x96x512) ![0, 9, 0, 80, 0] S1x1x1x16x512.size inb_S1x16x1x96x512_S1x1x1x16x512_0_9_0_80_0, k0_pay64 (queryT x0 x1 x2 x3 x4 x5 x6 x7 x8 x9 x11 x14) (cosBlk x17) (sinBlk x18)⟩,
    ⟨Rect.unit (s := S1x16x1x96x512) ![0, 9, 0, 64, 0] S1x1x1x16x512.size inb_S1x16x1x96x512_S1x1x1x16x512_0_9_0_64_0, k0_pay63 (queryT x0 x1 x2 x3 x4 x5 x6 x7 x8 x9 x11 x14) (cosBlk x17) (sinBlk x18)⟩,
    ⟨Rect.unit (s := S1x16x1x96x512) ![0, 9, 0, 0, 0] S1x1x1x64x512.size inb_S1x16x1x96x512_S1x1x1x64x512_0_9_0_0_0, k0_pay60 (k0_pay59 (queryT x0 x1 x2 x3 x4 x5 x6 x7 x8 x9 x11 x14))⟩,
    ⟨Rect.unit (s := S1x16x1x96x512) ![0, 8, 0, 80, 0] S1x1x1x16x512.size inb_S1x16x1x96x512_S1x1x1x16x512_0_8_0_80_0, k0_pay58 (queryT x0 x1 x2 x3 x4 x5 x6 x7 x8 x9 x11 x14) (cosBlk x17) (sinBlk x18)⟩,
    ⟨Rect.unit (s := S1x16x1x96x512) ![0, 8, 0, 64, 0] S1x1x1x16x512.size inb_S1x16x1x96x512_S1x1x1x16x512_0_8_0_64_0, k0_pay57 (queryT x0 x1 x2 x3 x4 x5 x6 x7 x8 x9 x11 x14) (cosBlk x17) (sinBlk x18)⟩,
    ⟨Rect.unit (s := S1x16x1x96x512) ![0, 8, 0, 0, 0] S1x1x1x64x512.size inb_S1x16x1x96x512_S1x1x1x64x512_0_8_0_0_0, k0_pay54 (queryT x0 x1 x2 x3 x4 x5 x6 x7 x8 x9 x11 x14)⟩,
    ⟨Rect.unit (s := S1x16x1x96x512) ![0, 7, 0, 80, 0] S1x1x1x16x512.size inb_S1x16x1x96x512_S1x1x1x16x512_0_7_0_80_0, k0_pay53 (queryT x0 x1 x2 x3 x4 x5 x6 x7 x8 x9 x11 x14) (cosBlk x17) (sinBlk x18)⟩,
    ⟨Rect.unit (s := S1x16x1x96x512) ![0, 7, 0, 64, 0] S1x1x1x16x512.size inb_S1x16x1x96x512_S1x1x1x16x512_0_7_0_64_0, k0_pay52 (queryT x0 x1 x2 x3 x4 x5 x6 x7 x8 x9 x11 x14) (cosBlk x17) (sinBlk x18)⟩,
    ⟨Rect.unit (s := S1x16x1x96x512) ![0, 7, 0, 0, 0] S1x1x1x64x512.size inb_S1x16x1x96x512_S1x1x1x64x512_0_7_0_0_0, k0_pay49 (queryT x0 x1 x2 x3 x4 x5 x6 x7 x8 x9 x11 x14)⟩,
    ⟨Rect.unit (s := S1x16x1x96x512) ![0, 6, 0, 80, 0] S1x1x1x16x512.size inb_S1x16x1x96x512_S1x1x1x16x512_0_6_0_80_0, k0_pay48 (k0_pay47 (queryT x0 x1 x2 x3 x4 x5 x6 x7 x8 x9 x11 x14) (cosBlk x17) (sinBlk x18)) (Scalar.ofBits .f32 0x3E16C740#32 : F .f32)⟩,
    ⟨Rect.unit (s := S1x16x1x96x512) ![0, 6, 0, 64, 0] S1x1x1x16x512.size inb_S1x16x1x96x512_S1x1x1x16x512_0_6_0_64_0, k0_pay46 (queryT x0 x1 x2 x3 x4 x5 x6 x7 x8 x9 x11 x14) (cosBlk x17) (sinBlk x18)⟩,
    ⟨Rect.unit (s := S1x16x1x96x512) ![0, 6, 0, 0, 0] S1x1x1x64x512.size inb_S1x16x1x96x512_S1x1x1x64x512_0_6_0_0_0, k0_pay43 (queryT x0 x1 x2 x3 x4 x5 x6 x7 x8 x9 x11 x14)⟩,
    ⟨Rect.unit (s := S1x16x1x96x512) ![0, 5, 0, 80, 0] S1x1x1x16x512.size inb_S1x16x1x96x512_S1x1x1x16x512_0_5_0_80_0, k0_pay42 (cosBlk x17) (sinBlk x18) (k0_pay38 (queryT x0 x1 x2 x3 x4 x5 x6 x7 x8 x9 x11 x14)) (k0_pay39 (queryT x0 x1 x2 x3 x4 x5 x6 x7 x8 x9 x11 x14))⟩,
    ⟨Rect.unit (s := S1x16x1x96x512) ![0, 5, 0, 64, 0] S1x1x1x16x512.size inb_S1x16x1x96x512_S1x1x1x16x512_0_5_0_64_0, k0_pay41 (k0_pay40 (queryT x0 x1 x2 x3 x4 x5 x6 x7 x8 x9 x11 x14) (cosBlk x17) (sinBlk x18))⟩,
    ⟨Rect.unit (s := S1x16x1x96x512) ![0, 5, 0, 0, 0] S1x1x1x64x512.size inb_S1x16x1x96x512_S1x1x1x64x512_0_5_0_0_0, k0_pay37 (queryT x0 x1 x2 x3 x4 x5 x6 x7 x8 x9 x11 x14)⟩,
    ⟨Rect.unit (s := S1x16x1x96x512) ![0, 4, 0, 80, 0] S1x1x1x16x512.size inb_S1x16x1x96x512_S1x1x1x16x512_0_4_0_80_0, k0_pay36 (queryT x0 x1 x2 x3 x4 x5 x6 x7 x8 x9 x11 x14) (cosBlk x17) (sinBlk x18)⟩,
    ⟨Rect.unit (s := S1x16x1x96x512) ![0, 4, 0, 64, 0] S1x1x1x16x512.size inb_S1x16x1x96x512_S1x1x1x16x512_0_4_0_64_0, k0_pay35 (queryT x0 x1 x2 x3 x4 x5 x6 x7 x8 x9 x11 x14) (cosBlk x17) (sinBlk x18)⟩,
    ⟨Rect.unit (s := S1x16x1x96x512) ![0, 4, 0, 0, 0] S1x1x1x64x512.size inb_S1x16x1x96x512_S1x1x1x64x512_0_4_0_0_0, k0_pay32 (k0_pay31 (queryT x0 x1 x2 x3 x4 x5 x6 x7 x8 x9 x11 x14))⟩,
    ⟨Rect.unit (s := S1x16x1x96x512) ![0, 3, 0, 80, 0] S1x1x1x16x512.size inb_S1x16x1x96x512_S1x1x1x16x512_0_3_0_80_0, k0_pay30 (queryT x0 x1 x2 x3 x4 x5 x6 x7 x8 x9 x11 x14) (cosBlk x17) (sinBlk x18)⟩,
    ⟨Rect.unit (s := S1x16x1x96x512) ![0, 3, 0, 64, 0] S1x1x1x16x512.size inb_S1x16x1x96x512_S1x1x1x16x512_0_3_0_64_0, k0_pay29 (queryT x0 x1 x2 x3 x4 x5 x6 x7 x8 x9 x11 x14) (cosBlk x17) (sinBlk x18)⟩,
    ⟨Rect.unit (s := S1x16x1x96x512) ![0, 3, 0, 0, 0] S1x1x1x64x512.size inb_S1x16x1x96x512_S1x1x1x64x512_0_3_0_0_0, k0_pay26 (queryT x0 x1 x2 x3 x4 x5 x6 x7 x8 x9 x11 x14)⟩,
    ⟨Rect.unit (s := S1x16x1x96x512) ![0, 2, 0, 80, 0] S1x1x1x16x512.size inb_S1x16x1x96x512_S1x1x1x16x512_0_2_0_80_0, k0_pay25 (queryT x0 x1 x2 x3 x4 x5 x6 x7 x8 x9 x11 x14) (cosBlk x17) (sinBlk x18)⟩,
    ⟨Rect.unit (s := S1x16x1x96x512) ![0, 2, 0, 64, 0] S1x1x1x16x512.size inb_S1x16x1x96x512_S1x1x1x16x512_0_2_0_64_0, k0_pay24 (queryT x0 x1 x2 x3 x4 x5 x6 x7 x8 x9 x11 x14) (cosBlk x17) (sinBlk x18)⟩,
    ⟨Rect.unit (s := S1x16x1x96x512) ![0, 2, 0, 0, 0] S1x1x1x64x512.size inb_S1x16x1x96x512_S1x1x1x64x512_0_2_0_0_0, k0_pay21 (queryT x0 x1 x2 x3 x4 x5 x6 x7 x8 x9 x11 x14)⟩,
    ⟨Rect.unit (s := S1x16x1x96x512) ![0, 1, 0, 80, 0] S1x1x1x16x512.size inb_S1x16x1x96x512_S1x1x1x16x512_0_1_0_80_0, k0_pay20 (k0_pay19 (queryT x0 x1 x2 x3 x4 x5 x6 x7 x8 x9 x11 x14) (cosBlk x17) (sinBlk x18)) (Scalar.ofBits .f32 0x3E16C740#32 : F .f32)⟩,
    ⟨Rect.unit (s := S1x16x1x96x512) ![0, 1, 0, 64, 0] S1x1x1x16x512.size inb_S1x16x1x96x512_S1x1x1x16x512_0_1_0_64_0, k0_pay18 (queryT x0 x1 x2 x3 x4 x5 x6 x7 x8 x9 x11 x14) (cosBlk x17) (sinBlk x18)⟩,
    ⟨Rect.unit (s := S1x16x1x96x512) ![0, 1, 0, 0, 0] S1x1x1x64x512.size inb_S1x16x1x96x512_S1x1x1x64x512_0_1_0_0_0, k0_pay15 (queryT x0 x1 x2 x3 x4 x5 x6 x7 x8 x9 x11 x14)⟩,
    ⟨Rect.unit (s := S1x16x1x96x512) ![0, 0, 0, 80, 0] S1x1x1x16x512.size inb_S1x16x1x96x512_S1x1x1x16x512_0_0_0_80_0, k0_pay14 (cosBlk x17) (sinBlk x18) (k0_pay10 (projT x0 x1 x2 x3 x4 x5 x6 x7 x8 x9) (View.ld x11 (Rect.unit (s := S256x128) ![0, 0] S256x128.size inb_S256x128_S256x128_0_0)) (View.ld x14 (Rect.unit (s := S1536x256) ![0, 0] S1536x256.size inb_S1536x256_S1536x256_0_0))) (k0_pay11 (projT x0 x1 x2 x3 x4 x5 x6 x7 x8 x9) (View.ld x11 (Rect.unit (s := S256x128) ![0, 0] S256x128.size inb_S256x128_S256x128_0_0)) (View.ld x14 (Rect.unit (s := S1536x256) ![0, 0] S1536x256.size inb_S1536x256_S1536x256_0_0)))⟩,
    ⟨Rect.unit (s := S1x16x1x96x512) ![0, 0, 0, 64, 0] S1x1x1x16x512.size inb_S1x16x1x96x512_S1x1x1x16x512_0_0_0_64_0, k0_pay13 (k0_pay12 (projT x0 x1 x2 x3 x4 x5 x6 x7 x8 x9) (View.ld x11 (Rect.unit (s := S256x128) ![0, 0] S256x128.size inb_S256x128_S256x128_0_0)) (View.ld x14 (Rect.unit (s := S1536x256) ![0, 0] S1536x256.size inb_S1536x256_S1536x256_0_0)) (View.ld x17 (Rect.unit (s := S16x512) ![0, 0] S16x512.size inb_S16x512_S16x512_0_0)) (View.ld x18 (Rect.unit (s := S16x512) ![0, 0] S16x512.size inb_S16x512_S16x512_0_0)))⟩,
    ⟨Rect.unit (s := S1x16x1x96x512) ![0, 0, 0, 0, 0] S1x1x1x64x512.size inb_S1x16x1x96x512_S1x1x1x64x512_0_0_0_0_0, k0_pay9 (projT x0 x1 x2 x3 x4 x5 x6 x7 x8 x9) (View.ld x11 (Rect.unit (s := S256x128) ![0, 0] S256x128.size inb_S256x128_S256x128_0_0)) (View.ld x14 (Rect.unit (s := S1536x256) ![0, 0] S1536x256.size inb_S1536x256_S1536x256_0_0))⟩]

/-- Those stores cover the window. -/
theorem outQuery_cover (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) (x11 : Vec F S256x128 .f32) (x14 : Vec F S1536x256 .bf16) (x17 : Vec F S16x512 .f32) (x18 : Vec F S16x512 .f32) (y : S1x16x1x96x512.Idx) :
    ∃ pc ∈ outQueryPieces x0 x1 x2 x3 x4 x5 x6 x7 x8 x9 x11 x14 x17 x18, y ∈ pc.1.set :=
  View.cover_of_tiledBy (outQueryPieces x0 x1 x2 x3 x4 x5 x6 x7 x8 x9 x11 x14 x17 x18) ![1, 1, 1, 16, 512] (by sl_kernel_rfl) y

/-- The window's contents after the body. -/
def outQuery (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) (x11 : Vec F S256x128 .f32) (x14 : Vec F S1536x256 .bf16) (x17 : Vec F S16x512 .f32) (x18 : Vec F S16x512 .f32) : Vec F S1x16x1x96x512 .bf16 :=
  View.canon (outQueryPieces x0 x1 x2 x3 x4 x5 x6 x7 x8 x9 x11 x14 x17 x18)

/-- What the body leaves in the window of the transposed values: its one store. -/
def outValuePieces (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) (x12 : Vec F S128x128 .f32) (x16 : Vec F S1024x128 .bf16) : List (View.Piece (Elt F) S1x16x1x64x512 .bf16) :=
  [⟨Rect.unit (s := S1x16x1x64x512) ![0, 0, 0, 0, 0] S1x16x1x64x512.size inb_S1x16x1x64x512_S1x16x1x64x512_0_0_0_0_0, k0_pay100 (k0_pay99 (projT x0 x1 x2 x3 x4 x5 x6 x7 x8 x9) (View.ld x12 (Rect.unit (s := S128x128) ![0, 0] S128x128.size inb_S128x128_S128x128_0_0)) (View.ld x16 (Rect.unit (s := S1024x128) ![0, 0] S1024x128.size inb_S1024x128_S1024x128_0_0)))⟩]

/-- Those stores cover the window. -/
theorem outValue_cover (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) (x12 : Vec F S128x128 .f32) (x16 : Vec F S1024x128 .bf16) (y : S1x16x1x64x512.Idx) :
    ∃ pc ∈ outValuePieces x0 x1 x2 x3 x4 x5 x6 x7 x8 x9 x12 x16, y ∈ pc.1.set :=
  View.cover_of_tiledL (outValuePieces x0 x1 x2 x3 x4 x5 x6 x7 x8 x9 x12 x16) S1x16x1x64x512.size (by sl_kernel_rfl) y

/-- The window's contents after the body. -/
def outValue (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) (x12 : Vec F S128x128 .f32) (x16 : Vec F S1024x128 .bf16) : Vec F S1x16x1x64x512 .bf16 :=
  View.canon (outValuePieces x0 x1 x2 x3 x4 x5 x6 x7 x8 x9 x12 x16)

/-- What the body leaves in the window of the transposed gate: its one store. -/
def outGatePieces (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) : List (View.Piece (Elt F) S1x1024x512 .bf16) :=
  [⟨Rect.unit (s := S1x1024x512) ![0, 0, 0] S1x1024x512.size inb_S1x1024x512_S1x1024x512_0_0_0, k0_pay5 (blockSum x0 x1 x2 x3 x4 x5) (View.ld x6 (Rect.unit (s := S1x1024) ![0, 0] S1x1024.size inb_S1x1024_S1x1024_0_0)) (View.ld x7 (Rect.unit (s := S1x1x1024) ![0, 0, 0] S1x1x1024.size inb_S1x1x1024_S1x1x1024_0_0_0)) (View.ld x8 (Rect.unit (s := S1x1x1024) ![0, 0, 0] S1x1x1024.size inb_S1x1x1024_S1x1x1024_0_0_0)) (View.ld x9 (Rect.unit (s := S1408x1024) ![0, 0] S1408x1024.size inb_S1408x1024_S1408x1024_0_0))⟩]

/-- Those stores cover the window. -/
theorem outGate_cover (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) (y : S1x1024x512.Idx) :
    ∃ pc ∈ outGatePieces x0 x1 x2 x3 x4 x5 x6 x7 x8 x9, y ∈ pc.1.set :=
  View.cover_of_tiledL (outGatePieces x0 x1 x2 x3 x4 x5 x6 x7 x8 x9) S1x1024x512.size (by sl_kernel_rfl) y

/-- The window's contents after the body. -/
def outGate (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) : Vec F S1x1024x512 .bf16 :=
  View.canon (outGatePieces x0 x1 x2 x3 x4 x5 x6 x7 x8 x9)

/-! ## The body's triple -/

set_option maxHeartbeats 4000000 in
/-- The kernel body on whole staging memrefs, the inputs' at their contents and the outputs' at anything, runs to the
    continuation that holds the inputs' as they were and each output's at its window's contents. -/
theorem sound_kernel (c : Dev nD) (E : Set ℕ) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1408x1024 .bf16) (harg11 : arg11.IsWhole) (arg12 : Memref sig .tc .vmem S1024x384 .bf16) (harg12 : arg12.IsWhole) (arg13 : Memref sig .tc .vmem S256x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S1536x256 .bf16) (harg16 : arg16.IsWhole) (arg17 : Memref sig .tc .vmem S128x2048 .bf16) (harg17 : arg17.IsWhole) (arg18 : Memref sig .tc .vmem S1024x128 .bf16) (harg18 : arg18.IsWhole) (arg19 : Memref sig .tc .vmem S16x512 .f32) (harg19 : arg19.IsWhole) (arg20 : Memref sig .tc .vmem S16x512 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S1x512x1024 .f32) (harg23 : arg23.IsWhole) (arg24 : Memref sig .tc .vmem S1x16x512x96 .bf16) (harg24 : arg24.IsWhole) (arg25 : Memref sig .tc .vmem S1x16x1x96x512 .bf16) (harg25 : arg25.IsWhole) (arg26 : Memref sig .tc .vmem S1x16x1x64x512 .bf16) (harg26 : arg26.IsWhole) (arg27 : Memref sig .tc .vmem S1x1024x512 .bf16) (harg27 : arg27.IsWhole)
    (x0 : Vec F S1x512x1024 .f32) (x1 : Vec F S1x512x512 .bf16) (x2 : Vec F S1x512x512 .bf16) (x3 : Vec F S1x512x1024 .bf16) (x4 : Vec F S1x1x1024 .f32) (x5 : Vec F S1024x1024 .bf16) (x6 : Vec F S1x1024 .f32) (x7 : Vec F S1x1x1024 .f32) (x8 : Vec F S1x1x1024 .f32) (x9 : Vec F S1408x1024 .bf16) (x10 : Vec F S1024x384 .bf16) (x11 : Vec F S256x128 .f32) (x12 : Vec F S128x128 .f32) (x13 : Vec F S1x128 .f32) (x14 : Vec F S1536x256 .bf16) (x15 : Vec F S128x2048 .bf16) (x16 : Vec F S1024x128 .bf16) (x17 : Vec F S16x512 .f32) (x18 : Vec F S16x512 .f32) (x19 : Vec F S512x128 .f32) (x20 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare (outSum x0 x1 x2 x3 x4 x5) ∗ owns (c : Thread nD τ) arg24 fullShare (outKey x0 x1 x2 x3 x4 x5 x6 x7 x8 x10 x13 x15 x19 x20) ∗ owns (c : Thread nD τ) arg25 fullShare (outQuery x0 x1 x2 x3 x4 x5 x6 x7 x8 x9 x11 x14 x17 x18) ∗ owns (c : Thread nD τ) arg26 fullShare (outValue x0 x1 x2 x3 x4 x5 x6 x7 x8 x9 x12 x16) ∗ owns (c : Thread nD τ) arg27 fullShare (outGate x0 x1 x2 x3 x4 x5 x6 x7 x8 x9)) -∗ K ⟨⟩))
      ⊢ wp frame (wpE (defs₀ (F := F)) Variants.none c none) E (cc0_odd_front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_odd_front_eq_skeleton]; unfold cc0_odd_front_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    exact View.read_writes_eq_canon _ _ _ (outSum_cover _ _ _ _ _ _)
  isplitl [H22]
  · iexists _; isplitr
    swap; · iexact H22
    ipureintro
    exact View.read_writes_eq_canon _ _ _ (outKey_cover _ _ _ _ _ _ _ _ _ _ _ _ _ _)
  isplitl [H23]
  · iexists _; isplitr
    swap; · iexact H23
    ipureintro
    exact View.read_writes_eq_canon _ _ _ (outQuery_cover _ _ _ _ _ _ _ _ _ _ _ _ _ _)
  isplitl [H24]
  · iexists _; isplitr
    swap; · iexact H24
    ipureintro
    exact View.read_writes_eq_canon _ _ _ (outValue_cover _ _ _ _ _ _ _ _ _ _ _ _)
  iexists _; isplitr
  swap; · iexact H25
  ipureintro
  exact View.read_writes_eq_canon _ _ _ (outGate_cover _ _ _ _ _ _ _ _ _ _)

/-! ## The pipeline's proof data -/

/-- The proof data of the one pipeline on core `c`: the arrays as the region finds them; after the body at point `t` each
    input's buffer at its block and each output's at its window's contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => outSum (iblk m c 0 t) (iblk m c 1 t) (iblk m c 2 t) (iblk m c 3 t) (iblk m c 4 t) (iblk m c 5 t)
    | ⟨22, _⟩ => outKey (iblk m c 0 t) (iblk m c 1 t) (iblk m c 2 t) (iblk m c 3 t) (iblk m c 4 t) (iblk m c 5 t) (iblk m c 6 t) (iblk m c 7 t) (iblk m c 8 t) (iblk m c 10 t) (iblk m c 13 t) (iblk m c 15 t) (iblk m c 19 t) (iblk m c 20 t)
    | ⟨23, _⟩ => outQuery (iblk m c 0 t) (iblk m c 1 t) (iblk m c 2 t) (iblk m c 3 t) (iblk m c 4 t) (iblk m c 5 t) (iblk m c 6 t) (iblk m c 7 t) (iblk m c 8 t) (iblk m c 9 t) (iblk m c 11 t) (iblk m c 14 t) (iblk m c 17 t) (iblk m c 18 t)
    | ⟨24, _⟩ => outValue (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 16 t)
    | ⟨25, _⟩ => outGate (iblk m c 0 t) (iblk m c 1 t) (iblk m c 2 t) (iblk m c 3 t) (iblk m c 4 t) (iblk m c 5 t) (iblk m c 6 t) (iblk m c 7 t) (iblk m c 8 t) (iblk m c 9 t)
    | ⟨_ + 26, h⟩ => absurd h (Nat.not_lt.2 (Nat.le_add_left _ _))
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) :
    (dats m 0 c).after 21 t = outSum (iblk m c 0 t) (iblk m c 1 t) (iblk m c 2 t) (iblk m c 3 t) (iblk m c 4 t) (iblk m c 5 t) := by dsimp only [dats]
theorem after0_22 (c : Dev nD) (t : Fin cfg0.N) :
    (dats m 0 c).after 22 t = outKey (iblk m c 0 t) (iblk m c 1 t) (iblk m c 2 t) (iblk m c 3 t) (iblk m c 4 t) (iblk m c 5 t) (iblk m c 6 t) (iblk m c 7 t) (iblk m c 8 t) (iblk m c 10 t) (iblk m c 13 t) (iblk m c 15 t) (iblk m c 19 t) (iblk m c 20 t) := by dsimp only [dats]
theorem after0_23 (c : Dev nD) (t : Fin cfg0.N) :
    (dats m 0 c).after 23 t = outQuery (iblk m c 0 t) (iblk m c 1 t) (iblk m c 2 t) (iblk m c 3 t) (iblk m c 4 t) (iblk m c 5 t) (iblk m c 6 t) (iblk m c 7 t) (iblk m c 8 t) (iblk m c 9 t) (iblk m c 11 t) (iblk m c 14 t) (iblk m c 17 t) (iblk m c 18 t) := by dsimp only [dats]
theorem after0_24 (c : Dev nD) (t : Fin cfg0.N) :
    (dats m 0 c).after 24 t = outValue (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 16 t) := by dsimp only [dats]
theorem after0_25 (c : Dev nD) (t : Fin cfg0.N) :
    (dats m 0 c).after 25 t = outGate (iblk m c 0 t) (iblk m c 1 t) (iblk m c 2 t) (iblk m c 3 t) (iblk m c 4 t) (iblk m c 5 t) (iblk m c 6 t) (iblk m c 7 t) (iblk m c 8 t) (iblk m c 9 t) := by dsimp only [dats]

/-! Each input's current staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point: the inputs' memrefs hold their blocks, so its triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it . -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel4Ideal.Front

end
-- ==== Proof.FrontPay.lean ====
/-
The call `odd_front`: what each value its body computes holds, at an index, in terms of the blocks it reads.
-/
module

public import proofs.«01_k».proof.Proof.Gen.Kernel4Ideal.Skeleton
public import Idealize.ShloMosaic.Lib.Pointwise
public import Idealize.ShloMosaic.PureOps.Ideal
public import Idealize.ShloMosaic.PureOps.Ideal.Laws

@[expose] public section

set_option maxRecDepth 16384

noncomputable section

namespace Cert.Kernel4Ideal.Front

open Idealize.ShloMosaic Idealize.ShloMosaic.TcCoe Idealize.SL.Sem
open Cert.Kernel4Ideal Cert.Kernel4Ideal.Gen

/-- `v` times the logistic function of `v`. -/
def silu (v : EReal) : EReal := v * Ideal.div 1 (1 + Ideal.exp (0 - v))

/-- The row of two halves, each weighted by its gates, times a column of weights: one half after the other. -/
def mixed (a b : Fin 512 → EReal) (gate w : Fin 1024 → EReal) : EReal :=
  ∑ k : Fin 512, a k * silu (gate ⟨k.val, by omega⟩) * w ⟨k.val, by omega⟩
    + ∑ k : Fin 512, b k * silu (gate ⟨512 + k.val, by omega⟩) * w ⟨512 + k.val, by omega⟩

/-- A row over the root of its mean square, times a gain, at one place. -/
def normed {n : Nat} (count : EReal) (y g : Fin n → EReal) (k : Fin n) : EReal :=
  y k * Ideal.rsqrt (Ideal.div (∑ k, y k * y k) count + Ideal.ofBits .f32 0x358637BD#32) * g k

theorem pay1_apply (v0 : Vec Ideal S1x512x1024 .bf16) (v11 v13 : Vec Ideal S1x512x512 .bf16) (v19 : Vec Ideal S1x512x1024 .f32)
    (v21 : Vec Ideal S1x1x1024 .f32) (v23 : Vec Ideal S1024x1024 .bf16) (r : Fin 512) (j : Fin 1024) :
    k0_pay1 v0 v11 v13 v19 v21 v23 (ix2 r j) = v19 (ix3 0 r j) + v21 (ix3 0 0 j)
      * mixed (fun k => v11 (ix3 0 r k)) (fun k => v13 (ix3 0 r k)) (fun k => v0 (ix3 0 r k)) (fun k => v23 (ix2 k j)) := by
  pointwise [k0_pay1]
  rfl

theorem pay3_apply (v27 : FVec Ideal S512x1024 .f32) (v31 : Vec Ideal S1x1024 .f32) (v33 v35 : Vec Ideal S1x1x1024 .f32) (r : Fin 512) (k : Fin 1024) :
    k0_pay3 v27 v31 v33 v35 (ix2 r k) = normed (Ideal.ofBits .f32 0x44800000#32) (fun k => v27 (ix2 r k)) (fun k => v31 (ix2 0 k)) k
      * (1 + v33 (ix3 0 0 k)) + v35 (ix3 0 0 k) := by
  pointwise [k0_pay3]
  rfl

theorem pay4_apply (v27 : FVec Ideal S512x1024 .f32) (v31 : Vec Ideal S1x1024 .f32) (v33 v35 : Vec Ideal S1x1x1024 .f32)
    (v56 : Vec Ideal S1408x1024 .bf16) (r : Fin 1408) (i : Fin 512) :
    k0_pay4 v27 v31 v33 v35 v56 (ix2 r i) = ∑ k : Fin 1024, v56 (ix2 r k) * k0_pay3 v27 v31 v33 v35 (ix2 i k) := by
  pointwise [k0_pay4]

theorem pay5_apply (v27 : FVec Ideal S512x1024 .f32) (v31 : Vec Ideal S1x1024 .f32) (v33 v35 : Vec Ideal S1x1x1024 .f32)
    (v56 : Vec Ideal S1408x1024 .bf16) (r : Fin 1024) (i : Fin 512) :
    k0_pay5 v27 v31 v33 v35 v56 (ix3 0 r i) = silu (k0_pay4 v27 v31 v33 v35 v56 (ix2 ⟨r.val, by omega⟩ i)) := by
  pointwise [k0_pay5]
  rfl

theorem pay6_apply (v58 : FVec Ideal S1408x512 .f32) (v83 : Vec Ideal S256x128 .f32) (v88 : Vec Ideal S1536x256 .bf16) (g : Fin 256 → EReal)
    (hg : ∀ k c, v83 (ix2 k c) = g k) (r : Fin 1536) (i : Fin 512) :
    k0_pay6 v58 v83 v88 (ix2 r i) = ∑ k : Fin 256, v88 (ix2 r k)
      * normed (Ideal.ofBits .f32 0x43800000#32) (fun k : Fin 256 => v58 (ix2 ⟨1024 + k.val, by omega⟩ i)) g k := by
  pointwise [k0_pay6]
  simp only [hg, dite_eq_ite, ite_self]
  rfl

theorem pay100_apply (v58 : FVec Ideal S1408x512 .f32) (v538 : Vec Ideal S128x128 .f32) (v543 : Vec Ideal S1024x128 .bf16) (g : Fin 128 → EReal) (hg : ∀ k c, v538 (ix2 k c) = g k)
    (h : Fin 16) (d : Fin 64) (i : Fin 512) :
    k0_pay100 (k0_pay99 v58 v538 v543) (ix5 0 h 0 d i) = ∑ k : Fin 128, v543 (ix2 ⟨h.val * 64 + d.val, by omega⟩ k)
      * normed (Ideal.ofBits .f32 0x43000000#32) (fun k : Fin 128 => v58 (ix2 ⟨1280 + k.val, by omega⟩ i)) g k := by
  pointwise [k0_pay100, k0_pay99]
  simp only [hg, dite_eq_ite, ite_self]
  rfl

theorem pay101_apply (v55 : FVec Ideal S512x1024 .bf16) (v551 : Vec Ideal S1024x384 .bf16) (i : Fin 512) (j : Fin 384) :
    k0_pay101 v55 v551 (ix2 i j) = ∑ k : Fin 1024, v55 (ix2 i k) * v551 (ix2 k j) := by
  pointwise [k0_pay101]

theorem pay102_apply (v55 : FVec Ideal S512x1024 .bf16) (v551 : Vec Ideal S1024x384 .bf16) (v565 : Vec Ideal S1x128 .f32) (v570 : Vec Ideal S128x2048 .bf16)
    (i : Fin 512) (j : Fin 2048) :
    k0_pay102 v55 v551 v565 v570 (ix2 i j) = ∑ k : Fin 128,
      normed (Ideal.ofBits .f32 0x43000000#32) (fun k : Fin 128 => k0_pay101 v55 v551 (ix2 i ⟨k.val, by omega⟩)) (fun k => v565 (ix2 0 k)) k * v570 (ix2 k j) := by
  pointwise [k0_pay102]
  rfl

theorem pay103_apply (v55 : FVec Ideal S512x1024 .bf16) (v551 : Vec Ideal S1024x384 .bf16) (v574 v578 : Vec Ideal S512x128 .f32)
    (i : Fin 512) (d : Fin 128) :
    k0_pay103 v55 v551 v574 v578 (ix2 i d) = k0_pay101 v55 v551 (ix2 i ⟨128 + d.val, by omega⟩) * v574 (ix2 i d)
      + k0_pay101 v55 v551 (ix2 i ⟨256 + d.val, by omega⟩) * v578 (ix2 i d) := by
  pointwise [k0_pay103]

end Cert.Kernel4Ideal.Front

end
-- ==== Proof.FrontHeads.lean ====
/-
The call `odd_front`: the windows of the queries and of the keys, read at an index. The body writes each a head at a time;
here the stores are put together into one function of head, row and column.
-/
module

public import proofs.«01_k».proof.Proof.FrontFrame
public import proofs.«01_k».proof.Proof.FrontPay

@[expose] public section

set_option maxRecDepth 16384

noncomputable section

namespace Cert.Kernel4Ideal.Front

open Idealize.ShloMosaic Idealize.ShloMosaic.TcCoe Idealize.SL.Sem
open Cert.Kernel4Ideal Cert.Kernel4Ideal.Gen

/-- The scores' scale, which the queries carry. -/
def scaleQ : EReal := Ideal.ofBits .f32 0x3E16C740#32

/-- A head's query at row `d` and column `i`: rows 0–63 as projected, rows 64–79 and 80–95 turned against each other. -/
def queryAt (v90 : FVec Ideal S1536x512 .f32) (v92 v94 : FVec Ideal S16x512 .f32) (h : Nat) (hh : h < 16) (d : Fin 96) (i : Fin 512) : EReal :=
  (if h0 : d.val < 64 then v90 (ix2 ⟨h * 96 + d.val, by omega⟩ i)
    else if h1 : d.val < 80 then v90 (ix2 ⟨h * 96 + d.val, by omega⟩ i) * v92 (ix2 ⟨d.val - 64, by omega⟩ i)
      - v90 (ix2 ⟨h * 96 + (d.val + 16), by omega⟩ i) * v94 (ix2 ⟨d.val - 64, by omega⟩ i)
    else v90 (ix2 ⟨h * 96 + d.val, by omega⟩ i) * v92 (ix2 ⟨d.val - 80, by omega⟩ i)
      + v90 (ix2 ⟨h * 96 + (d.val - 16), by omega⟩ i) * v94 (ix2 ⟨d.val - 80, by omega⟩ i)) * scaleQ

/-- The window of the queries from the projected queries and the two tables. -/
def queryWin (v90 : FVec Ideal S1536x512 .f32) (v92 v94 : FVec Ideal S16x512 .f32) : Vec Ideal S1x16x1x96x512 .bf16 := fun y =>
  queryAt v90 v92 v94 (y 1).val (y 1).isLt (y 3) (y 4)

section
variable (v90 : FVec Ideal S1536x512 .f32) (v92 v94 : FVec Ideal S16x512 .f32) (h : Nat) (hh : h < 16)

/-- A store of a head's rows 0–63 agrees with the window. -/
theorem low_piece (P : Vec Ideal S1x1x1x64x512 .bf16) (inb) (hP : ∀ (d : Fin 64) (i : Fin 512),
      P (ix5 0 0 0 d i) = v90 (ix2 ⟨h * 96 + d.val, by omega⟩ i) * scaleQ) (y) :
    P y = queryWin v90 v92 v94 ((Rect.unit (s := S1x16x1x96x512) ![0, h, 0, 0, 0] S1x1x1x64x512.size inb).emb y) := by
  have e : y = (ix5 0 0 0 (y 3 : Fin 64) (y 4 : Fin 512) : S1x1x1x64x512.Idx) := by
    have h0 : (y 0).val < 1 := (y 0).isLt
    have h1 : (y 1).val < 1 := (y 1).isLt
    have h2 : (y 2).val < 1 := (y 2).isLt
    funext a
    match a with
    | ⟨0, _⟩ => exact Fin.ext (by show (y 0).val = 0; omega)
    | ⟨1, _⟩ => exact Fin.ext (by show (y 1).val = 0; omega)
    | ⟨2, _⟩ => exact Fin.ext (by show (y 2).val = 0; omega)
    | ⟨3, _⟩ => rfl
    | ⟨4, _⟩ => rfl
  have key : ∀ (d : Fin 64) (i : Fin 512), P (ix5 0 0 0 d i)
      = queryWin v90 v92 v94 (ix5 0 ⟨h, hh⟩ 0 ⟨d.val, by omega⟩ i) := by
    intro d i
    rw [hP]
    have hd : d.val < 64 := d.isLt
    show _ = queryAt v90 v92 v94 h hh ⟨d.val, by omega⟩ i
    unfold queryAt
    rw [dif_pos hd]
  refine (congrArg P e).trans ((key (y 3) (y 4)).trans (congrArg _ (funext fun a => Fin.ext ?_)))
  have h1 : (y 1).val < 1 := (y 1).isLt
  match a with
  | ⟨0, _⟩ => have h0 : (y 0).val < 1 := (y 0).isLt; show 0 = 0 + 1 * (y 0).val; omega
  | ⟨1, _⟩ => show h = h + 1 * (y 1).val; omega
  | ⟨2, _⟩ => have h0 : (y 2).val < 1 := (y 2).isLt; show 0 = 0 + 1 * (y 2).val; omega
  | ⟨3, _⟩ => show (y 3).val = 0 + 1 * (y 3).val; omega
  | ⟨4, _⟩ => show (y 4).val = 0 + 1 * (y 4).val; omega

/-- A store of a head's rows 64–79 agrees with the window. -/
theorem first_piece (P : Vec Ideal S1x1x1x16x512 .bf16) (inb) (hP : ∀ (d : Fin 16) (i : Fin 512),
      P (ix5 0 0 0 d i) = (v90 (ix2 ⟨h * 96 + 64 + d.val, by omega⟩ i) * v92 (ix2 d i) - v90 (ix2 ⟨h * 96 + 80 + d.val, by omega⟩ i) * v94 (ix2 d i)) * scaleQ) (y) :
    P y = queryWin v90 v92 v94 ((Rect.unit (s := S1x16x1x96x512) ![0, h, 0, 64, 0] S1x1x1x16x512.size inb).emb y) := by
  have e : y = (ix5 0 0 0 (y 3 : Fin 16) (y 4 : Fin 512) : S1x1x1x16x512.Idx) := by
    have h0 : (y 0).val < 1 := (y 0).isLt
    have h1 : (y 1).val < 1 := (y 1).isLt
    have h2 : (y 2).val < 1 := (y 2).isLt
    funext a
    match a with
    | ⟨0, _⟩ => exact Fin.ext (by show (y 0).val = 0; omega)
    | ⟨1, _⟩ => exact Fin.ext (by show (y 1).val = 0; omega)
    | ⟨2, _⟩ => exact Fin.ext (by show (y 2).val = 0; omega)
    | ⟨3, _⟩ => rfl
    | ⟨4, _⟩ => rfl
  have key : ∀ (d : Fin 16) (i : Fin 512), P (ix5 0 0 0 d i)
      = queryWin v90 v92 v94 (ix5 0 ⟨h, hh⟩ 0 ⟨64 + d.val, by omega⟩ i) := by
    intro d i
    rw [hP]
    show _ = queryAt v90 v92 v94 h hh ⟨64 + d.val, by omega⟩ i
    unfold queryAt
    rw [dif_neg (show ¬ (64 + d.val < 64) by omega), dif_pos (show 64 + d.val < 80 by omega)]
    have e1 : (⟨64 + d.val - 64, by omega⟩ : Fin 16) = d := Fin.ext (by show 64 + d.val - 64 = d.val; omega)
    have e2 : (⟨h * 96 + 64 + d.val, by omega⟩ : Fin 1536) = ⟨h * 96 + (64 + d.val), by omega⟩ := Fin.ext (by show _ + _ + _ = _ + (_ + _); omega)
    have e3 : (⟨h * 96 + 80 + d.val, by omega⟩ : Fin 1536) = ⟨h * 96 + (64 + d.val + 16), by omega⟩ := Fin.ext (by show h * 96 + 80 + d.val = h * 96 + (64 + d.val + 16); omega)
    rw [e1, e2, e3]
  refine (congrArg P e).trans ((key (y 3) (y 4)).trans (congrArg _ (funext fun a => Fin.ext ?_)))
  have h1 : (y 1).val < 1 := (y 1).isLt
  match a with
  | ⟨0, _⟩ => have h0 : (y 0).val < 1 := (y 0).isLt; show 0 = 0 + 1 * (y 0).val; omega
  | ⟨1, _⟩ => show h = h + 1 * (y 1).val; omega
  | ⟨2, _⟩ => have h0 : (y 2).val < 1 := (y 2).isLt; show 0 = 0 + 1 * (y 2).val; omega
  | ⟨3, _⟩ => show 64 + (y 3).val = 64 + 1 * (y 3).val; omega
  | ⟨4, _⟩ => show (y 4).val = 0 + 1 * (y 4).val; omega

/-- A store of a head's rows 80–95 agrees with the window. -/
theorem second_piece (P : Vec Ideal S1x1x1x16x512 .bf16) (inb) (hP : ∀ (d : Fin 16) (i : Fin 512),
      P (ix5 0 0 0 d i) = (v90 (ix2 ⟨h * 96 + 80 + d.val, by omega⟩ i) * v92 (ix2 d i) + v90 (ix2 ⟨h * 96 + 64 + d.val, by omega⟩ i) * v94 (ix2 d i)) * scaleQ) (y) :
    P y = queryWin v90 v92 v94 ((Rect.unit (s := S1x16x1x96x512) ![0, h, 0, 80, 0] S1x1x1x16x512.size inb).emb y) := by
  have e : y = (ix5 0 0 0 (y 3 : Fin 16) (y 4 : Fin 512) : S1x1x1x16x512.Idx) := by
    have h0 : (y 0).val < 1 := (y 0).isLt
    have h1 : (y 1).val < 1 := (y 1).isLt
    have h2 : (y 2).val < 1 := (y 2).isLt
    funext a
    match a with
    | ⟨0, _⟩ => exact Fin.ext (by show (y 0).val = 0; omega)
    | ⟨1, _⟩ => exact Fin.ext (by show (y 1).val = 0; omega)
    | ⟨2, _⟩ => exact Fin.ext (by show (y 2).val = 0; omega)
    | ⟨3, _⟩ => rfl
    | ⟨4, _⟩ => rfl
  have key : ∀ (d : Fin 16) (i : Fin 512), P (ix5 0 0 0 d i)
      = queryWin v90 v92 v94 (ix5 0 ⟨h, hh⟩ 0 ⟨80 + d.val, by omega⟩ i) := by
    intro d i
    rw [hP]
    show _ = queryAt v90 v92 v94 h hh ⟨80 + d.val, by omega⟩ i
    unfold queryAt
    rw [dif_neg (show ¬ (80 + d.val < 64) by omega), dif_neg (show ¬ (80 + d.val < 80) by omega)]
    have e1 : (⟨80 + d.val - 80, by omega⟩ : Fin 16) = d := Fin.ext (by show 80 + d.val - 80 = d.val; omega)
    have e2 : (⟨h * 96 + 80 + d.val, by omega⟩ : Fin 1536) = ⟨h * 96 + (80 + d.val), by omega⟩ := Fin.ext (by show _ + _ + _ = _ + (_ + _); omega)
    have e3 : (⟨h * 96 + 64 + d.val, by omega⟩ : Fin 1536) = ⟨h * 96 + (80 + d.val - 16), by omega⟩ := Fin.ext (by show h * 96 + 64 + d.val = h * 96 + (80 + d.val - 16); omega)
    rw [e1, e2, e3]
  refine (congrArg P e).trans ((key (y 3) (y 4)).trans (congrArg _ (funext fun a => Fin.ext ?_)))
  have h1 : (y 1).val < 1 := (y 1).isLt
  match a with
  | ⟨0, _⟩ => have h0 : (y 0).val < 1 := (y 0).isLt; show 0 = 0 + 1 * (y 0).val; omega
  | ⟨1, _⟩ => show h = h + 1 * (y 1).val; omega
  | ⟨2, _⟩ => have h0 : (y 2).val < 1 := (y 2).isLt; show 0 = 0 + 1 * (y 2).val; omega
  | ⟨3, _⟩ => show 80 + (y 3).val = 80 + 1 * (y 3).val; omega
  | ⟨4, _⟩ => show (y 4).val = 0 + 1 * (y 4).val; omega

end

/-- A head's key at position `n` and column `d`: the part of the latent and the part that carries the position. -/
def keyWin (kn : FVec Ideal S512x2048 .f32) (kr : FVec Ideal S512x128 .f32) : Vec Ideal S1x16x512x96 .bf16 := fun y =>
  kn (ix2 (y 2) ⟨(y 1).val * 128 + (y 3).val, by have h1 : (y 1).val < 16 := (y 1).isLt; have h3 : (y 3).val < 96 := (y 3).isLt; omega⟩)
    + kr (ix2 (y 2) ⟨(y 3).val, by have h3 : (y 3).val < 96 := (y 3).isLt; omega⟩)

/-- A store of one head agrees with the window. -/
theorem key_piece (kn : FVec Ideal S512x2048 .f32) (kr : FVec Ideal S512x128 .f32) (h : Nat) (hh : h < 16)
    (P : Vec Ideal S1x1x512x96 .bf16) (inb) (hP : ∀ (n : Fin 512) (d : Fin 96),
      P (ix4 0 0 n d) = kn (ix2 n ⟨h * 128 + d.val, by omega⟩) + kr (ix2 n ⟨d.val, by omega⟩)) (y) :
    P y = keyWin kn kr ((Rect.unit (s := S1x16x512x96) ![0, h, 0, 0] S1x1x512x96.size inb).emb y) := by
  have e : y = (ix4 0 0 (y 2 : Fin 512) (y 3 : Fin 96) : S1x1x512x96.Idx) := by
    have h0 : (y 0).val < 1 := (y 0).isLt
    have h1 : (y 1).val < 1 := (y 1).isLt
    funext a
    match a with
    | ⟨0, _⟩ => exact Fin.ext (by show (y 0).val = 0; omega)
    | ⟨1, _⟩ => exact Fin.ext (by show (y 1).val = 0; omega)
    | ⟨2, _⟩ => rfl
    | ⟨3, _⟩ => rfl
  have key : ∀ (n : Fin 512) (d : Fin 96), P (ix4 0 0 n d) = keyWin kn kr (ix4 0 ⟨h, hh⟩ n d) := hP
  refine (congrArg P e).trans ((key (y 2) (y 3)).trans (congrArg _ (funext fun a => Fin.ext ?_)))
  have h1 : (y 1).val < 1 := (y 1).isLt
  match a with
  | ⟨0, _⟩ => have h0 : (y 0).val < 1 := (y 0).isLt; show 0 = 0 + 1 * (y 0).val; omega
  | ⟨1, _⟩ => show h = h + 1 * (y 1).val; omega
  | ⟨2, _⟩ => show (y 2).val = 0 + 1 * (y 2).val; omega
  | ⟨3, _⟩ => show (y 3).val = 0 + 1 * (y 3).val; omega

/-! ## The queries' stores -/

theorem second_15 (v90 : FVec Ideal S1536x512 .f32) (v92 v94 : FVec Ideal S16x512 .f32) (d : Fin 16) (i : Fin 512) :
    k0_pay98 v92 v94 (k0_pay94 v90) (k0_pay95 v90) (ix5 0 0 0 d i) = (v90 (ix2 ⟨15 * 96 + 80 + d.val, by omega⟩ i) * v92 (ix2 d i) + v90 (ix2 ⟨15 * 96 + 64 + d.val, by omega⟩ i) * v94 (ix2 d i)) * scaleQ := by
  pointwise [k0_pay94, k0_pay95, k0_pay98]
  all_goals first | rfl | (simp only [Nat.zero_mul, Nat.zero_add]; rfl)

theorem first_15 (v90 : FVec Ideal S1536x512 .f32) (v92 v94 : FVec Ideal S16x512 .f32) (d : Fin 16) (i : Fin 512) :
    k0_pay97 (k0_pay96 v90 v92 v94) (ix5 0 0 0 d i) = (v90 (ix2 ⟨15 * 96 + 64 + d.val, by omega⟩ i) * v92 (ix2 d i) - v90 (ix2 ⟨15 * 96 + 80 + d.val, by omega⟩ i) * v94 (ix2 d i)) * scaleQ := by
  pointwise [k0_pay94, k0_pay95, k0_pay96, k0_pay97]
  all_goals first | rfl | (simp only [Nat.zero_mul, Nat.zero_add]; rfl)

theorem low_15 (v90 : FVec Ideal S1536x512 .f32) (v92 v94 : FVec Ideal S16x512 .f32) (d : Fin 64) (i : Fin 512) :
    k0_pay93 v90 (ix5 0 0 0 d i) = v90 (ix2 ⟨15 * 96 + d.val, by omega⟩ i) * scaleQ := by
  pointwise [k0_pay93]
  all_goals first | rfl | (simp only [Nat.zero_mul, Nat.zero_add]; rfl)

theorem second_14 (v90 : FVec Ideal S1536x512 .f32) (v92 v94 : FVec Ideal S16x512 .f32) (d : Fin 16) (i : Fin 512) :
    k0_pay92 v90 v92 v94 (ix5 0 0 0 d i) = (v90 (ix2 ⟨14 * 96 + 80 + d.val, by omega⟩ i) * v92 (ix2 d i) + v90 (ix2 ⟨14 * 96 + 64 + d.val, by omega⟩ i) * v94 (ix2 d i)) * scaleQ := by
  pointwise [k0_pay89, k0_pay90, k0_pay92]
  all_goals first | rfl | (simp only [Nat.zero_mul, Nat.zero_add]; rfl)

theorem first_14 (v90 : FVec Ideal S1536x512 .f32) (v92 v94 : FVec Ideal S16x512 .f32) (d : Fin 16) (i : Fin 512) :
    k0_pay91 v90 v92 v94 (ix5 0 0 0 d i) = (v90 (ix2 ⟨14 * 96 + 64 + d.val, by omega⟩ i) * v92 (ix2 d i) - v90 (ix2 ⟨14 * 96 + 80 + d.val, by omega⟩ i) * v94 (ix2 d i)) * scaleQ := by
  pointwise [k0_pay89, k0_pay90, k0_pay91]
  all_goals first | rfl | (simp only [Nat.zero_mul, Nat.zero_add]; rfl)

theorem low_14 (v90 : FVec Ideal S1536x512 .f32) (v92 v94 : FVec Ideal S16x512 .f32) (d : Fin 64) (i : Fin 512) :
    k0_pay88 (k0_pay87 v90) (ix5 0 0 0 d i) = v90 (ix2 ⟨14 * 96 + d.val, by omega⟩ i) * scaleQ := by
  pointwise [k0_pay87, k0_pay88]
  all_goals first | rfl | (simp only [Nat.zero_mul, Nat.zero_add]; rfl)

theorem second_13 (v90 : FVec Ideal S1536x512 .f32) (v92 v94 : FVec Ideal S16x512 .f32) (d : Fin 16) (i : Fin 512) :
    k0_pay86 v90 v92 v94 (ix5 0 0 0 d i) = (v90 (ix2 ⟨13 * 96 + 80 + d.val, by omega⟩ i) * v92 (ix2 d i) + v90 (ix2 ⟨13 * 96 + 64 + d.val, by omega⟩ i) * v94 (ix2 d i)) * scaleQ := by
  pointwise [k0_pay83, k0_pay84, k0_pay86]
  all_goals first | rfl | (simp only [Nat.zero_mul, Nat.zero_add]; rfl)

theorem first_13 (v90 : FVec Ideal S1536x512 .f32) (v92 v94 : FVec Ideal S16x512 .f32) (d : Fin 16) (i : Fin 512) :
    k0_pay85 v90 v92 v94 (ix5 0 0 0 d i) = (v90 (ix2 ⟨13 * 96 + 64 + d.val, by omega⟩ i) * v92 (ix2 d i) - v90 (ix2 ⟨13 * 96 + 80 + d.val, by omega⟩ i) * v94 (ix2 d i)) * scaleQ := by
  pointwise [k0_pay83, k0_pay84, k0_pay85]
  all_goals first | rfl | (simp only [Nat.zero_mul, Nat.zero_add]; rfl)

theorem low_13 (v90 : FVec Ideal S1536x512 .f32) (v92 v94 : FVec Ideal S16x512 .f32) (d : Fin 64) (i : Fin 512) :
    k0_pay82 v90 (ix5 0 0 0 d i) = v90 (ix2 ⟨13 * 96 + d.val, by omega⟩ i) * scaleQ := by
  pointwise [k0_pay82]
  all_goals first | rfl | (simp only [Nat.zero_mul, Nat.zero_add]; rfl)

theorem second_12 (v90 : FVec Ideal S1536x512 .f32) (v92 v94 : FVec Ideal S16x512 .f32) (d : Fin 16) (i : Fin 512) :
    k0_pay81 v90 v92 v94 (ix5 0 0 0 d i) = (v90 (ix2 ⟨12 * 96 + 80 + d.val, by omega⟩ i) * v92 (ix2 d i) + v90 (ix2 ⟨12 * 96 + 64 + d.val, by omega⟩ i) * v94 (ix2 d i)) * scaleQ := by
  pointwise [k0_pay78, k0_pay79, k0_pay81]
  all_goals first | rfl | (simp only [Nat.zero_mul, Nat.zero_add]; rfl)

theorem first_12 (v90 : FVec Ideal S1536x512 .f32) (v92 v94 : FVec Ideal S16x512 .f32) (d : Fin 16) (i : Fin 512) :
    k0_pay80 v90 v92 v94 (ix5 0 0 0 d i) = (v90 (ix2 ⟨12 * 96 + 64 + d.val, by omega⟩ i) * v92 (ix2 d i) - v90 (ix2 ⟨12 * 96 + 80 + d.val, by omega⟩ i) * v94 (ix2 d i)) * scaleQ := by
  pointwise [k0_pay78, k0_pay79, k0_pay80]
  all_goals first | rfl | (simp only [Nat.zero_mul, Nat.zero_add]; rfl)

theorem low_12 (v90 : FVec Ideal S1536x512 .f32) (v92 v94 : FVec Ideal S16x512 .f32) (d : Fin 64) (i : Fin 512) :
    k0_pay77 v90 (ix5 0 0 0 d i) = v90 (ix2 ⟨12 * 96 + d.val, by omega⟩ i) * scaleQ := by
  pointwise [k0_pay77]
  all_goals first | rfl | (simp only [Nat.zero_mul, Nat.zero_add]; rfl)

theorem second_11 (v90 : FVec Ideal S1536x512 .f32) (v92 v94 : FVec Ideal S16x512 .f32) (d : Fin 16) (i : Fin 512) :
    k0_pay76 (k0_pay75 v90 v92 v94) (Scalar.ofBits .f32 0x3E16C740#32 : Ideal .f32) (ix5 0 0 0 d i) = (v90 (ix2 ⟨11 * 96 + 80 + d.val, by omega⟩ i) * v92 (ix2 d i) + v90 (ix2 ⟨11 * 96 + 64 + d.val, by omega⟩ i) * v94 (ix2 d i)) * scaleQ := by
  pointwise [k0_pay72, k0_pay73, k0_pay75, k0_pay76]
  all_goals first | rfl | (simp only [Nat.zero_mul, Nat.zero_add]; rfl)

theorem first_11 (v90 : FVec Ideal S1536x512 .f32) (v92 v94 : FVec Ideal S16x512 .f32) (d : Fin 16) (i : Fin 512) :
    k0_pay74 v90 v92 v94 (ix5 0 0 0 d i) = (v90 (ix2 ⟨11 * 96 + 64 + d.val, by omega⟩ i) * v92 (ix2 d i) - v90 (ix2 ⟨11 * 96 + 80 + d.val, by omega⟩ i) * v94 (ix2 d i)) * scaleQ := by
  pointwise [k0_pay72, k0_pay73, k0_pay74]
  all_goals first | rfl | (simp only [Nat.zero_mul, Nat.zero_add]; rfl)

theorem low_11 (v90 : FVec Ideal S1536x512 .f32) (v92 v94 : FVec Ideal S16x512 .f32) (d : Fin 64) (i : Fin 512) :
    k0_pay71 v90 (ix5 0 0 0 d i) = v90 (ix2 ⟨11 * 96 + d.val, by omega⟩ i) * scaleQ := by
  pointwise [k0_pay71]
  all_goals first | rfl | (simp only [Nat.zero_mul, Nat.zero_add]; rfl)

theorem second_10 (v90 : FVec Ideal S1536x512 .f32) (v92 v94 : FVec Ideal S16x512 .f32) (d : Fin 16) (i : Fin 512) :
    k0_pay70 v92 v94 (k0_pay66 v90) (k0_pay67 v90) (ix5 0 0 0 d i) = (v90 (ix2 ⟨10 * 96 + 80 + d.val, by omega⟩ i) * v92 (ix2 d i) + v90 (ix2 ⟨10 * 96 + 64 + d.val, by omega⟩ i) * v94 (ix2 d i)) * scaleQ := by
  pointwise [k0_pay66, k0_pay67, k0_pay70]
  all_goals first | rfl | (simp only [Nat.zero_mul, Nat.zero_add]; rfl)

theorem first_10 (v90 : FVec Ideal S1536x512 .f32) (v92 v94 : FVec Ideal S16x512 .f32) (d : Fin 16) (i : Fin 512) :
    k0_pay69 (k0_pay68 v90 v92 v94) (ix5 0 0 0 d i) = (v90 (ix2 ⟨10 * 96 + 64 + d.val, by omega⟩ i) * v92 (ix2 d i) - v90 (ix2 ⟨10 * 96 + 80 + d.val, by omega⟩ i) * v94 (ix2 d i)) * scaleQ := by
  pointwise [k0_pay66, k0_pay67, k0_pay68, k0_pay69]
  all_goals first | rfl | (simp only [Nat.zero_mul, Nat.zero_add]; rfl)

theorem low_10 (v90 : FVec Ideal S1536x512 .f32) (v92 v94 : FVec Ideal S16x512 .f32) (d : Fin 64) (i : Fin 512) :
    k0_pay65 v90 (ix5 0 0 0 d i) = v90 (ix2 ⟨10 * 96 + d.val, by omega⟩ i) * scaleQ := by
  pointwise [k0_pay65]
  all_goals first | rfl | (simp only [Nat.zero_mul, Nat.zero_add]; rfl)

theorem second_9 (v90 : FVec Ideal S1536x512 .f32) (v92 v94 : FVec Ideal S16x512 .f32) (d : Fin 16) (i : Fin 512) :
    k0_pay64 v90 v92 v94 (ix5 0 0 0 d i) = (v90 (ix2 ⟨9 * 96 + 80 + d.val, by omega⟩ i) * v92 (ix2 d i) + v90 (ix2 ⟨9 * 96 + 64 + d.val, by omega⟩ i) * v94 (ix2 d i)) * scaleQ := by
  pointwise [k0_pay61, k0_pay62, k0_pay64]
  all_goals first | rfl | (simp only [Nat.zero_mul, Nat.zero_add]; rfl)

theorem first_9 (v90 : FVec Ideal S1536x512 .f32) (v92 v94 : FVec Ideal S16x512 .f32) (d : Fin 16) (i : Fin 512) :
    k0_pay63 v90 v92 v94 (ix5 0 0 0 d i) = (v90 (ix2 ⟨9 * 96 + 64 + d.val, by omega⟩ i) * v92 (ix2 d i) - v90 (ix2 ⟨9 * 96 + 80 + d.val, by omega⟩ i) * v94 (ix2 d i)) * scaleQ := by
  pointwise [k0_pay61, k0_pay62, k0_pay63]
  all_goals first | rfl | (simp only [Nat.zero_mul, Nat.zero_add]; rfl)

theorem low_9 (v90 : FVec Ideal S1536x512 .f32) (v92 v94 : FVec Ideal S16x512 .f32) (d : Fin 64) (i : Fin 512) :
    k0_pay60 (k0_pay59 v90) (ix5 0 0 0 d i) = v90 (ix2 ⟨9 * 96 + d.val, by omega⟩ i) * scaleQ := by
  pointwise [k0_pay59, k0_pay60]
  all_goals first | rfl | (simp only [Nat.zero_mul, Nat.zero_add]; rfl)

theorem second_8 (v90 : FVec Ideal S1536x512 .f32) (v92 v94 : FVec Ideal S16x512 .f32) (d : Fin 16) (i : Fin 512) :
    k0_pay58 v90 v92 v94 (ix5 0 0 0 d i) = (v90 (ix2 ⟨8 * 96 + 80 + d.val, by omega⟩ i) * v92 (ix2 d i) + v90 (ix2 ⟨8 * 96 + 64 + d.val, by omega⟩ i) * v94 (ix2 d i)) * scaleQ := by
  pointwise [k0_pay55, k0_pay56, k0_pay58]
  all_goals first | rfl | (simp only [Nat.zero_mul, Nat.zero_add]; rfl)

theorem first_8 (v90 : FVec Ideal S1536x512 .f32) (v92 v94 : FVec Ideal S16x512 .f32) (d : Fin 16) (i : Fin 512) :
    k0_pay57 v90 v92 v94 (ix5 0 0 0 d i) = (v90 (ix2 ⟨8 * 96 + 64 + d.val, by omega⟩ i) * v92 (ix2 d i) - v90 (ix2 ⟨8 * 96 + 80 + d.val, by omega⟩ i) * v94 (ix2 d i)) * scaleQ := by
  pointwise [k0_pay55, k0_pay56, k0_pay57]
  all_goals first | rfl | (simp only [Nat.zero_mul, Nat.zero_add]; rfl)

theorem low_8 (v90 : FVec Ideal S1536x512 .f32) (v92 v94 : FVec Ideal S16x512 .f32) (d : Fin 64) (i : Fin 512) :
    k0_pay54 v90 (ix5 0 0 0 d i) = v90 (ix2 ⟨8 * 96 + d.val, by omega⟩ i) * scaleQ := by
  pointwise [k0_pay54]
  all_goals first | rfl | (simp only [Nat.zero_mul, Nat.zero_add]; rfl)

theorem second_7 (v90 : FVec Ideal S1536x512 .f32) (v92 v94 : FVec Ideal S16x512 .f32) (d : Fin 16) (i : Fin 512) :
    k0_pay53 v90 v92 v94 (ix5 0 0 0 d i) = (v90 (ix2 ⟨7 * 96 + 80 + d.val, by omega⟩ i) * v92 (ix2 d i) + v90 (ix2 ⟨7 * 96 + 64 + d.val, by omega⟩ i) * v94 (ix2 d i)) * scaleQ := by
  pointwise [k0_pay50, k0_pay51, k0_pay53]
  all_goals first | rfl | (simp only [Nat.zero_mul, Nat.zero_add]; rfl)

theorem first_7 (v90 : FVec Ideal S1536x512 .f32) (v92 v94 : FVec Ideal S16x512 .f32) (d : Fin 16) (i : Fin 512) :
    k0_pay52 v90 v92 v94 (ix5 0 0 0 d i) = (v90 (ix2 ⟨7 * 96 + 64 + d.val, by omega⟩ i) * v92 (ix2 d i) - v90 (ix2 ⟨7 * 96 + 80 + d.val, by omega⟩ i) * v94 (ix2 d i)) * scaleQ := by
  pointwise [k0_pay50, k0_pay51, k0_pay52]
  all_goals first | rfl | (simp only [Nat.zero_mul, Nat.zero_add]; rfl)

theorem low_7 (v90 : FVec Ideal S1536x512 .f32) (v92 v94 : FVec Ideal S16x512 .f32) (d : Fin 64) (i : Fin 512) :
    k0_pay49 v90 (ix5 0 0 0 d i) = v90 (ix2 ⟨7 * 96 + d.val, by omega⟩ i) * scaleQ := by
  pointwise [k0_pay49]
  all_goals first | rfl | (simp only [Nat.zero_mul, Nat.zero_add]; rfl)

theorem second_6 (v90 : FVec Ideal S1536x512 .f32) (v92 v94 : FVec Ideal S16x512 .f32) (d : Fin 16) (i : Fin 512) :
    k0_pay48 (k0_pay47 v90 v92 v94) (Scalar.ofBits .f32 0x3E16C740#32 : Ideal .f32) (ix5 0 0 0 d i) = (v90 (ix2 ⟨6 * 96 + 80 + d.val, by omega⟩ i) * v92 (ix2 d i) + v90 (ix2 ⟨6 * 96 + 64 + d.val, by omega⟩ i) * v94 (ix2 d i)) * scaleQ := by
  pointwise [k0_pay44, k0_pay45, k0_pay47, k0_pay48]
  all_goals first | rfl | (simp only [Nat.zero_mul, Nat.zero_add]; rfl)

theorem first_6 (v90 : FVec Ideal S1536x512 .f32) (v92 v94 : FVec Ideal S16x512 .f32) (d : Fin 16) (i : Fin 512) :
    k0_pay46 v90 v92 v94 (ix5 0 0 0 d i) = (v90 (ix2 ⟨6 * 96 + 64 + d.val, by omega⟩ i) * v92 (ix2 d i) - v90 (ix2 ⟨6 * 96 + 80 + d.val, by omega⟩ i) * v94 (ix2 d i)) * scaleQ := by
  pointwise [k0_pay44, k0_pay45, k0_pay46]
  all_goals first | rfl | (simp only [Nat.zero_mul, Nat.zero_add]; rfl)

theorem low_6 (v90 : FVec Ideal S1536x512 .f32) (v92 v94 : FVec Ideal S16x512 .f32) (d : Fin 64) (i : Fin 512) :
    k0_pay43 v90 (ix5 0 0 0 d i) = v90 (ix2 ⟨6 * 96 + d.val, by omega⟩ i) * scaleQ := by
  pointwise [k0_pay43]
  all_goals first | rfl | (simp only [Nat.zero_mul, Nat.zero_add]; rfl)

theorem second_5 (v90 : FVec Ideal S1536x512 .f32) (v92 v94 : FVec Ideal S16x512 .f32) (d : Fin 16) (i : Fin 512) :
    k0_pay42 v92 v94 (k0_pay38 v90) (k0_pay39 v90) (ix5 0 0 0 d i) = (v90 (ix2 ⟨5 * 96 + 80 + d.val, by omega⟩ i) * v92 (ix2 d i) + v90 (ix2 ⟨5 * 96 + 64 + d.val, by omega⟩ i) * v94 (ix2 d i)) * scaleQ := by
  pointwise [k0_pay38, k0_pay39, k0_pay42]
  all_goals first | rfl | (simp only [Nat.zero_mul, Nat.zero_add]; rfl)

theorem first_5 (v90 : FVec Ideal S1536x512 .f32) (v92 v94 : FVec Ideal S16x512 .f32) (d : Fin 16) (i : Fin 512) :
    k0_pay41 (k0_pay40 v90 v92 v94) (ix5 0 0 0 d i) = (v90 (ix2 ⟨5 * 96 + 64 + d.val, by omega⟩ i) * v92 (ix2 d i) - v90 (ix2 ⟨5 * 96 + 80 + d.val, by omega⟩ i) * v94 (ix2 d i)) * scaleQ := by
  pointwise [k0_pay38, k0_pay39, k0_pay40, k0_pay41]
  all_goals first | rfl | (simp only [Nat.zero_mul, Nat.zero_add]; rfl)

theorem low_5 (v90 : FVec Ideal S1536x512 .f32) (v92 v94 : FVec Ideal S16x512 .f32) (d : Fin 64) (i : Fin 512) :
    k0_pay37 v90 (ix5 0 0 0 d i) = v90 (ix2 ⟨5 * 96 + d.val, by omega⟩ i) * scaleQ := by
  pointwise [k0_pay37]
  all_goals first | rfl | (simp only [Nat.zero_mul, Nat.zero_add]; rfl)

theorem second_4 (v90 : FVec Ideal S1536x512 .f32) (v92 v94 : FVec Ideal S16x512 .f32) (d : Fin 16) (i : Fin 512) :
    k0_pay36 v90 v92 v94 (ix5 0 0 0 d i) = (v90 (ix2 ⟨4 * 96 + 80 + d.val, by omega⟩ i) * v92 (ix2 d i) + v90 (ix2 ⟨4 * 96 + 64 + d.val, by omega⟩ i) * v94 (ix2 d i)) * scaleQ := by
  pointwise [k0_pay33, k0_pay34, k0_pay36]
  all_goals first | rfl | (simp only [Nat.zero_mul, Nat.zero_add]; rfl)

theorem first_4 (v90 : FVec Ideal S1536x512 .f32) (v92 v94 : FVec Ideal S16x512 .f32) (d : Fin 16) (i : Fin 512) :
    k0_pay35 v90 v92 v94 (ix5 0 0 0 d i) = (v90 (ix2 ⟨4 * 96 + 64 + d.val, by omega⟩ i) * v92 (ix2 d i) - v90 (ix2 ⟨4 * 96 + 80 + d.val, by omega⟩ i) * v94 (ix2 d i)) * scaleQ := by
  pointwise [k0_pay33, k0_pay34, k0_pay35]
  all_goals first | rfl | (simp only [Nat.zero_mul, Nat.zero_add]; rfl)

theorem low_4 (v90 : FVec Ideal S1536x512 .f32) (v92 v94 : FVec Ideal S16x512 .f32) (d : Fin 64) (i : Fin 512) :
    k0_pay32 (k0_pay31 v90) (ix5 0 0 0 d i) = v90 (ix2 ⟨4 * 96 + d.val, by omega⟩ i) * scaleQ := by
  pointwise [k0_pay31, k0_pay32]
  all_goals first | rfl | (simp only [Nat.zero_mul, Nat.zero_add]; rfl)

theorem second_3 (v90 : FVec Ideal S1536x512 .f32) (v92 v94 : FVec Ideal S16x512 .f32) (d : Fin 16) (i : Fin 512) :
    k0_pay30 v90 v92 v94 (ix5 0 0 0 d i) = (v90 (ix2 ⟨3 * 96 + 80 + d.val, by omega⟩ i) * v92 (ix2 d i) + v90 (ix2 ⟨3 * 96 + 64 + d.val, by omega⟩ i) * v94 (ix2 d i)) * scaleQ := by
  pointwise [k0_pay27, k0_pay28, k0_pay30]
  all_goals first | rfl | (simp only [Nat.zero_mul, Nat.zero_add]; rfl)

theorem first_3 (v90 : FVec Ideal S1536x512 .f32) (v92 v94 : FVec Ideal S16x512 .f32) (d : Fin 16) (i : Fin 512) :
    k0_pay29 v90 v92 v94 (ix5 0 0 0 d i) = (v90 (ix2 ⟨3 * 96 + 64 + d.val, by omega⟩ i) * v92 (ix2 d i) - v90 (ix2 ⟨3 * 96 + 80 + d.val, by omega⟩ i) * v94 (ix2 d i)) * scaleQ := by
  pointwise [k0_pay27, k0_pay28, k0_pay29]
  all_goals first | rfl | (simp only [Nat.zero_mul, Nat.zero_add]; rfl)

theorem low_3 (v90 : FVec Ideal S1536x512 .f32) (v92 v94 : FVec Ideal S16x512 .f32) (d : Fin 64) (i : Fin 512) :
    k0_pay26 v90 (ix5 0 0 0 d i) = v90 (ix2 ⟨3 * 96 + d.val, by omega⟩ i) * scaleQ := by
  pointwise [k0_pay26]
  all_goals first | rfl | (simp only [Nat.zero_mul, Nat.zero_add]; rfl)

theorem second_2 (v90 : FVec Ideal S1536x512 .f32) (v92 v94 : FVec Ideal S16x512 .f32) (d : Fin 16) (i : Fin 512) :
    k0_pay25 v90 v92 v94 (ix5 0 0 0 d i) = (v90 (ix2 ⟨2 * 96 + 80 + d.val, by omega⟩ i) * v92 (ix2 d i) + v90 (ix2 ⟨2 * 96 + 64 + d.val, by omega⟩ i) * v94 (ix2 d i)) * scaleQ := by
  pointwise [k0_pay22, k0_pay23, k0_pay25]
  all_goals first | rfl | (simp only [Nat.zero_mul, Nat.zero_add]; rfl)

theorem first_2 (v90 : FVec Ideal S1536x512 .f32) (v92 v94 : FVec Ideal S16x512 .f32) (d : Fin 16) (i : Fin 512) :
    k0_pay24 v90 v92 v94 (ix5 0 0 0 d i) = (v90 (ix2 ⟨2 * 96 + 64 + d.val, by omega⟩ i) * v92 (ix2 d i) - v90 (ix2 ⟨2 * 96 + 80 + d.val, by omega⟩ i) * v94 (ix2 d i)) * scaleQ := by
  pointwise [k0_pay22, k0_pay23, k0_pay24]
  all_goals first | rfl | (simp only [Nat.zero_mul, Nat.zero_add]; rfl)

theorem low_2 (v90 : FVec Ideal S1536x512 .f32) (v92 v94 : FVec Ideal S16x512 .f32) (d : Fin 64) (i : Fin 512) :
    k0_pay21 v90 (ix5 0 0 0 d i) = v90 (ix2 ⟨2 * 96 + d.val, by omega⟩ i) * scaleQ := by
  pointwise [k0_pay21]
  all_goals first | rfl | (simp only [Nat.zero_mul, Nat.zero_add]; rfl)

theorem second_1 (v90 : FVec Ideal S1536x512 .f32) (v92 v94 : FVec Ideal S16x512 .f32) (d : Fin 16) (i : Fin 512) :
    k0_pay20 (k0_pay19 v90 v92 v94) (Scalar.ofBits .f32 0x3E16C740#32 : Ideal .f32) (ix5 0 0 0 d i) = (v90 (ix2 ⟨1 * 96 + 80 + d.val, by omega⟩ i) * v92 (ix2 d i) + v90 (ix2 ⟨1 * 96 + 64 + d.val, by omega⟩ i) * v94 (ix2 d i)) * scaleQ := by
  pointwise [k0_pay16, k0_pay17, k0_pay19, k0_pay20]
  all_goals first | rfl | (simp only [Nat.zero_mul, Nat.zero_add]; rfl)

theorem first_1 (v90 : FVec Ideal S1536x512 .f32) (v92 v94 : FVec Ideal S16x512 .f32) (d : Fin 16) (i : Fin 512) :
    k0_pay18 v90 v92 v94 (ix5 0 0 0 d i) = (v90 (ix2 ⟨1 * 96 + 64 + d.val, by omega⟩ i) * v92 (ix2 d i) - v90 (ix2 ⟨1 * 96 + 80 + d.val, by omega⟩ i) * v94 (ix2 d i)) * scaleQ := by
  pointwise [k0_pay16, k0_pay17, k0_pay18]
  all_goals first | rfl | (simp only [Nat.zero_mul, Nat.zero_add]; rfl)

theorem low_1 (v90 : FVec Ideal S1536x512 .f32) (v92 v94 : FVec Ideal S16x512 .f32) (d : Fin 64) (i : Fin 512) :
    k0_pay15 v90 (ix5 0 0 0 d i) = v90 (ix2 ⟨1 * 96 + d.val, by omega⟩ i) * scaleQ := by
  pointwise [k0_pay15]
  all_goals first | rfl | (simp only [Nat.zero_mul, Nat.zero_add]; rfl)

theorem second_0 (v58 : FVec Ideal S1408x512 .f32) (v83 : Vec Ideal S256x128 .f32) (v88 : Vec Ideal S1536x256 .bf16) (v91 v93 : Vec Ideal S16x512 .f32) (d : Fin 16) (i : Fin 512) :
    k0_pay14 (k0_pay7 v91) (k0_pay8 v93) (k0_pay10 v58 v83 v88) (k0_pay11 v58 v83 v88) (ix5 0 0 0 d i) = ((k0_pay6 v58 v83 v88) (ix2 ⟨0 * 96 + 80 + d.val, by omega⟩ i) * (k0_pay7 v91) (ix2 d i) + (k0_pay6 v58 v83 v88) (ix2 ⟨0 * 96 + 64 + d.val, by omega⟩ i) * (k0_pay8 v93) (ix2 d i)) * scaleQ := by
  pointwise [k0_pay10, k0_pay11, k0_pay14]
  all_goals first | rfl | (simp only [Nat.zero_mul, Nat.zero_add]; rfl)

theorem first_0 (v58 : FVec Ideal S1408x512 .f32) (v83 : Vec Ideal S256x128 .f32) (v88 : Vec Ideal S1536x256 .bf16) (v91 v93 : Vec Ideal S16x512 .f32) (d : Fin 16) (i : Fin 512) :
    k0_pay13 (k0_pay12 v58 v83 v88 v91 v93) (ix5 0 0 0 d i) = ((k0_pay6 v58 v83 v88) (ix2 ⟨0 * 96 + 64 + d.val, by omega⟩ i) * (k0_pay7 v91) (ix2 d i) - (k0_pay6 v58 v83 v88) (ix2 ⟨0 * 96 + 80 + d.val, by omega⟩ i) * (k0_pay8 v93) (ix2 d i)) * scaleQ := by
  pointwise [k0_pay10, k0_pay11, k0_pay12, k0_pay13]
  all_goals first | rfl | (simp only [Nat.zero_mul, Nat.zero_add]; rfl)

theorem low_0 (v58 : FVec Ideal S1408x512 .f32) (v83 : Vec Ideal S256x128 .f32) (v88 : Vec Ideal S1536x256 .bf16) (v91 v93 : Vec Ideal S16x512 .f32) (d : Fin 64) (i : Fin 512) :
    k0_pay9 v58 v83 v88 (ix5 0 0 0 d i) = (k0_pay6 v58 v83 v88) (ix2 ⟨0 * 96 + d.val, by omega⟩ i) * scaleQ := by
  pointwise [k0_pay9]
  all_goals first | rfl | (simp only [Nat.zero_mul, Nat.zero_add]; rfl)

set_option maxHeartbeats 2000000 in
/-- The window of the queries after the body. -/
theorem outQuery_eq (x0 : Vec Ideal S1x512x1024 .f32) (x1 : Vec Ideal S1x512x512 .bf16) (x2 : Vec Ideal S1x512x512 .bf16) (x3 : Vec Ideal S1x512x1024 .bf16) (x4 : Vec Ideal S1x1x1024 .f32) (x5 : Vec Ideal S1024x1024 .bf16) (x6 : Vec Ideal S1x1024 .f32) (x7 : Vec Ideal S1x1x1024 .f32) (x8 : Vec Ideal S1x1x1024 .f32) (x9 : Vec Ideal S1408x1024 .bf16) (x11 : Vec Ideal S256x128 .f32) (x14 : Vec Ideal S1536x256 .bf16) (x17 : Vec Ideal S16x512 .f32) (x18 : Vec Ideal S16x512 .f32) :
    outQuery x0 x1 x2 x3 x4 x5 x6 x7 x8 x9 x11 x14 x17 x18 = queryWin (queryT x0 x1 x2 x3 x4 x5 x6 x7 x8 x9 x11 x14) (cosBlk x17) (sinBlk x18) := by
  funext y
  refine View.canon_apply_of_pieces (Val := Elt Ideal) _ _ ?_ y (outQuery_cover x0 x1 x2 x3 x4 x5 x6 x7 x8 x9 x11 x14 x17 x18 y)
  unfold outQueryPieces
  refine List.forall_mem_cons.2 ⟨second_piece _ _ _ 15 (by decide) _ inb_S1x16x1x96x512_S1x1x1x16x512_0_15_0_80_0 (second_15 (queryT x0 x1 x2 x3 x4 x5 x6 x7 x8 x9 x11 x14) (cosBlk x17) (sinBlk x18)), ?_⟩
  refine List.forall_mem_cons.2 ⟨first_piece _ _ _ 15 (by decide) _ inb_S1x16x1x96x512_S1x1x1x16x512_0_15_0_64_0 (first_15 (queryT x0 x1 x2 x3 x4 x5 x6 x7 x8 x9 x11 x14) (cosBlk x17) (sinBlk x18)), ?_⟩
  refine List.forall_mem_cons.2 ⟨low_piece _ _ _ 15 (by decide) _ inb_S1x16x1x96x512_S1x1x1x64x512_0_15_0_0_0 (low_15 (queryT x0 x1 x2 x3 x4 x5 x6 x7 x8 x9 x11 x14) (cosBlk x17) (sinBlk x18)), ?_⟩
  refine List.forall_mem_cons.2 ⟨second_piece _ _ _ 14 (by decide) _ inb_S1x16x1x96x512_S1x1x1x16x512_0_14_0_80_0 (second_14 (queryT x0 x1 x2 x3 x4 x5 x6 x7 x8 x9 x11 x14) (cosBlk x17) (sinBlk x18)), ?_⟩
  refine List.forall_mem_cons.2 ⟨first_piece _ _ _ 14 (by decide) _ inb_S1x16x1x96x512_S1x1x1x16x512_0_14_0_64_0 (first_14 (queryT x0 x1 x2 x3 x4 x5 x6 x7 x8 x9 x11 x14) (cosBlk x17) (sinBlk x18)), ?_⟩
  refine List.forall_mem_cons.2 ⟨low_piece _ _ _ 14 (by decide) _ inb_S1x16x1x96x512_S1x1x1x64x512_0_14_0_0_0 (low_14 (queryT x0 x1 x2 x3 x4 x5 x6 x7 x8 x9 x11 x14) (cosBlk x17) (sinBlk x18)), ?_⟩
  refine List.forall_mem_cons.2 ⟨second_piece _ _ _ 13 (by decide) _ inb_S1x16x1x96x512_S1x1x1x16x512_0_13_0_80_0 (second_13 (queryT x0 x1 x2 x3 x4 x5 x6 x7 x8 x9 x11 x14) (cosBlk x17) (sinBlk x18)), ?_⟩
  refine List.forall_mem_cons.2 ⟨first_piece _ _ _ 13 (by decide) _ inb_S1x16x1x96x512_S1x1x1x16x512_0_13_0_64_0 (first_13 (queryT x0 x1 x2 x3 x4 x5 x6 x7 x8 x9 x11 x14) (cosBlk x17) (sinBlk x18)), ?_⟩
  refine List.forall_mem_cons.2 ⟨low_piece _ _ _ 13 (by decide) _ inb_S1x16x1x96x512_S1x1x1x64x512_0_13_0_0_0 (low_13 (queryT x0 x1 x2 x3 x4 x5 x6 x7 x8 x9 x11 x14) (cosBlk x17) (sinBlk x18)), ?_⟩
  refine List.forall_mem_cons.2 ⟨second_piece _ _ _ 12 (by decide) _ inb_S1x16x1x96x512_S1x1x1x16x512_0_12_0_80_0 (second_12 (queryT x0 x1 x2 x3 x4 x5 x6 x7 x8 x9 x11 x14) (cosBlk x17) (sinBlk x18)), ?_⟩
  refine List.forall_mem_cons.2 ⟨first_piece _ _ _ 12 (by decide) _ inb_S1x16x1x96x512_S1x1x1x16x512_0_12_0_64_0 (first_12 (queryT x0 x1 x2 x3 x4 x5 x6 x7 x8 x9 x11 x14) (cosBlk x17) (sinBlk x18)), ?_⟩
  refine List.forall_mem_cons.2 ⟨low_piece _ _ _ 12 (by decide) _ inb_S1x16x1x96x512_S1x1x1x64x512_0_12_0_0_0 (low_12 (queryT x0 x1 x2 x3 x4 x5 x6 x7 x8 x9 x11 x14) (cosBlk x17) (sinBlk x18)), ?_⟩
  refine List.forall_mem_cons.2 ⟨second_piece _ _ _ 11 (by decide) _ inb_S1x16x1x96x512_S1x1x1x16x512_0_11_0_80_0 (second_11 (queryT x0 x1 x2 x3 x4 x5 x6 x7 x8 x9 x11 x14) (cosBlk x17) (sinBlk x18)), ?_⟩
  refine List.forall_mem_cons.2 ⟨first_piece _ _ _ 11 (by decide) _ inb_S1x16x1x96x512_S1x1x1x16x512_0_11_0_64_0 (first_11 (queryT x0 x1 x2 x3 x4 x5 x6 x7 x8 x9 x11 x14) (cosBlk x17) (sinBlk x18)), ?_⟩
  refine List.forall_mem_cons.2 ⟨low_piece _ _ _ 11 (by decide) _ inb_S1x16x1x96x512_S1x1x1x64x512_0_11_0_0_0 (low_11 (queryT x0 x1 x2 x3 x4 x5 x6 x7 x8 x9 x11 x14) (cosBlk x17) (sinBlk x18)), ?_⟩
  refine List.forall_mem_cons.2 ⟨second_piece _ _ _ 10 (by decide) _ inb_S1x16x1x96x512_S1x1x1x16x512_0_10_0_80_0 (second_10 (queryT x0 x1 x2 x3 x4 x5 x6 x7 x8 x9 x11 x14) (cosBlk x17) (sinBlk x18)), ?_⟩
  refine List.forall_mem_cons.2 ⟨first_piece _ _ _ 10 (by decide) _ inb_S1x16x1x96x512_S1x1x1x16x512_0_10_0_64_0 (first_10 (queryT x0 x1 x2 x3 x4 x5 x6 x7 x8 x9 x11 x14) (cosBlk x17) (sinBlk x18)), ?_⟩
  refine List.forall_mem_cons.2 ⟨low_piece _ _ _ 10 (by decide) _ inb_S1x16x1x96x512_S1x1x1x64x512_0_10_0_0_0 (low_10 (queryT x0 x1 x2 x3 x4 x5 x6 x7 x8 x9 x11 x14) (cosBlk x17) (sinBlk x18)), ?_⟩
  refine List.forall_mem_cons.2 ⟨second_piece _ _ _ 9 (by decide) _ inb_S1x16x1x96x512_S1x1x1x16x512_0_9_0_80_0 (second_9 (queryT x0 x1 x2 x3 x4 x5 x6 x7 x8 x9 x11 x14) (cosBlk x17) (sinBlk x18)), ?_⟩
  refine List.forall_mem_cons.2 ⟨first_piece _ _ _ 9 (by decide) _ inb_S1x16x1x96x512_S1x1x1x16x512_0_9_0_64_0 (first_9 (queryT x0 x1 x2 x3 x4 x5 x6 x7 x8 x9 x11 x14) (cosBlk x17) (sinBlk x18)), ?_⟩
  refine List.forall_mem_cons.2 ⟨low_piece _ _ _ 9 (by decide) _ inb_S1x16x1x96x512_S1x1x1x64x512_0_9_0_0_0 (low_9 (queryT x0 x1 x2 x3 x4 x5 x6 x7 x8 x9 x11 x14) (cosBlk x17) (sinBlk x18)), ?_⟩
  refine List.forall_mem_cons.2 ⟨second_piece _ _ _ 8 (by decide) _ inb_S1x16x1x96x512_S1x1x1x16x512_0_8_0_80_0 (second_8 (queryT x0 x1 x2 x3 x4 x5 x6 x7 x8 x9 x11 x14) (cosBlk x17) (sinBlk x18)), ?_⟩
  refine List.forall_mem_cons.2 ⟨first_piece _ _ _ 8 (by decide) _ inb_S1x16x1x96x512_S1x1x1x16x512_0_8_0_64_0 (first_8 (queryT x0 x1 x2 x3 x4 x5 x6 x7 x8 x9 x11 x14) (cosBlk x17) (sinBlk x18)), ?_⟩
  refine List.forall_mem_cons.2 ⟨low_piece _ _ _ 8 (by decide) _ inb_S1x16x1x96x512_S1x1x1x64x512_0_8_0_0_0 (low_8 (queryT x0 x1 x2 x3 x4 x5 x6 x7 x8 x9 x11 x14) (cosBlk x17) (sinBlk x18)), ?_⟩
  refine List.forall_mem_cons.2 ⟨second_piece _ _ _ 7 (by decide) _ inb_S1x16x1x96x512_S1x1x1x16x512_0_7_0_80_0 (second_7 (queryT x0 x1 x2 x3 x4 x5 x6 x7 x8 x9 x11 x14) (cosBlk x17) (sinBlk x18)), ?_⟩
  refine List.forall_mem_cons.2 ⟨first_piece _ _ _ 7 (by decide) _ inb_S1x16x1x96x512_S1x1x1x16x512_0_7_0_64_0 (first_7 (queryT x0 x1 x2 x3 x4 x5 x6 x7 x8 x9 x11 x14) (cosBlk x17) (sinBlk x18)), ?_⟩
  refine List.forall_mem_cons.2 ⟨low_piece _ _ _ 7 (by decide) _ inb_S1x16x1x96x512_S1x1x1x64x512_0_7_0_0_0 (low_7 (queryT x0 x1 x2 x3 x4 x5 x6 x7 x8 x9 x11 x14) (cosBlk x17) (sinBlk x18)), ?_⟩
  refine List.forall_mem_cons.2 ⟨second_piece _ _ _ 6 (by decide) _ inb_S1x16x1x96x512_S1x1x1x16x512_0_6_0_80_0 (second_6 (queryT x0 x1 x2 x3 x4 x5 x6 x7 x8 x9 x11 x14) (cosBlk x17) (sinBlk x18)), ?_⟩
  refine List.forall_mem_cons.2 ⟨first_piece _ _ _ 6 (by decide) _ inb_S1x16x1x96x512_S1x1x1x16x512_0_6_0_64_0 (first_6 (queryT x0 x1 x2 x3 x4 x5 x6 x7 x8 x9 x11 x14) (cosBlk x17) (sinBlk x18)), ?_⟩
  refine List.forall_mem_cons.2 ⟨low_piece _ _ _ 6 (by decide) _ inb_S1x16x1x96x512_S1x1x1x64x512_0_6_0_0_0 (low_6 (queryT x0 x1 x2 x3 x4 x5 x6 x7 x8 x9 x11 x14) (cosBlk x17) (sinBlk x18)), ?_⟩
  refine List.forall_mem_cons.2 ⟨second_piece _ _ _ 5 (by decide) _ inb_S1x16x1x96x512_S1x1x1x16x512_0_5_0_80_0 (second_5 (queryT x0 x1 x2 x3 x4 x5 x6 x7 x8 x9 x11 x14) (cosBlk x17) (sinBlk x18)), ?_⟩
  refine List.forall_mem_cons.2 ⟨first_piece _ _ _ 5 (by decide) _ inb_S1x16x1x96x512_S1x1x1x16x512_0_5_0_64_0 (first_5 (queryT x0 x1 x2 x3 x4 x5 x6 x7 x8 x9 x11 x14) (cosBlk x17) (sinBlk x18)), ?_⟩
  refine List.forall_mem_cons.2 ⟨low_piece _ _ _ 5 (by decide) _ inb_S1x16x1x96x512_S1x1x1x64x512_0_5_0_0_0 (low_5 (queryT x0 x1 x2 x3 x4 x5 x6 x7 x8 x9 x11 x14) (cosBlk x17) (sinBlk x18)), ?_⟩
  refine List.forall_mem_cons.2 ⟨second_piece _ _ _ 4 (by decide) _ inb_S1x16x1x96x512_S1x1x1x16x512_0_4_0_80_0 (second_4 (queryT x0 x1 x2 x3 x4 x5 x6 x7 x8 x9 x11 x14) (cosBlk x17) (sinBlk x18)), ?_⟩
  refine List.forall_mem_cons.2 ⟨first_piece _ _ _ 4 (by decide) _ inb_S1x16x1x96x512_S1x1x1x16x512_0_4_0_64_0 (first_4 (queryT x0 x1 x2 x3 x4 x5 x6 x7 x8 x9 x11 x14) (cosBlk x17) (sinBlk x18)), ?_⟩
  refine List.forall_mem_cons.2 ⟨low_piece _ _ _ 4 (by decide) _ inb_S1x16x1x96x512_S1x1x1x64x512_0_4_0_0_0 (low_4 (queryT x0 x1 x2 x3 x4 x5 x6 x7 x8 x9 x11 x14) (cosBlk x17) (sinBlk x18)), ?_⟩
  refine List.forall_mem_cons.2 ⟨second_piece _ _ _ 3 (by decide) _ inb_S1x16x1x96x512_S1x1x1x16x512_0_3_0_80_0 (second_3 (queryT x0 x1 x2 x3 x4 x5 x6 x7 x8 x9 x11 x14) (cosBlk x17) (sinBlk x18)), ?_⟩
  refine List.forall_mem_cons.2 ⟨first_piece _ _ _ 3 (by decide) _ inb_S1x16x1x96x512_S1x1x1x16x512_0_3_0_64_0 (first_3 (queryT x0 x1 x2 x3 x4 x5 x6 x7 x8 x9 x11 x14) (cosBlk x17) (sinBlk x18)), ?_⟩
  refine List.forall_mem_cons.2 ⟨low_piece _ _ _ 3 (by decide) _ inb_S1x16x1x96x512_S1x1x1x64x512_0_3_0_0_0 (low_3 (queryT x0 x1 x2 x3 x4 x5 x6 x7 x8 x9 x11 x14) (cosBlk x17) (sinBlk x18)), ?_⟩
  refine List.forall_mem_cons.2 ⟨second_piece _ _ _ 2 (by decide) _ inb_S1x16x1x96x512_S1x1x1x16x512_0_2_0_80_0 (second_2 (queryT x0 x1 x2 x3 x4 x5 x6 x7 x8 x9 x11 x14) (cosBlk x17) (sinBlk x18)), ?_⟩
  refine List.forall_mem_cons.2 ⟨first_piece _ _ _ 2 (by decide) _ inb_S1x16x1x96x512_S1x1x1x16x512_0_2_0_64_0 (first_2 (queryT x0 x1 x2 x3 x4 x5 x6 x7 x8 x9 x11 x14) (cosBlk x17) (sinBlk x18)), ?_⟩
  refine List.forall_mem_cons.2 ⟨low_piece _ _ _ 2 (by decide) _ inb_S1x16x1x96x512_S1x1x1x64x512_0_2_0_0_0 (low_2 (queryT x0 x1 x2 x3 x4 x5 x6 x7 x8 x9 x11 x14) (cosBlk x17) (sinBlk x18)), ?_⟩
  refine List.forall_mem_cons.2 ⟨second_piece _ _ _ 1 (by decide) _ inb_S1x16x1x96x512_S1x1x1x16x512_0_1_0_80_0 (second_1 (queryT x0 x1 x2 x3 x4 x5 x6 x7 x8 x9 x11 x14) (cosBlk x17) (sinBlk x18)), ?_⟩
  refine List.forall_mem_cons.2 ⟨first_piece _ _ _ 1 (by decide) _ inb_S1x16x1x96x512_S1x1x1x16x512_0_1_0_64_0 (first_1 (queryT x0 x1 x2 x3 x4 x5 x6 x7 x8 x9 x11 x14) (cosBlk x17) (sinBlk x18)), ?_⟩
  refine List.forall_mem_cons.2 ⟨low_piece _ _ _ 1 (by decide) _ inb_S1x16x1x96x512_S1x1x1x64x512_0_1_0_0_0 (low_1 (queryT x0 x1 x2 x3 x4 x5 x6 x7 x8 x9 x11 x14) (cosBlk x17) (sinBlk x18)), ?_⟩
  refine List.forall_mem_cons.2 ⟨second_piece _ _ _ 0 (by decide) _ inb_S1x16x1x96x512_S1x1x1x16x512_0_0_0_80_0 (second_0 (projT x0 x1 x2 x3 x4 x5 x6 x7 x8 x9) (View.ld x11 (Rect.unit (s := S256x128) ![0, 0] S256x128.size inb_S256x128_S256x128_0_0)) (View.ld x14 (Rect.unit (s := S1536x256) ![0, 0] S1536x256.size inb_S1536x256_S1536x256_0_0)) (View.ld x17 (Rect.unit (s := S16x512) ![0, 0] S16x512.size inb_S16x512_S16x512_0_0)) (View.ld x18 (Rect.unit (s := S16x512) ![0, 0] S16x512.size inb_S16x512_S16x512_0_0))), ?_⟩
  refine List.forall_mem_cons.2 ⟨first_piece _ _ _ 0 (by decide) _ inb_S1x16x1x96x512_S1x1x1x16x512_0_0_0_64_0 (first_0 (projT x0 x1 x2 x3 x4 x5 x6 x7 x8 x9) (View.ld x11 (Rect.unit (s := S256x128) ![0, 0] S256x128.size inb_S256x128_S256x128_0_0)) (View.ld x14 (Rect.unit (s := S1536x256) ![0, 0] S1536x256.size inb_S1536x256_S1536x256_0_0)) (View.ld x17 (Rect.unit (s := S16x512) ![0, 0] S16x512.size inb_S16x512_S16x512_0_0)) (View.ld x18 (Rect.unit (s := S16x512) ![0, 0] S16x512.size inb_S16x512_S16x512_0_0))), ?_⟩
  refine List.forall_mem_cons.2 ⟨low_piece _ _ _ 0 (by decide) _ inb_S1x16x1x96x512_S1x1x1x64x512_0_0_0_0_0 (low_0 (projT x0 x1 x2 x3 x4 x5 x6 x7 x8 x9) (View.ld x11 (Rect.unit (s := S256x128) ![0, 0] S256x128.size inb_S256x128_S256x128_0_0)) (View.ld x14 (Rect.unit (s := S1536x256) ![0, 0] S1536x256.size inb_S1536x256_S1536x256_0_0)) (View.ld x17 (Rect.unit (s := S16x512) ![0, 0] S16x512.size inb_S16x512_S16x512_0_0)) (View.ld x18 (Rect.unit (s := S16x512) ![0, 0] S16x512.size inb_S16x512_S16x512_0_0))), ?_⟩
  exact fun _ h => absurd h List.not_mem_nil

/-! ## The keys' stores -/

theorem key_15 (kn : FVec Ideal S512x2048 .f32) (kr : FVec Ideal S512x128 .f32) (n : Fin 512) (d : Fin 96) :
    k0_pay119 kn kr (ix4 0 0 n d) = kn (ix2 n ⟨15 * 128 + d.val, by omega⟩) + kr (ix2 n ⟨d.val, by omega⟩) := by
  pointwise [k0_pay119]

theorem key_14 (kn : FVec Ideal S512x2048 .f32) (kr : FVec Ideal S512x128 .f32) (n : Fin 512) (d : Fin 96) :
    k0_pay118 kn kr (ix4 0 0 n d) = kn (ix2 n ⟨14 * 128 + d.val, by omega⟩) + kr (ix2 n ⟨d.val, by omega⟩) := by
  pointwise [k0_pay118]

theorem key_13 (kn : FVec Ideal S512x2048 .f32) (kr : FVec Ideal S512x128 .f32) (n : Fin 512) (d : Fin 96) :
    k0_pay117 kn kr (ix4 0 0 n d) = kn (ix2 n ⟨13 * 128 + d.val, by omega⟩) + kr (ix2 n ⟨d.val, by omega⟩) := by
  pointwise [k0_pay117]

theorem key_12 (kn : FVec Ideal S512x2048 .f32) (kr : FVec Ideal S512x128 .f32) (n : Fin 512) (d : Fin 96) :
    k0_pay116 kn kr (ix4 0 0 n d) = kn (ix2 n ⟨12 * 128 + d.val, by omega⟩) + kr (ix2 n ⟨d.val, by omega⟩) := by
  pointwise [k0_pay116]

theorem key_11 (kn : FVec Ideal S512x2048 .f32) (kr : FVec Ideal S512x128 .f32) (n : Fin 512) (d : Fin 96) :
    k0_pay115 kn kr (ix4 0 0 n d) = kn (ix2 n ⟨11 * 128 + d.val, by omega⟩) + kr (ix2 n ⟨d.val, by omega⟩) := by
  pointwise [k0_pay115]

theorem key_10 (kn : FVec Ideal S512x2048 .f32) (kr : FVec Ideal S512x128 .f32) (n : Fin 512) (d : Fin 96) :
    k0_pay114 kn kr (ix4 0 0 n d) = kn (ix2 n ⟨10 * 128 + d.val, by omega⟩) + kr (ix2 n ⟨d.val, by omega⟩) := by
  pointwise [k0_pay114]

theorem key_9 (kn : FVec Ideal S512x2048 .f32) (kr : FVec Ideal S512x128 .f32) (n : Fin 512) (d : Fin 96) :
    k0_pay113 kn kr (ix4 0 0 n d) = kn (ix2 n ⟨9 * 128 + d.val, by omega⟩) + kr (ix2 n ⟨d.val, by omega⟩) := by
  pointwise [k0_pay113]

theorem key_8 (kn : FVec Ideal S512x2048 .f32) (kr : FVec Ideal S512x128 .f32) (n : Fin 512) (d : Fin 96) :
    k0_pay112 kn kr (ix4 0 0 n d) = kn (ix2 n ⟨8 * 128 + d.val, by omega⟩) + kr (ix2 n ⟨d.val, by omega⟩) := by
  pointwise [k0_pay112]

theorem key_7 (kn : FVec Ideal S512x2048 .f32) (kr : FVec Ideal S512x128 .f32) (n : Fin 512) (d : Fin 96) :
    k0_pay111 kn kr (ix4 0 0 n d) = kn (ix2 n ⟨7 * 128 + d.val, by omega⟩) + kr (ix2 n ⟨d.val, by omega⟩) := by
  pointwise [k0_pay111]

theorem key_6 (kn : FVec Ideal S512x2048 .f32) (kr : FVec Ideal S512x128 .f32) (n : Fin 512) (d : Fin 96) :
    k0_pay110 kn kr (ix4 0 0 n d) = kn (ix2 n ⟨6 * 128 + d.val, by omega⟩) + kr (ix2 n ⟨d.val, by omega⟩) := by
  pointwise [k0_pay110]

theorem key_5 (kn : FVec Ideal S512x2048 .f32) (kr : FVec Ideal S512x128 .f32) (n : Fin 512) (d : Fin 96) :
    k0_pay109 kn kr (ix4 0 0 n d) = kn (ix2 n ⟨5 * 128 + d.val, by omega⟩) + kr (ix2 n ⟨d.val, by omega⟩) := by
  pointwise [k0_pay109]

theorem key_4 (kn : FVec Ideal S512x2048 .f32) (kr : FVec Ideal S512x128 .f32) (n : Fin 512) (d : Fin 96) :
    k0_pay108 kn kr (ix4 0 0 n d) = kn (ix2 n ⟨4 * 128 + d.val, by omega⟩) + kr (ix2 n ⟨d.val, by omega⟩) := by
  pointwise [k0_pay108]

theorem key_3 (kn : FVec Ideal S512x2048 .f32) (kr : FVec Ideal S512x128 .f32) (n : Fin 512) (d : Fin 96) :
    k0_pay107 kn kr (ix4 0 0 n d) = kn (ix2 n ⟨3 * 128 + d.val, by omega⟩) + kr (ix2 n ⟨d.val, by omega⟩) := by
  pointwise [k0_pay107]

theorem key_2 (kn : FVec Ideal S512x2048 .f32) (kr : FVec Ideal S512x128 .f32) (n : Fin 512) (d : Fin 96) :
    k0_pay106 kn kr (ix4 0 0 n d) = kn (ix2 n ⟨2 * 128 + d.val, by omega⟩) + kr (ix2 n ⟨d.val, by omega⟩) := by
  pointwise [k0_pay106]

theorem key_1 (kn : FVec Ideal S512x2048 .f32) (kr : FVec Ideal S512x128 .f32) (n : Fin 512) (d : Fin 96) :
    k0_pay105 kn kr (ix4 0 0 n d) = kn (ix2 n ⟨1 * 128 + d.val, by omega⟩) + kr (ix2 n ⟨d.val, by omega⟩) := by
  pointwise [k0_pay105]

theorem key_0 (v55 : FVec Ideal S512x1024 .bf16) (v551 : Vec Ideal S1024x384 .bf16) (v565 : Vec Ideal S1x128 .f32) (v570 : Vec Ideal S128x2048 .bf16)
    (v574 v578 : Vec Ideal S512x128 .f32) (n : Fin 512) (d : Fin 96) :
    k0_pay104 v55 v551 v565 v570 v574 v578 (ix4 0 0 n d) = k0_pay102 v55 v551 v565 v570 (ix2 n ⟨0 * 128 + d.val, by omega⟩)
      + k0_pay103 v55 v551 v574 v578 (ix2 n ⟨d.val, by omega⟩) := by
  pointwise [k0_pay104]
  all_goals first | rfl | (simp only [Nat.zero_mul, Nat.zero_add]; rfl)

/-- The window of the keys after the body. -/
theorem outKey_eq (x0 : Vec Ideal S1x512x1024 .f32) (x1 : Vec Ideal S1x512x512 .bf16) (x2 : Vec Ideal S1x512x512 .bf16) (x3 : Vec Ideal S1x512x1024 .bf16) (x4 : Vec Ideal S1x1x1024 .f32) (x5 : Vec Ideal S1024x1024 .bf16) (x6 : Vec Ideal S1x1024 .f32) (x7 : Vec Ideal S1x1x1024 .f32) (x8 : Vec Ideal S1x1x1024 .f32) (x10 : Vec Ideal S1024x384 .bf16) (x13 : Vec Ideal S1x128 .f32) (x15 : Vec Ideal S128x2048 .bf16) (x19 : Vec Ideal S512x128 .f32) (x20 : Vec Ideal S512x128 .f32) :
    outKey x0 x1 x2 x3 x4 x5 x6 x7 x8 x10 x13 x15 x19 x20 = keyWin (keyNope x0 x1 x2 x3 x4 x5 x6 x7 x8 x10 x13 x15) (keyRope x0 x1 x2 x3 x4 x5 x6 x7 x8 x10 x19 x20) := by
  funext y
  refine View.canon_apply_of_pieces (Val := Elt Ideal) _ _ ?_ y (outKey_cover x0 x1 x2 x3 x4 x5 x6 x7 x8 x10 x13 x15 x19 x20 y)
  unfold outKeyPieces
  refine List.forall_mem_cons.2 ⟨key_piece _ _ 15 (by decide) _ inb_S1x16x512x96_S1x1x512x96_0_15_0_0 (key_15 _ _), ?_⟩
  refine List.forall_mem_cons.2 ⟨key_piece _ _ 14 (by decide) _ inb_S1x16x512x96_S1x1x512x96_0_14_0_0 (key_14 _ _), ?_⟩
  refine List.forall_mem_cons.2 ⟨key_piece _ _ 13 (by decide) _ inb_S1x16x512x96_S1x1x512x96_0_13_0_0 (key_13 _ _), ?_⟩
  refine List.forall_mem_cons.2 ⟨key_piece _ _ 12 (by decide) _ inb_S1x16x512x96_S1x1x512x96_0_12_0_0 (key_12 _ _), ?_⟩
  refine List.forall_mem_cons.2 ⟨key_piece _ _ 11 (by decide) _ inb_S1x16x512x96_S1x1x512x96_0_11_0_0 (key_11 _ _), ?_⟩
  refine List.forall_mem_cons.2 ⟨key_piece _ _ 10 (by decide) _ inb_S1x16x512x96_S1x1x512x96_0_10_0_0 (key_10 _ _), ?_⟩
  refine List.forall_mem_cons.2 ⟨key_piece _ _ 9 (by decide) _ inb_S1x16x512x96_S1x1x512x96_0_9_0_0 (key_9 _ _), ?_⟩
  refine List.forall_mem_cons.2 ⟨key_piece _ _ 8 (by decide) _ inb_S1x16x512x96_S1x1x512x96_0_8_0_0 (key_8 _ _), ?_⟩
  refine List.forall_mem_cons.2 ⟨key_piece _ _ 7 (by decide) _ inb_S1x16x512x96_S1x1x512x96_0_7_0_0 (key_7 _ _), ?_⟩
  refine List.forall_mem_cons.2 ⟨key_piece _ _ 6 (by decide) _ inb_S1x16x512x96_S1x1x512x96_0_6_0_0 (key_6 _ _), ?_⟩
  refine List.forall_mem_cons.2 ⟨key_piece _ _ 5 (by decide) _ inb_S1x16x512x96_S1x1x512x96_0_5_0_0 (key_5 _ _), ?_⟩
  refine List.forall_mem_cons.2 ⟨key_piece _ _ 4 (by decide) _ inb_S1x16x512x96_S1x1x512x96_0_4_0_0 (key_4 _ _), ?_⟩
  refine List.forall_mem_cons.2 ⟨key_piece _ _ 3 (by decide) _ inb_S1x16x512x96_S1x1x512x96_0_3_0_0 (key_3 _ _), ?_⟩
  refine List.forall_mem_cons.2 ⟨key_piece _ _ 2 (by decide) _ inb_S1x16x512x96_S1x1x512x96_0_2_0_0 (key_2 _ _), ?_⟩
  refine List.forall_mem_cons.2 ⟨key_piece _ _ 1 (by decide) _ inb_S1x16x512x96_S1x1x512x96_0_1_0_0 (key_1 _ _), ?_⟩
  refine List.forall_mem_cons.2 ⟨key_piece _ _ 0 (by decide) _ inb_S1x16x512x96_S1x1x512x96_0_0_0_0 (key_0 _ _ _ _ _ _), ?_⟩
  exact fun _ h => absurd h List.not_mem_nil

end Cert.Kernel4Ideal.Front

end
-- ==== Proof.FrontHost.lean ====
/-
The call `odd_front`: the arrays its host code hands to the body, at an index, in terms of the arguments.
-/
module

public import proofs.«01_k».proof.Proof.FrontHeads

@[expose] public section

set_option maxRecDepth 16384

noncomputable section

namespace Cert.Kernel4Ideal.Front

open Idealize.ShloMosaic Idealize.ShloMosaic.TcCoe Idealize.SL.Sem
open Cert.Kernel4Ideal Cert.Kernel4Ideal.Gen

/-- The angles of the positions: position times frequency. -/
def angles : FVec Ideal S16384x16 .f32 :=
  mulf (broadcastInDim S16384x16 ![0, 1] bcast_S16384x1_S16384x16_0_1 (broadcastInDim S16384x1 ![0] bcast_S16384_S16384x1_0 (sitofp .f32 (iotaInDim S16384 32 0))))
    (broadcastInDim S16384x16 ![0, 1] bcast_S1x16_S16384x16_0_1 (broadcastInDim S1x16 ![1] bcast_S16_S1x16_1
      (Host.divf (broadcastInDim S16 ![] bcast_S_S16 (constant S_ .f32 0x3F800000#32))
        (Host.powf (broadcastInDim S16 ![] bcast_S_S16 (constant S_ .f32 0x461C4000#32))
          (Host.divf (addf (broadcastInDim S16 ![] bcast_S_S16 (constant S_ .f32 0x00000000#32))
            (mulf (broadcastInDim S16 ![] bcast_S_S16 (constant S_ .f32 0x40000000#32)) (sitofp .f32 (iotaInDim S16 32 0))))
            (broadcastInDim S16 ![] bcast_S_S16 (constant S_ .f32 0x42000000#32)))))))

/-- The tables of cosines and sines: a position's, a frequency's. -/
def cosTab : FVec Ideal S16384x16 .f32 := Host.cos angles
def sinTab : FVec Ideal S16384x16 .f32 := Host.sin angles

variable (m : (ℓ : Loc nD τ sig) → Buf (Elt Ideal) ℓ) (c : Dev nD)

set_option maxHeartbeats 4000000

theorem V_v6 : Eq (α := FVec Ideal S1408x1024 .bf16) (V m c main_v6) (truncf .bf16 (transpose S1408x1024 [1, 0] (concatenate S1024x1408 1
    [⟨S1024x1024, extractStridedSlice S1024x1024 ![0, 416] (m ((c : Thread nD τ).loc main_arg9)) slices_S1024x1440_S1024x1024_0_416⟩,
     ⟨S1024x256, extractStridedSlice S1024x256 ![0, 0] (m ((c : Thread nD τ).loc main_arg9)) slices_S1024x1440_S1024x256_0_0⟩, ⟨S1024x128, (extractStridedSlice S1024x128 ![0, 256] (m ((c : Thread nD τ).loc main_arg9)) slices_S1024x1440_S1024x128_0_256)⟩]
    concatenates_S1024x1024_S1024x256_S1024x128_S1024x1408_d1) transposes_S1024x1408_S1408x1024_1_0) bitsLt_bf16_f32) := by
  unfold V
  after_results_simp <;> rfl

theorem V_v14 : Eq (α := FVec Ideal S1024x384 .bf16) (V m c main_v14) (truncf .bf16 (concatenate S1024x384 1 [⟨S1024x128, (extractStridedSlice S1024x128 ![0, 256] (m ((c : Thread nD τ).loc main_arg9)) slices_S1024x1440_S1024x128_0_256)⟩, ⟨S1024x64, (broadcastInDim S1024x64 ![] bcast_S_S1024x64 (constant S_ .f32 0x00000000#32))⟩, ⟨S1024x32, (extractStridedSlice S1024x32 ![0, 384] (m ((c : Thread nD τ).loc main_arg9)) slices_S1024x1440_S1024x32_0_384)⟩, ⟨S1024x32, (broadcastInDim S1024x32 ![] bcast_S_S1024x32 (constant S_ .f32 0x00000000#32))⟩,
     ⟨S1024x64, (broadcastInDim S1024x64 ![] bcast_S_S1024x64 (constant S_ .f32 0x00000000#32))⟩, ⟨S1024x32, (concatenate S1024x32 1 [⟨S1024x16, Host.negf (extractStridedSlice S1024x16 ![0, 16] (extractStridedSlice S1024x32 ![0, 384] (m ((c : Thread nD τ).loc main_arg9)) slices_S1024x1440_S1024x32_0_384) slices_S1024x32_S1024x16_0_16)⟩,
      ⟨S1024x16, extractStridedSlice S1024x16 ![0, 0] (extractStridedSlice S1024x32 ![0, 384] (m ((c : Thread nD τ).loc main_arg9)) slices_S1024x1440_S1024x32_0_384) slices_S1024x32_S1024x16_0_0⟩] concatenates_S1024x16_S1024x16_S1024x32_d1)⟩, ⟨S1024x32, (broadcastInDim S1024x32 ![] bcast_S_S1024x32 (constant S_ .f32 0x00000000#32))⟩]
    concatenates_S1024x128_S1024x64_S1024x32_S1024x32_S1024x64_S1024x32_S1024x32_S1024x384_d1) bitsLt_bf16_f32) := by
  unfold V
  after_results_simp <;> rfl

theorem V_v27 : Eq (α := FVec Ideal S256x128 .f32) (V m c main_v27) (broadcastInDim S256x128 ![0, 1] bcast_S256x1_S256x128_0_1 (broadcastInDim S256x1 ![0] bcast_S256_S256x1_0 (m ((c : Thread nD τ).loc main_arg10)))) := by
  unfold V
  after_results_simp <;> rfl

theorem V_v29 : Eq (α := FVec Ideal S128x128 .f32) (V m c main_v29) (broadcastInDim S128x128 ![0, 1] bcast_S128x1_S128x128_0_1 (broadcastInDim S128x1 ![0] bcast_S128_S128x1_0 (m ((c : Thread nD τ).loc main_arg12)))) := by
  unfold V
  after_results_simp <;> rfl

theorem V_v30 : Eq (α := FVec Ideal S1x128 .f32) (V m c main_v30) (broadcastInDim S1x128 ![1] bcast_S128_S1x128_1 (m ((c : Thread nD τ).loc main_arg12))) := by
  unfold V
  after_results_simp <;> rfl

theorem V_v32 : Eq (α := FVec Ideal S1536x256 .bf16) (V m c main_v32) (truncf .bf16 (transpose S1536x256 [1, 0] (m ((c : Thread nD τ).loc main_arg11)) transposes_S256x1536_S1536x256_1_0) bitsLt_bf16_f32) := by
  unfold V
  after_results_simp <;> rfl

theorem V_v21 : Eq (α := FVec Ideal S128x2048 .bf16) (V m c main_v21) (truncf .bf16 (shapeCast S128x2048 (concatenate S128x16x128 2 [⟨S128x16x64, extractStridedSlice S128x16x64 ![0, 0, 0] (shapeCast S128x16x128 (m ((c : Thread nD τ).loc main_arg13)) shapeCasts_S128x2048_S128x16x128) slices_S128x16x128_S128x16x64_0_0_0⟩,
     ⟨S128x16x64, (broadcastInDim S128x16x64 ![] bcast_S_S128x16x64 (constant S_ .f32 0x00000000#32))⟩] concatenates_S128x16x64_S128x16x64_S128x16x128_d2) shapeCasts_S128x16x128_S128x2048) bitsLt_bf16_f32) := by
  unfold V
  after_results_simp <;> rfl

theorem V_v25 : Eq (α := FVec Ideal S1024x128 .bf16) (V m c main_v25) (truncf .bf16 (transpose S1024x128 [1, 0] (shapeCast S128x1024 (extractStridedSlice S128x16x64 ![0, 0, 64] (shapeCast S128x16x128 (m ((c : Thread nD τ).loc main_arg13)) shapeCasts_S128x2048_S128x16x128) slices_S128x16x128_S128x16x64_0_0_64)
    shapeCasts_S128x16x64_S128x1024) transposes_S128x1024_S1024x128_1_0) bitsLt_bf16_f32) := by
  unfold V
  after_results_simp <;> rfl

theorem V_v54 : Eq (α := FVec Ideal S16384x128 .f32) (V m c main_v54) (concatenate S16384x128 1 [⟨S16384x64, (broadcastInDim S16384x64 ![] bcast_S_S16384x64 (constant S_ .f32 0x00000000#32))⟩, ⟨S16384x16, cosTab⟩, ⟨S16384x16, cosTab⟩, ⟨S16384x32, (broadcastInDim S16384x32 ![] bcast_S_S16384x32 (constant S_ .f32 0x00000000#32))⟩]
    concatenates_S16384x64_S16384x16_S16384x16_S16384x32_S16384x128_d1) := by
  unfold V
  after_results_simp <;> rfl

theorem V_v55 : Eq (α := FVec Ideal S16384x128 .f32) (V m c main_v55) (concatenate S16384x128 1 [⟨S16384x64, (broadcastInDim S16384x64 ![] bcast_S_S16384x64 (constant S_ .f32 0x00000000#32))⟩, ⟨S16384x16, sinTab⟩, ⟨S16384x16, sinTab⟩, ⟨S16384x32, (broadcastInDim S16384x32 ![] bcast_S_S16384x32 (constant S_ .f32 0x00000000#32))⟩]
    concatenates_S16384x64_S16384x16_S16384x16_S16384x32_S16384x128_d1) := by
  unfold V
  after_results_simp <;> rfl

theorem V_v56 : Eq (α := FVec Ideal S16x16384 .f32) (V m c main_v56) (transpose S16x16384 [1, 0] cosTab transposes_S16384x16_S16x16384_1_0) := by
  unfold V
  after_results_simp <;> rfl

theorem V_v57 : Eq (α := FVec Ideal S16x16384 .f32) (V m c main_v57) (transpose S16x16384 [1, 0] sinTab transposes_S16384x16_S16x16384_1_0) := by
  unfold V
  after_results_simp <;> rfl

theorem V_v58 : Eq (α := FVec Ideal S2x16384x1024 .bf16) (V m c main_v58) (extractStridedSlice S2x16384x1024 ![0, 0, 0] (m ((c : Thread nD τ).loc main_arg3)) slices_S2x16384x3328_S2x16384x1024_0_0_0) := by
  unfold V
  after_results_simp <;> rfl

theorem V_v59 : Eq (α := FVec Ideal S1x1024 .f32) (V m c main_v59) (broadcastInDim S1x1024 ![1] bcast_S1024_S1x1024_1 (m ((c : Thread nD τ).loc main_arg6))) := by
  unfold V
  after_results_simp <;> rfl

/-! ## At an index -/

/-- The columns of the projection that the body computes transposed, and where each lies in the weights. -/
def colT (r : Fin 1408) : Fin 1440 := if h : r.val < 1024 then ⟨416 + r.val, by omega⟩ else ⟨r.val - 1024, by omega⟩

theorem v6_apply (r : Fin 1408) (k : Fin 1024) :
    Eq (α := EReal) ((V m c main_v6 : FVec Ideal S1408x1024 .bf16) (ix2 r k)) ((m ((c : Thread nD τ).loc main_arg9) : FVec Ideal S1024x1440 .f32) (ix2 k (colT r))) := by
  rw [V_v6]
  generalize m ((c : Thread nD τ).loc main_arg9) = w
  pointwise
  unfold colT
  split_ifs <;> first
    | rfl
    | exact absurd rfl (by assumption : ¬ (_ = _))
    | contradiction
    | exact congrArg (fun j : Fin 1440 => w (ix2 k j)) (Fin.ext (by dsimp only; omega))

/-- The columns of the projection that the body computes untransposed, as its host code lays the weights out: the latent, then the
    rotated keys' two parts, each between columns of zeros. -/
def natW (w : FVec Ideal S1024x1440 .f32) (k : Fin 1024) (j : Fin 384) : EReal :=
  if h : j.val < 128 then w (ix2 k ⟨256 + j.val, by omega⟩)
  else if h : 192 ≤ j.val ∧ j.val < 224 then w (ix2 k ⟨192 + j.val, by omega⟩)
  else if h : 320 ≤ j.val ∧ j.val < 336 then -w (ix2 k ⟨80 + j.val, by omega⟩)
  else if h : 336 ≤ j.val ∧ j.val < 352 then w (ix2 k ⟨48 + j.val, by omega⟩)
  else 0

theorem v14_apply (k : Fin 1024) (j : Fin 384) :
    Eq (α := EReal) ((V m c main_v14 : FVec Ideal S1024x384 .bf16) (ix2 k j)) (natW (m ((c : Thread nD τ).loc main_arg9)) k j) := by
  rw [V_v14]
  generalize m ((c : Thread nD τ).loc main_arg9) = w
  pointwise
  unfold natW
  split_ifs <;> first
    | rfl
    | omega
    | exact congrArg (fun j : Fin 1440 => w (ix2 k j)) (Fin.ext (by dsimp only; omega))
    | (rw [dif_pos (by omega)]; exact congrArg (fun j : Fin 1440 => w (ix2 k j)) (Fin.ext (by dsimp only; omega)))
    | (rw [dif_neg (by omega), dif_pos (by omega)]; exact congrArg (Neg.neg (α := EReal)) (congrArg (fun j : Fin 1440 => w (ix2 k j)) (Fin.ext (by dsimp only; omega))))
    | (rw [dif_neg (by omega), dif_neg (by omega), dif_pos (by omega)]; exact congrArg (fun j : Fin 1440 => w (ix2 k j)) (Fin.ext (by dsimp only; omega)))

theorem v27_apply (k : Fin 256) (j : Fin 128) :
    Eq (α := EReal) ((V m c main_v27 : FVec Ideal S256x128 .f32) (ix2 k j)) ((m ((c : Thread nD τ).loc main_arg10) : FVec Ideal S256 .f32) (ix1 k)) := by
  rw [V_v27]
  generalize m ((c : Thread nD τ).loc main_arg10) = w
  pointwise

theorem v29_apply (k : Fin 128) (j : Fin 128) :
    Eq (α := EReal) ((V m c main_v29 : FVec Ideal S128x128 .f32) (ix2 k j)) ((m ((c : Thread nD τ).loc main_arg12) : FVec Ideal S128 .f32) (ix1 k)) := by
  rw [V_v29]
  generalize m ((c : Thread nD τ).loc main_arg12) = w
  pointwise

theorem v30_apply (k : Fin 128) :
    Eq (α := EReal) ((V m c main_v30 : FVec Ideal S1x128 .f32) (ix2 0 k)) ((m ((c : Thread nD τ).loc main_arg12) : FVec Ideal S128 .f32) (ix1 k)) := by
  rw [V_v30]
  generalize m ((c : Thread nD τ).loc main_arg12) = w
  pointwise

theorem v32_apply (r : Fin 1536) (k : Fin 256) :
    Eq (α := EReal) ((V m c main_v32 : FVec Ideal S1536x256 .bf16) (ix2 r k)) ((m ((c : Thread nD τ).loc main_arg11) : FVec Ideal S256x1536 .f32) (ix2 k r)) := by
  rw [V_v32]
  generalize m ((c : Thread nD τ).loc main_arg11) = w
  pointwise

theorem v21_apply (k : Fin 128) (j : Fin 2048) :
    Eq (α := EReal) ((V m c main_v21 : FVec Ideal S128x2048 .bf16) (ix2 k j))
      (if j.val % 128 < 64 then (m ((c : Thread nD τ).loc main_arg13) : FVec Ideal S128x2048 .f32) (ix2 k j) else 0) := by
  rw [V_v21]
  generalize m ((c : Thread nD τ).loc main_arg13) = w
  pointwise
  split_ifs <;> rfl

theorem v25_apply (j : Fin 1024) (k : Fin 128) :
    Eq (α := EReal) ((V m c main_v25 : FVec Ideal S1024x128 .bf16) (ix2 j k))
      ((m ((c : Thread nD τ).loc main_arg13) : FVec Ideal S128x2048 .f32) (ix2 k ⟨j.val / 64 * 128 + (64 + j.val % 64), by omega⟩)) := by
  rw [V_v25]
  generalize m ((c : Thread nD τ).loc main_arg13) = w
  pointwise

/-- A table widened to a key's columns: the frequencies twice, between zeros. -/
def wide (tab : FVec Ideal S16384x16 .f32) (l : Fin 16384) (j : Fin 128) : EReal :=
  if h : 64 ≤ j.val ∧ j.val < 80 then tab (ix2 l ⟨j.val - 64, by omega⟩)
  else if h : 80 ≤ j.val ∧ j.val < 96 then tab (ix2 l ⟨j.val - 80, by omega⟩)
  else 0

theorem v54_apply (l : Fin 16384) (j : Fin 128) :
    Eq (α := EReal) ((V m c main_v54 : FVec Ideal S16384x128 .f32) (ix2 l j)) (wide cosTab l j) := by
  rw [V_v54]
  pointwise
  unfold wide
  by_cases h1 : j.val < 64
  · rw [dif_neg (show ¬ (64 ≤ j.val ∧ j.val < 80) by omega), dif_neg (show ¬ (80 ≤ j.val ∧ j.val < 96) by omega), dif_pos h1]
  by_cases h2 : j.val < 80
  · rw [dif_pos (show 64 ≤ j.val ∧ j.val < 80 by omega), dif_neg h1, dif_pos (show j.val - 64 < 16 by omega)]
  by_cases h3 : j.val < 96
  · rw [dif_neg (show ¬ (64 ≤ j.val ∧ j.val < 80) by omega), dif_pos (show 80 ≤ j.val ∧ j.val < 96 by omega), dif_neg h1,
      dif_neg (show ¬ j.val - 64 < 16 by omega), dif_pos (show j.val - 64 - 16 < 16 by omega)]
    exact congrArg (fun j : Fin 16 => cosTab (ix2 l j)) (Fin.ext (by show j.val - 64 - 16 = j.val - 80; omega))
  · rw [dif_neg (show ¬ (64 ≤ j.val ∧ j.val < 80) by omega), dif_neg (show ¬ (80 ≤ j.val ∧ j.val < 96) by omega), dif_neg h1,
      dif_neg (show ¬ j.val - 64 < 16 by omega), dif_neg (show ¬ j.val - 64 - 16 < 16 by omega)]

theorem v55_apply (l : Fin 16384) (j : Fin 128) :
    Eq (α := EReal) ((V m c main_v55 : FVec Ideal S16384x128 .f32) (ix2 l j)) (wide sinTab l j) := by
  rw [V_v55]
  pointwise
  unfold wide
  by_cases h1 : j.val < 64
  · rw [dif_neg (show ¬ (64 ≤ j.val ∧ j.val < 80) by omega), dif_neg (show ¬ (80 ≤ j.val ∧ j.val < 96) by omega), dif_pos h1]
  by_cases h2 : j.val < 80
  · rw [dif_pos (show 64 ≤ j.val ∧ j.val < 80 by omega), dif_neg h1, dif_pos (show j.val - 64 < 16 by omega)]
  by_cases h3 : j.val < 96
  · rw [dif_neg (show ¬ (64 ≤ j.val ∧ j.val < 80) by omega), dif_pos (show 80 ≤ j.val ∧ j.val < 96 by omega), dif_neg h1,
      dif_neg (show ¬ j.val - 64 < 16 by omega), dif_pos (show j.val - 64 - 16 < 16 by omega)]
    exact congrArg (fun j : Fin 16 => sinTab (ix2 l j)) (Fin.ext (by show j.val - 64 - 16 = j.val - 80; omega))
  · rw [dif_neg (show ¬ (64 ≤ j.val ∧ j.val < 80) by omega), dif_neg (show ¬ (80 ≤ j.val ∧ j.val < 96) by omega), dif_neg h1,
      dif_neg (show ¬ j.val - 64 < 16 by omega), dif_neg (show ¬ j.val - 64 - 16 < 16 by omega)]

theorem v56_apply (d : Fin 16) (l : Fin 16384) :
    Eq (α := EReal) ((V m c main_v56 : FVec Ideal S16x16384 .f32) (ix2 d l)) (cosTab (ix2 l d)) := by
  rw [V_v56]
  pointwise

theorem v57_apply (d : Fin 16) (l : Fin 16384) :
    Eq (α := EReal) ((V m c main_v57 : FVec Ideal S16x16384 .f32) (ix2 d l)) (sinTab (ix2 l d)) := by
  rw [V_v57]
  pointwise

theorem v58_apply (b : Fin 2) (l : Fin 16384) (j : Fin 1024) :
    Eq (α := EReal) ((V m c main_v58 : FVec Ideal S2x16384x1024 .bf16) (ix3 b l j))
      ((m ((c : Thread nD τ).loc main_arg3) : FVec Ideal S2x16384x3328 .bf16) (ix3 b l ⟨j.val, by omega⟩)) := by
  rw [V_v58]
  generalize m ((c : Thread nD τ).loc main_arg3) = w
  pointwise

theorem v59_apply (j : Fin 1024) :
    Eq (α := EReal) ((V m c main_v59 : FVec Ideal S1x1024 .f32) (ix2 0 j)) ((m ((c : Thread nD τ).loc main_arg6) : FVec Ideal S1024 .f32) (ix1 j)) := by
  rw [V_v59]
  generalize m ((c : Thread nD τ).loc main_arg6) = w
  pointwise

end Cert.Kernel4Ideal.Front

end
-- ==== Proof.FrontBlocks.lean ====
/-
The call `odd_front`: each block its body reads, at an index, in terms of the call's arguments.
-/
module

public import proofs.«01_k».proof.Proof.FrontHost

@[expose] public section

set_option maxRecDepth 16384

noncomputable section

namespace Cert.Kernel4Ideal.Front

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- A point's batch, and its block's row `r` among the positions. -/
def bOf (t : Fin cfg0.N) : Fin 2 := ⟨t.val / 32, by have h := t.isLt; have e : cfg0.N = 64 := N_0; omega⟩
def rOf (t : Fin cfg0.N) (r : Fin 512) : Fin 16384 := ⟨t.val % 32 * 512 + r.val, by omega⟩

theorem idx0 : ∀ t : Fin cfg0.N, (fun a => win0_0.index t a) = ![t.val / 32, t.val % 32, 0] := by decide +kernel
theorem idx1 : ∀ t : Fin cfg0.N, (fun a => win0_1.index t a) = ![t.val / 32, t.val % 32, 0] := by decide +kernel
theorem idx2 : ∀ t : Fin cfg0.N, (fun a => win0_2.index t a) = ![t.val / 32, t.val % 32, 0] := by decide +kernel
theorem idx3 : ∀ t : Fin cfg0.N, (fun a => win0_3.index t a) = ![t.val / 32, t.val % 32, 0] := by decide +kernel
theorem idx4 : ∀ t : Fin cfg0.N, (fun a => win0_4.index t a) = ![t.val / 32, 0, 0] := by decide +kernel
theorem idx5 : ∀ t : Fin cfg0.N, (fun a => win0_5.index t a) = ![0, 0] := by decide +kernel
theorem idx6 : ∀ t : Fin cfg0.N, (fun a => win0_6.index t a) = ![0, 0] := by decide +kernel
theorem idx7 : ∀ t : Fin cfg0.N, (fun a => win0_7.index t a) = ![t.val / 32, 0, 0] := by decide +kernel
theorem idx8 : ∀ t : Fin cfg0.N, (fun a => win0_8.index t a) = ![t.val / 32, 0, 0] := by decide +kernel
theorem idx9 : ∀ t : Fin cfg0.N, (fun a => win0_9.index t a) = ![0, 0] := by decide +kernel
theorem idx10 : ∀ t : Fin cfg0.N, (fun a => win0_10.index t a) = ![0, 0] := by decide +kernel
theorem idx11 : ∀ t : Fin cfg0.N, (fun a => win0_11.index t a) = ![0, 0] := by decide +kernel
theorem idx12 : ∀ t : Fin cfg0.N, (fun a => win0_12.index t a) = ![0, 0] := by decide +kernel
theorem idx13 : ∀ t : Fin cfg0.N, (fun a => win0_13.index t a) = ![0, 0] := by decide +kernel
theorem idx14 : ∀ t : Fin cfg0.N, (fun a => win0_14.index t a) = ![0, 0] := by decide +kernel
theorem idx15 : ∀ t : Fin cfg0.N, (fun a => win0_15.index t a) = ![0, 0] := by decide +kernel
theorem idx16 : ∀ t : Fin cfg0.N, (fun a => win0_16.index t a) = ![0, 0] := by decide +kernel
theorem idx17 : ∀ t : Fin cfg0.N, (fun a => win0_17.index t a) = ![0, t.val % 32] := by decide +kernel
theorem idx18 : ∀ t : Fin cfg0.N, (fun a => win0_18.index t a) = ![0, t.val % 32] := by decide +kernel
theorem idx19 : ∀ t : Fin cfg0.N, (fun a => win0_19.index t a) = ![t.val % 32, 0] := by decide +kernel
theorem idx20 : ∀ t : Fin cfg0.N, (fun a => win0_20.index t a) = ![t.val % 32, 0] := by decide +kernel
theorem idx21 : ∀ t : Fin cfg0.N, (fun a => win0_21.index t a) = ![t.val / 32, t.val % 32, 0] := by decide +kernel
theorem idx22 : ∀ t : Fin cfg0.N, (fun a => win0_22.index t a) = ![t.val / 32, 0, t.val % 32, 0] := by decide +kernel
theorem idx23 : ∀ t : Fin cfg0.N, (fun a => win0_23.index t a) = ![t.val / 32, 0, t.val % 32, 0, 0] := by decide +kernel
theorem idx24 : ∀ t : Fin cfg0.N, (fun a => win0_24.index t a) = ![t.val / 32, 0, t.val % 32, 0, 0] := by decide +kernel
theorem idx25 : ∀ t : Fin cfg0.N, (fun a => win0_25.index t a) = ![t.val / 32, 0, t.val % 32] := by decide +kernel

theorem blk0 (t : Fin cfg0.N) (q : Fin 512) (s : Fin 1024) :
    Eq (α := EReal) (View.ld (iblk m c 0 t) (Rect.unit (s := S1x512x1024) ![0, 0, 0] S1x512x1024.size inb_S1x512x1024_S1x512x1024_0_0_0) (ix3 0 q s)) ((m ((c : Thread nD τ).loc main_arg0) : FVec Ideal S2x16384x1024 .f32) (ix3 (bOf t) (rOf t q) s)) := by
  refine (congrFun (V_main_arg0 m c) _).trans (congrArg _ (funext fun a => Fin.ext ?_))
  have hi := fun a => congrFun (idx0 t) a
  match a with
  | ⟨0, _⟩ => show win0_0.index t 0 * 1 + 1 * (0 + 1 * 0) = t.val / 32; rw [hi 0]; show t.val / 32 * 1 + _ = _; omega
  | ⟨1, _⟩ => show win0_0.index t 1 * 512 + 1 * (0 + 1 * q.val) = t.val % 32 * 512 + q.val; rw [hi 1]; show t.val % 32 * 512 + _ = _; omega
  | ⟨2, _⟩ => show win0_0.index t 2 * 1024 + 1 * (0 + 1 * s.val) = s.val; rw [hi 2]; show 0 * 1024 + _ = _; omega

theorem blk1 (t : Fin cfg0.N) (q : Fin 512) (s : Fin 512) :
    Eq (α := EReal) (View.ld (iblk m c 1 t) (Rect.unit (s := S1x512x512) ![0, 0, 0] S1x512x512.size inb_S1x512x512_S1x512x512_0_0_0) (ix3 0 q s)) ((m ((c : Thread nD τ).loc main_arg1) : FVec Ideal S2x16384x512 .bf16) (ix3 (bOf t) (rOf t q) s)) := by
  refine (congrFun (V_main_arg1 m c) _).trans (congrArg _ (funext fun a => Fin.ext ?_))
  have hi := fun a => congrFun (idx1 t) a
  match a with
  | ⟨0, _⟩ => show win0_1.index t 0 * 1 + 1 * (0 + 1 * 0) = t.val / 32; rw [hi 0]; show t.val / 32 * 1 + _ = _; omega
  | ⟨1, _⟩ => show win0_1.index t 1 * 512 + 1 * (0 + 1 * q.val) = t.val % 32 * 512 + q.val; rw [hi 1]; show t.val % 32 * 512 + _ = _; omega
  | ⟨2, _⟩ => show win0_1.index t 2 * 512 + 1 * (0 + 1 * s.val) = s.val; rw [hi 2]; show 0 * 512 + _ = _; omega

theorem blk2 (t : Fin cfg0.N) (q : Fin 512) (s : Fin 512) :
    Eq (α := EReal) (View.ld (iblk m c 2 t) (Rect.unit (s := S1x512x512) ![0, 0, 0] S1x512x512.size inb_S1x512x512_S1x512x512_0_0_0) (ix3 0 q s)) ((m ((c : Thread nD τ).loc main_arg2) : FVec Ideal S2x16384x512 .bf16) (ix3 (bOf t) (rOf t q) s)) := by
  refine (congrFun (V_main_arg2 m c) _).trans (congrArg _ (funext fun a => Fin.ext ?_))
  have hi := fun a => congrFun (idx2 t) a
  match a with
  | ⟨0, _⟩ => show win0_2.index t 0 * 1 + 1 * (0 + 1 * 0) = t.val / 32; rw [hi 0]; show t.val / 32 * 1 + _ = _; omega
  | ⟨1, _⟩ => show win0_2.index t 1 * 512 + 1 * (0 + 1 * q.val) = t.val % 32 * 512 + q.val; rw [hi 1]; show t.val % 32 * 512 + _ = _; omega
  | ⟨2, _⟩ => show win0_2.index t 2 * 512 + 1 * (0 + 1 * s.val) = s.val; rw [hi 2]; show 0 * 512 + _ = _; omega

theorem blk3 (t : Fin cfg0.N) (q : Fin 512) (s : Fin 1024) :
    Eq (α := EReal) (View.ld (iblk m c 3 t) (Rect.unit (s := S1x512x1024) ![0, 0, 0] S1x512x1024.size inb_S1x512x1024_S1x512x1024_0_0_0) (ix3 0 q s)) ((m ((c : Thread nD τ).loc main_arg3) : FVec Ideal S2x16384x3328 .bf16) (ix3 (bOf t) (rOf t q) ⟨s.val, by omega⟩)) := by
  refine Eq.trans (congrArg (V m c main_v58 : FVec Ideal S2x16384x1024 .bf16) (funext fun a => Fin.ext ?_)) (v58_apply m c (bOf t) (rOf t q) s)
  have hi := fun a => congrFun (idx3 t) a
  match a with
  | ⟨0, _⟩ => show win0_3.index t 0 * 1 + 1 * (0 + 1 * 0) = t.val / 32; rw [hi 0]; show t.val / 32 * 1 + _ = _; omega
  | ⟨1, _⟩ => show win0_3.index t 1 * 512 + 1 * (0 + 1 * q.val) = t.val % 32 * 512 + q.val; rw [hi 1]; show t.val % 32 * 512 + _ = _; omega
  | ⟨2, _⟩ => show win0_3.index t 2 * 1024 + 1 * (0 + 1 * s.val) = s.val; rw [hi 2]; show 0 * 1024 + _ = _; omega

theorem blk4 (t : Fin cfg0.N) (s : Fin 1024) :
    Eq (α := EReal) (View.ld (iblk m c 4 t) (Rect.unit (s := S1x1x1024) ![0, 0, 0] S1x1x1024.size inb_S1x1x1024_S1x1x1024_0_0_0) (ix3 0 0 s)) ((m ((c : Thread nD τ).loc main_arg4) : FVec Ideal S2x1x1024 .f32) (ix3 (bOf t) 0 s)) := by
  refine (congrFun (V_main_arg4 m c) _).trans (congrArg _ (funext fun a => Fin.ext ?_))
  have hi := fun a => congrFun (idx4 t) a
  match a with
  | ⟨0, _⟩ => show win0_4.index t 0 * 1 + 1 * (0 + 1 * 0) = t.val / 32; rw [hi 0]; show t.val / 32 * 1 + _ = _; omega
  | ⟨1, _⟩ => show win0_4.index t 1 * 1 + 1 * (0 + 1 * 0) = 0; rw [hi 1]; show 0 * 1 + _ = _; omega
  | ⟨2, _⟩ => show win0_4.index t 2 * 1024 + 1 * (0 + 1 * s.val) = s.val; rw [hi 2]; show 0 * 1024 + _ = _; omega

theorem blk5 (t : Fin cfg0.N) (p : Fin 1024) (q : Fin 1024) :
    Eq (α := EReal) (View.ld (iblk m c 5 t) (Rect.unit (s := S1024x1024) ![0, 0] S1024x1024.size inb_S1024x1024_S1024x1024_0_0) (ix2 p q)) ((m ((c : Thread nD τ).loc main_arg5) : FVec Ideal S1024x1024 .bf16) (ix2 p q)) := by
  refine (congrFun (V_main_arg5 m c) _).trans (congrArg _ (funext fun a => Fin.ext ?_))
  have hi := fun a => congrFun (idx5 t) a
  match a with
  | ⟨0, _⟩ => show win0_5.index t 0 * 1024 + 1 * (0 + 1 * p.val) = p.val; rw [hi 0]; show 0 * 1024 + _ = _; omega
  | ⟨1, _⟩ => show win0_5.index t 1 * 1024 + 1 * (0 + 1 * q.val) = q.val; rw [hi 1]; show 0 * 1024 + _ = _; omega

theorem blk6 (t : Fin cfg0.N) (q : Fin 1024) :
    Eq (α := EReal) (View.ld (iblk m c 6 t) (Rect.unit (s := S1x1024) ![0, 0] S1x1024.size inb_S1x1024_S1x1024_0_0) (ix2 0 q)) ((m ((c : Thread nD τ).loc main_arg6) : FVec Ideal S1024 .f32) (ix1 q)) := by
  refine Eq.trans (congrArg (V m c main_v59 : FVec Ideal S1x1024 .f32) (funext fun a => Fin.ext ?_)) (v59_apply m c q)
  have hi := fun a => congrFun (idx6 t) a
  match a with
  | ⟨0, _⟩ => show win0_6.index t 0 * 1 + 1 * (0 + 1 * 0) = 0; rw [hi 0]; show 0 * 1 + _ = _; omega
  | ⟨1, _⟩ => show win0_6.index t 1 * 1024 + 1 * (0 + 1 * q.val) = q.val; rw [hi 1]; show 0 * 1024 + _ = _; omega

theorem blk7 (t : Fin cfg0.N) (s : Fin 1024) :
    Eq (α := EReal) (View.ld (iblk m c 7 t) (Rect.unit (s := S1x1x1024) ![0, 0, 0] S1x1x1024.size inb_S1x1x1024_S1x1x1024_0_0_0) (ix3 0 0 s)) ((m ((c : Thread nD τ).loc main_arg7) : FVec Ideal S2x1x1024 .f32) (ix3 (bOf t) 0 s)) := by
  refine (congrFun (V_main_arg7 m c) _).trans (congrArg _ (funext fun a => Fin.ext ?_))
  have hi := fun a => congrFun (idx7 t) a
  match a with
  | ⟨0, _⟩ => show win0_7.index t 0 * 1 + 1 * (0 + 1 * 0) = t.val / 32; rw [hi 0]; show t.val / 32 * 1 + _ = _; omega
  | ⟨1, _⟩ => show win0_7.index t 1 * 1 + 1 * (0 + 1 * 0) = 0; rw [hi 1]; show 0 * 1 + _ = _; omega
  | ⟨2, _⟩ => show win0_7.index t 2 * 1024 + 1 * (0 + 1 * s.val) = s.val; rw [hi 2]; show 0 * 1024 + _ = _; omega

theorem blk8 (t : Fin cfg0.N) (s : Fin 1024) :
    Eq (α := EReal) (View.ld (iblk m c 8 t) (Rect.unit (s := S1x1x1024) ![0, 0, 0] S1x1x1024.size inb_S1x1x1024_S1x1x1024_0_0_0) (ix3 0 0 s)) ((m ((c : Thread nD τ).loc main_arg8) : FVec Ideal S2x1x1024 .f32) (ix3 (bOf t) 0 s)) := by
  refine (congrFun (V_main_arg8 m c) _).trans (congrArg _ (funext fun a => Fin.ext ?_))
  have hi := fun a => congrFun (idx8 t) a
  match a with
  | ⟨0, _⟩ => show win0_8.index t 0 * 1 + 1 * (0 + 1 * 0) = t.val / 32; rw [hi 0]; show t.val / 32 * 1 + _ = _; omega
  | ⟨1, _⟩ => show win0_8.index t 1 * 1 + 1 * (0 + 1 * 0) = 0; rw [hi 1]; show 0 * 1 + _ = _; omega
  | ⟨2, _⟩ => show win0_8.index t 2 * 1024 + 1 * (0 + 1 * s.val) = s.val; rw [hi 2]; show 0 * 1024 + _ = _; omega

theorem blk9 (t : Fin cfg0.N) (p : Fin 1408) (q : Fin 1024) :
    Eq (α := EReal) (View.ld (iblk m c 9 t) (Rect.unit (s := S1408x1024) ![0, 0] S1408x1024.size inb_S1408x1024_S1408x1024_0_0) (ix2 p q)) ((m ((c : Thread nD τ).loc main_arg9) : FVec Ideal S1024x1440 .f32) (ix2 q (colT p))) := by
  refine Eq.trans (congrArg (V m c main_v6 : FVec Ideal S1408x1024 .bf16) (funext fun a => Fin.ext ?_)) (v6_apply m c p q)
  have hi := fun a => congrFun (idx9 t) a
  match a with
  | ⟨0, _⟩ => show win0_9.index t 0 * 1408 + 1 * (0 + 1 * p.val) = p.val; rw [hi 0]; show 0 * 1408 + _ = _; omega
  | ⟨1, _⟩ => show win0_9.index t 1 * 1024 + 1 * (0 + 1 * q.val) = q.val; rw [hi 1]; show 0 * 1024 + _ = _; omega

theorem blk10 (t : Fin cfg0.N) (p : Fin 1024) (q : Fin 384) :
    Eq (α := EReal) (View.ld (iblk m c 10 t) (Rect.unit (s := S1024x384) ![0, 0] S1024x384.size inb_S1024x384_S1024x384_0_0) (ix2 p q)) (natW (m ((c : Thread nD τ).loc main_arg9)) p q) := by
  refine Eq.trans (congrArg (V m c main_v14 : FVec Ideal S1024x384 .bf16) (funext fun a => Fin.ext ?_)) (v14_apply m c p q)
  have hi := fun a => congrFun (idx10 t) a
  match a with
  | ⟨0, _⟩ => show win0_10.index t 0 * 1024 + 1 * (0 + 1 * p.val) = p.val; rw [hi 0]; show 0 * 1024 + _ = _; omega
  | ⟨1, _⟩ => show win0_10.index t 1 * 384 + 1 * (0 + 1 * q.val) = q.val; rw [hi 1]; show 0 * 384 + _ = _; omega

theorem blk11 (t : Fin cfg0.N) (p : Fin 256) (q : Fin 128) :
    Eq (α := EReal) (View.ld (iblk m c 11 t) (Rect.unit (s := S256x128) ![0, 0] S256x128.size inb_S256x128_S256x128_0_0) (ix2 p q)) ((m ((c : Thread nD τ).loc main_arg10) : FVec Ideal S256 .f32) (ix1 p)) := by
  refine Eq.trans (congrArg (V m c main_v27 : FVec Ideal S256x128 .f32) (funext fun a => Fin.ext ?_)) (v27_apply m c p q)
  have hi := fun a => congrFun (idx11 t) a
  match a with
  | ⟨0, _⟩ => show win0_11.index t 0 * 256 + 1 * (0 + 1 * p.val) = p.val; rw [hi 0]; show 0 * 256 + _ = _; omega
  | ⟨1, _⟩ => show win0_11.index t 1 * 128 + 1 * (0 + 1 * q.val) = q.val; rw [hi 1]; show 0 * 128 + _ = _; omega

theorem blk12 (t : Fin cfg0.N) (p : Fin 128) (q : Fin 128) :
    Eq (α := EReal) (View.ld (iblk m c 12 t) (Rect.unit (s := S128x128) ![0, 0] S128x128.size inb_S128x128_S128x128_0_0) (ix2 p q)) ((m ((c : Thread nD τ).loc main_arg12) : FVec Ideal S128 .f32) (ix1 p)) := by
  refine Eq.trans (congrArg (V m c main_v29 : FVec Ideal S128x128 .f32) (funext fun a => Fin.ext ?_)) (v29_apply m c p q)
  have hi := fun a => congrFun (idx12 t) a
  match a with
  | ⟨0, _⟩ => show win0_12.index t 0 * 128 + 1 * (0 + 1 * p.val) = p.val; rw [hi 0]; show 0 * 128 + _ = _; omega
  | ⟨1, _⟩ => show win0_12.index t 1 * 128 + 1 * (0 + 1 * q.val) = q.val; rw [hi 1]; show 0 * 128 + _ = _; omega

theorem blk13 (t : Fin cfg0.N) (q : Fin 128) :
    Eq (α := EReal) (View.ld (iblk m c 13 t) (Rect.unit (s := S1x128) ![0, 0] S1x128.size inb_S1x128_S1x128_0_0) (ix2 0 q)) ((m ((c : Thread nD τ).loc main_arg12) : FVec Ideal S128 .f32) (ix1 q)) := by
  refine Eq.trans (congrArg (V m c main_v30 : FVec Ideal S1x128 .f32) (funext fun a => Fin.ext ?_)) (v30_apply m c q)
  have hi := fun a => congrFun (idx13 t) a
  match a with
  | ⟨0, _⟩ => show win0_13.index t 0 * 1 + 1 * (0 + 1 * 0) = 0; rw [hi 0]; show 0 * 1 + _ = _; omega
  | ⟨1, _⟩ => show win0_13.index t 1 * 128 + 1 * (0 + 1 * q.val) = q.val; rw [hi 1]; show 0 * 128 + _ = _; omega

theorem blk14 (t : Fin cfg0.N) (p : Fin 1536) (q : Fin 256) :
    Eq (α := EReal) (View.ld (iblk m c 14 t) (Rect.unit (s := S1536x256) ![0, 0] S1536x256.size inb_S1536x256_S1536x256_0_0) (ix2 p q)) ((m ((c : Thread nD τ).loc main_arg11) : FVec Ideal S256x1536 .f32) (ix2 q p)) := by
  refine Eq.trans (congrArg (V m c main_v32 : FVec Ideal S1536x256 .bf16) (funext fun a => Fin.ext ?_)) (v32_apply m c p q)
  have hi := fun a => congrFun (idx14 t) a
  match a with
  | ⟨0, _⟩ => show win0_14.index t 0 * 1536 + 1 * (0 + 1 * p.val) = p.val; rw [hi 0]; show 0 * 1536 + _ = _; omega
  | ⟨1, _⟩ => show win0_14.index t 1 * 256 + 1 * (0 + 1 * q.val) = q.val; rw [hi 1]; show 0 * 256 + _ = _; omega

theorem blk15 (t : Fin cfg0.N) (p : Fin 128) (q : Fin 2048) :
    Eq (α := EReal) (View.ld (iblk m c 15 t) (Rect.unit (s := S128x2048) ![0, 0] S128x2048.size inb_S128x2048_S128x2048_0_0) (ix2 p q)) (if q.val % 128 < 64 then (m ((c : Thread nD τ).loc main_arg13) : FVec Ideal S128x2048 .f32) (ix2 p q) else 0) := by
  refine Eq.trans (congrArg (V m c main_v21 : FVec Ideal S128x2048 .bf16) (funext fun a => Fin.ext ?_)) (v21_apply m c p q)
  have hi := fun a => congrFun (idx15 t) a
  match a with
  | ⟨0, _⟩ => show win0_15.index t 0 * 128 + 1 * (0 + 1 * p.val) = p.val; rw [hi 0]; show 0 * 128 + _ = _; omega
  | ⟨1, _⟩ => show win0_15.index t 1 * 2048 + 1 * (0 + 1 * q.val) = q.val; rw [hi 1]; show 0 * 2048 + _ = _; omega

theorem blk16 (t : Fin cfg0.N) (p : Fin 1024) (q : Fin 128) :
    Eq (α := EReal) (View.ld (iblk m c 16 t) (Rect.unit (s := S1024x128) ![0, 0] S1024x128.size inb_S1024x128_S1024x128_0_0) (ix2 p q)) ((m ((c : Thread nD τ).loc main_arg13) : FVec Ideal S128x2048 .f32) (ix2 q ⟨p.val / 64 * 128 + (64 + p.val % 64), by omega⟩)) := by
  refine Eq.trans (congrArg (V m c main_v25 : FVec Ideal S1024x128 .bf16) (funext fun a => Fin.ext ?_)) (v25_apply m c p q)
  have hi := fun a => congrFun (idx16 t) a
  match a with
  | ⟨0, _⟩ => show win0_16.index t 0 * 1024 + 1 * (0 + 1 * p.val) = p.val; rw [hi 0]; show 0 * 1024 + _ = _; omega
  | ⟨1, _⟩ => show win0_16.index t 1 * 128 + 1 * (0 + 1 * q.val) = q.val; rw [hi 1]; show 0 * 128 + _ = _; omega

theorem blk17 (t : Fin cfg0.N) (p : Fin 16) (q : Fin 512) :
    Eq (α := EReal) (View.ld (iblk m c 17 t) (Rect.unit (s := S16x512) ![0, 0] S16x512.size inb_S16x512_S16x512_0_0) (ix2 p q)) (cosTab (ix2 (rOf t q) p)) := by
  refine Eq.trans (congrArg (V m c main_v56 : FVec Ideal S16x16384 .f32) (funext fun a => Fin.ext ?_)) (v56_apply m c p (rOf t q))
  have hi := fun a => congrFun (idx17 t) a
  match a with
  | ⟨0, _⟩ => show win0_17.index t 0 * 16 + 1 * (0 + 1 * p.val) = p.val; rw [hi 0]; show 0 * 16 + _ = _; omega
  | ⟨1, _⟩ => show win0_17.index t 1 * 512 + 1 * (0 + 1 * q.val) = t.val % 32 * 512 + q.val; rw [hi 1]; show t.val % 32 * 512 + _ = _; omega

theorem blk18 (t : Fin cfg0.N) (p : Fin 16) (q : Fin 512) :
    Eq (α := EReal) (View.ld (iblk m c 18 t) (Rect.unit (s := S16x512) ![0, 0] S16x512.size inb_S16x512_S16x512_0_0) (ix2 p q)) (sinTab (ix2 (rOf t q) p)) := by
  refine Eq.trans (congrArg (V m c main_v57 : FVec Ideal S16x16384 .f32) (funext fun a => Fin.ext ?_)) (v57_apply m c p (rOf t q))
  have hi := fun a => congrFun (idx18 t) a
  match a with
  | ⟨0, _⟩ => show win0_18.index t 0 * 16 + 1 * (0 + 1 * p.val) = p.val; rw [hi 0]; show 0 * 16 + _ = _; omega
  | ⟨1, _⟩ => show win0_18.index t 1 * 512 + 1 * (0 + 1 * q.val) = t.val % 32 * 512 + q.val; rw [hi 1]; show t.val % 32 * 512 + _ = _; omega

theorem blk19 (t : Fin cfg0.N) (p : Fin 512) (q : Fin 128) :
    Eq (α := EReal) (View.ld (iblk m c 19 t) (Rect.unit (s := S512x128) ![0, 0] S512x128.size inb_S512x128_S512x128_0_0) (ix2 p q)) (wide cosTab (rOf t p) q) := by
  refine Eq.trans (congrArg (V m c main_v54 : FVec Ideal S16384x128 .f32) (funext fun a => Fin.ext ?_)) (v54_apply m c (rOf t p) q)
  have hi := fun a => congrFun (idx19 t) a
  match a with
  | ⟨0, _⟩ => show win0_19.index t 0 * 512 + 1 * (0 + 1 * p.val) = t.val % 32 * 512 + p.val; rw [hi 0]; show t.val % 32 * 512 + _ = _; omega
  | ⟨1, _⟩ => show win0_19.index t 1 * 128 + 1 * (0 + 1 * q.val) = q.val; rw [hi 1]; show 0 * 128 + _ = _; omega

theorem blk20 (t : Fin cfg0.N) (p : Fin 512) (q : Fin 128) :
    Eq (α := EReal) (View.ld (iblk m c 20 t) (Rect.unit (s := S512x128) ![0, 0] S512x128.size inb_S512x128_S512x128_0_0) (ix2 p q)) (wide sinTab (rOf t p) q) := by
  refine Eq.trans (congrArg (V m c main_v55 : FVec Ideal S16384x128 .f32) (funext fun a => Fin.ext ?_)) (v55_apply m c (rOf t p) q)
  have hi := fun a => congrFun (idx20 t) a
  match a with
  | ⟨0, _⟩ => show win0_20.index t 0 * 512 + 1 * (0 + 1 * p.val) = t.val % 32 * 512 + p.val; rw [hi 0]; show t.val % 32 * 512 + _ = _; omega
  | ⟨1, _⟩ => show win0_20.index t 1 * 128 + 1 * (0 + 1 * q.val) = q.val; rw [hi 1]; show 0 * 128 + _ = _; omega

end Cert.Kernel4Ideal.Front

end
-- ==== Proof.FrontSpec.lean ====
/-
The call `odd_front`: the mathematics of its five results, entry by entry, over the call's arguments.
-/
module

public import proofs.«01_k».proof.Proof.FrontHost
public import proofs.«01_k».proof.Proof.FrontHeads

@[expose] public section

set_option maxRecDepth 16384

noncomputable section

namespace Cert.Kernel4Ideal.Front

open Idealize.ShloMosaic Idealize.ShloMosaic.TcCoe Idealize.SL.Sem
open Cert.Kernel4Ideal Cert.Kernel4Ideal.Gen

/-- The call's arguments. -/
structure Args where
  x : FVec Ideal S2x16384x1024 .f32
  oa : FVec Ideal S2x16384x512 .bf16
  ob : FVec Ideal S2x16384x512 .bf16
  u : FVec Ideal S2x16384x3328 .bf16
  gm : FVec Ideal S2x1x1024 .f32
  wo : FVec Ideal S1024x1024 .bf16
  g : FVec Ideal S1024 .f32
  sc : FVec Ideal S2x1x1024 .f32
  sh : FVec Ideal S2x1x1024 .f32
  wi : FVec Ideal S1024x1440 .f32
  qn : FVec Ideal S256 .f32
  wq : FVec Ideal S256x1536 .f32
  kn : FVec Ideal S128 .f32
  wk : FVec Ideal S128x2048 .f32

variable (a : Args) (b : Fin 2) (l : Fin 16384)

/-- The residual sum. -/
def sumAt (j : Fin 1024) : EReal :=
  a.x (ix3 b l j) + a.gm (ix3 b 0 j) * mixed (fun k => a.oa (ix3 b l k)) (fun k => a.ob (ix3 b l k))
    (fun k => a.u (ix3 b l ⟨k.val, by omega⟩)) (fun k => a.wo (ix2 k j))

/-- Its modulated norm. -/
def rowAt (k : Fin 1024) : EReal :=
  normed (Ideal.ofBits .f32 0x44800000#32) (fun k => sumAt a b l k) (fun k => a.g (ix1 k)) k * (1 + a.sc (ix3 b 0 k)) + a.sh (ix3 b 0 k)

/-- The projection of that. -/
def projAt (r : Fin 1440) : EReal := ∑ k : Fin 1024, rowAt a b l k * a.wi (ix2 k r)

/-- The queries before the rotation. -/
def qAt (r : Fin 1536) : EReal :=
  ∑ k : Fin 256, normed (Ideal.ofBits .f32 0x43800000#32) (fun k : Fin 256 => projAt a b l ⟨k.val, by omega⟩) (fun k => a.qn (ix1 k)) k * a.wq (ix2 k r)

/-- The keys' unrotated columns and the values. -/
def kvAt (r : Fin 2048) : EReal :=
  ∑ k : Fin 128, normed (Ideal.ofBits .f32 0x43000000#32) (fun k : Fin 128 => projAt a b l ⟨256 + k.val, by omega⟩) (fun k => a.kn (ix1 k)) k * a.wk (ix2 k r)

/-- A head's key. -/
def keyAt (h : Fin 16) (d : Fin 96) : EReal :=
  if h0 : d.val < 64 then kvAt a b l ⟨h.val * 128 + d.val, by omega⟩
  else if h1 : d.val < 80 then projAt a b l ⟨320 + d.val, by omega⟩ * cosTab (ix2 l ⟨d.val - 64, by omega⟩)
    - projAt a b l ⟨336 + d.val, by omega⟩ * sinTab (ix2 l ⟨d.val - 64, by omega⟩)
  else projAt a b l ⟨320 + d.val, by omega⟩ * cosTab (ix2 l ⟨d.val - 80, by omega⟩)
    + projAt a b l ⟨304 + d.val, by omega⟩ * sinTab (ix2 l ⟨d.val - 80, by omega⟩)

/-- A head's query, scaled. -/
def qryAt (h : Fin 16) (d : Fin 96) : EReal :=
  (if h0 : d.val < 64 then qAt a b l ⟨h.val * 96 + d.val, by omega⟩
    else if h1 : d.val < 80 then qAt a b l ⟨h.val * 96 + d.val, by omega⟩ * cosTab (ix2 l ⟨d.val - 64, by omega⟩)
      - qAt a b l ⟨h.val * 96 + (d.val + 16), by omega⟩ * sinTab (ix2 l ⟨d.val - 64, by omega⟩)
    else qAt a b l ⟨h.val * 96 + d.val, by omega⟩ * cosTab (ix2 l ⟨d.val - 80, by omega⟩)
      + qAt a b l ⟨h.val * 96 + (d.val - 16), by omega⟩ * sinTab (ix2 l ⟨d.val - 80, by omega⟩)) * scaleQ

/-- The five results. -/
def res0 : FVec Ideal S2x16384x1024 .f32 := fun i => sumAt a (i 0) (i 1) (i 2)
def res1 : FVec Ideal S2x16x16384x96 .bf16 := fun i => keyAt a (i 0) (i 2) (i 1) (i 3)
def res2 : FVec Ideal S2x16x32x96x512 .bf16 := fun i =>
  qryAt a (i 0) ⟨(i 2).val * 512 + (i 4).val, by have h2 : (i 2).val < 32 := (i 2).isLt; have h4 : (i 4).val < 512 := (i 4).isLt; omega⟩ (i 1) (i 3)
def res3 : FVec Ideal S2x16x32x64x512 .bf16 := fun i =>
  kvAt a (i 0) ⟨(i 2).val * 512 + (i 4).val, by have h2 : (i 2).val < 32 := (i 2).isLt; have h4 : (i 4).val < 512 := (i 4).isLt; omega⟩
    ⟨(i 1).val * 128 + (64 + (i 3).val), by have h1 : (i 1).val < 16 := (i 1).isLt; have h3 : (i 3).val < 64 := (i 3).isLt; omega⟩
def res4 : FVec Ideal S2x1024x16384 .bf16 := fun i =>
  silu (projAt a (i 0) (i 2) ⟨416 + (i 1).val, by have h1 : (i 1).val < 1024 := (i 1).isLt; omega⟩)

/-! ## The kernel's layout of the projection -/

/-- A negated column of weights gives the negated projection, for the columns that the keys' layout negates. -/
def Negates : Prop := ∀ (b : Fin 2) (l : Fin 16384) (r : Fin 1440), 400 ≤ r.val → r.val < 416 → ∑ k : Fin 1024, rowAt a b l k * -a.wi (ix2 k r) = -projAt a b l r

/-- The projection's columns as the host code lays out the weights. -/
def natAt (j : Fin 384) : EReal := ∑ k : Fin 1024, rowAt a b l k * natW a.wi k j

theorem natAt_lat (k : Fin 128) : natAt a b l ⟨k.val, by omega⟩ = projAt a b l ⟨256 + k.val, by omega⟩ := by
  unfold natAt projAt natW
  simp only [dif_pos k.isLt]

theorem natAt_cos (d : Fin 128) (h0 : 64 ≤ d.val) (h1 : d.val < 96) : natAt a b l ⟨128 + d.val, by omega⟩ = projAt a b l ⟨320 + d.val, by omega⟩ := by
  unfold natAt projAt natW
  refine Finset.sum_congr rfl fun k _ => ?_
  rw [dif_neg (show ¬ (128 + d.val < 128) by omega), dif_pos (show 192 ≤ 128 + d.val ∧ 128 + d.val < 224 by omega)]
  exact congrArg (fun j : Fin 1440 => rowAt a b l k * a.wi (ix2 k j)) (Fin.ext (by show 192 + (128 + d.val) = 320 + d.val; omega))

theorem natAt_neg (hn : Negates a) (d : Fin 128) (h0 : 64 ≤ d.val) (h1 : d.val < 80) :
    natAt a b l ⟨256 + d.val, by omega⟩ = -projAt a b l ⟨336 + d.val, by omega⟩ := by
  rw [← hn b l ⟨336 + d.val, by omega⟩ (by show 400 ≤ 336 + d.val; omega) (by show 336 + d.val < 416; omega)]
  unfold natAt natW
  refine Finset.sum_congr rfl fun k _ => ?_
  rw [dif_neg (show ¬ (256 + d.val < 128) by omega), dif_neg (show ¬ (192 ≤ 256 + d.val ∧ 256 + d.val < 224) by omega),
    dif_pos (show 320 ≤ 256 + d.val ∧ 256 + d.val < 336 by omega)]
  exact congrArg (fun j : Fin 1440 => rowAt a b l k * -a.wi (ix2 k j)) (Fin.ext (by show 80 + (256 + d.val) = 336 + d.val; omega))

theorem natAt_sin (d : Fin 128) (h0 : 80 ≤ d.val) (h1 : d.val < 96) : natAt a b l ⟨256 + d.val, by omega⟩ = projAt a b l ⟨304 + d.val, by omega⟩ := by
  unfold natAt projAt natW
  refine Finset.sum_congr rfl fun k _ => ?_
  rw [dif_neg (show ¬ (256 + d.val < 128) by omega), dif_neg (show ¬ (192 ≤ 256 + d.val ∧ 256 + d.val < 224) by omega),
    dif_neg (show ¬ (320 ≤ 256 + d.val ∧ 256 + d.val < 336) by omega), dif_pos (show 336 ≤ 256 + d.val ∧ 256 + d.val < 352 by omega)]
  exact congrArg (fun j : Fin 1440 => rowAt a b l k * a.wi (ix2 k j)) (Fin.ext (by show 48 + (256 + d.val) = 304 + d.val; omega))

/-- The part of a key that the rotation gives, as the body computes it over the widened tables. -/
def ropeAt (d : Fin 128) : EReal :=
  natAt a b l ⟨128 + d.val, by omega⟩ * wide cosTab l d + natAt a b l ⟨256 + d.val, by omega⟩ * wide sinTab l d

/-- The part of a key that the latent gives, as the body computes it over the weights with zeros in place of the values' columns. -/
def nopeAt (r : Fin 2048) : EReal :=
  ∑ k : Fin 128, normed (Ideal.ofBits .f32 0x43000000#32) (fun k : Fin 128 => natAt a b l ⟨k.val, by omega⟩) (fun k => a.kn (ix1 k)) k
    * (if r.val % 128 < 64 then a.wk (ix2 k r) else 0)

theorem nopeAt_low (r : Fin 2048) (h : r.val % 128 < 64) : nopeAt a b l r = kvAt a b l r := by
  unfold nopeAt kvAt
  simp only [if_pos h, natAt_lat]

theorem nopeAt_high (r : Fin 2048) (h : ¬ r.val % 128 < 64) : nopeAt a b l r = 0 := by
  unfold nopeAt
  simp only [if_neg h, mul_zero, Finset.sum_const_zero]

theorem wide_zero (tab : FVec Ideal S16384x16 .f32) (d : Fin 128) (h : d.val < 64) : wide tab l d = 0 := by
  unfold wide
  rw [dif_neg (show ¬ (64 ≤ d.val ∧ d.val < 80) by omega), dif_neg (show ¬ (80 ≤ d.val ∧ d.val < 96) by omega)]

theorem wide_first (tab : FVec Ideal S16384x16 .f32) (d : Fin 128) (h0 : 64 ≤ d.val) (h1 : d.val < 80) :
    wide tab l d = tab (ix2 l ⟨d.val - 64, by omega⟩) := by
  unfold wide
  rw [dif_pos (show 64 ≤ d.val ∧ d.val < 80 from ⟨h0, h1⟩)]

theorem wide_second (tab : FVec Ideal S16384x16 .f32) (d : Fin 128) (h0 : 80 ≤ d.val) (h1 : d.val < 96) :
    wide tab l d = tab (ix2 l ⟨d.val - 80, by omega⟩) := by
  unfold wide
  rw [dif_neg (show ¬ (64 ≤ d.val ∧ d.val < 80) by omega), dif_pos (show 80 ≤ d.val ∧ d.val < 96 from ⟨h0, h1⟩)]

/-- The two parts make the key. -/
theorem key_parts (hn : Negates a) (h : Fin 16) (d : Fin 96) :
    nopeAt a b l ⟨h.val * 128 + d.val, by omega⟩ + ropeAt a b l ⟨d.val, by omega⟩ = keyAt a b l h d := by
  unfold keyAt
  by_cases h0 : d.val < 64
  · rw [dif_pos h0, nopeAt_low a b l _ (show (h.val * 128 + d.val) % 128 < 64 by omega)]
    unfold ropeAt
    rw [wide_zero l cosTab ⟨d.val, by omega⟩ h0, wide_zero l sinTab ⟨d.val, by omega⟩ h0, mul_zero, mul_zero, add_zero, add_zero]
  · rw [dif_neg h0, nopeAt_high a b l _ (show ¬ (h.val * 128 + d.val) % 128 < 64 by omega), zero_add]
    by_cases h1 : d.val < 80
    · rw [dif_pos h1]
      unfold ropeAt
      rw [natAt_cos a b l ⟨d.val, by omega⟩ (by show 64 ≤ d.val; omega) (by show d.val < 96; omega),
        natAt_neg a b l hn ⟨d.val, by omega⟩ (by show 64 ≤ d.val; omega) (by show d.val < 80; omega),
        wide_first l cosTab ⟨d.val, by omega⟩ (by show 64 ≤ d.val; omega) h1, wide_first l sinTab ⟨d.val, by omega⟩ (by show 64 ≤ d.val; omega) h1,
        sub_eq_add_neg, EReal.neg_mul]
    · rw [dif_neg h1]
      unfold ropeAt
      rw [natAt_cos a b l ⟨d.val, by omega⟩ (by show 64 ≤ d.val; omega) (by show d.val < 96; omega),
        natAt_sin a b l ⟨d.val, by omega⟩ (by show 80 ≤ d.val; omega) (by show d.val < 96; omega),
        wide_second l cosTab ⟨d.val, by omega⟩ (by show 80 ≤ d.val; omega) (by show d.val < 96; omega),
        wide_second l sinTab ⟨d.val, by omega⟩ (by show 80 ≤ d.val; omega) (by show d.val < 96; omega)]

theorem colT_gate (r : Fin 1024) : colT ⟨r.val, by omega⟩ = ⟨416 + r.val, by omega⟩ := by
  unfold colT
  rw [dif_pos r.isLt]

theorem colT_query (k : Fin 256) : colT ⟨1024 + k.val, by omega⟩ = ⟨k.val, by omega⟩ := by
  unfold colT
  rw [dif_neg (show ¬ (1024 + k.val < 1024) by omega)]
  exact Fin.ext (by show 1024 + k.val - 1024 = k.val; omega)

theorem colT_lat (k : Fin 128) : colT ⟨1280 + k.val, by omega⟩ = ⟨256 + k.val, by omega⟩ := by
  unfold colT
  rw [dif_neg (show ¬ (1280 + k.val < 1024) by omega)]
  exact Fin.ext (by show 1280 + k.val - 1024 = 256 + k.val; omega)

end Cert.Kernel4Ideal.Front

end
-- ==== Proof.FrontValue.lean ====
/-
The call `odd_front`: what its five output arrays hold after the run.
-/
module

public import proofs.«01_k».proof.Proof.FrontBlocks
public import proofs.«01_k».proof.Proof.FrontSpec

@[expose] public section

set_option maxRecDepth 16384

noncomputable section

namespace Cert.Kernel4Ideal.Front

open Idealize.ShloMosaic Idealize.ShloMosaic.TcCoe Idealize.SL.Sem
open Cert.Kernel4Ideal Cert.Kernel4Ideal.Gen

variable (m : (ℓ : Loc nD τ sig) → Buf (Elt Ideal) ℓ) (ρ : Dev nD → PrngReg) (c : Dev nD)

/-- The arguments as launched. -/
def args : Args where
  x := m ((c : Thread nD τ).loc main_arg0)
  oa := m ((c : Thread nD τ).loc main_arg1)
  ob := m ((c : Thread nD τ).loc main_arg2)
  u := m ((c : Thread nD τ).loc main_arg3)
  gm := m ((c : Thread nD τ).loc main_arg4)
  wo := m ((c : Thread nD τ).loc main_arg5)
  g := m ((c : Thread nD τ).loc main_arg6)
  sc := m ((c : Thread nD τ).loc main_arg7)
  sh := m ((c : Thread nD τ).loc main_arg8)
  wi := m ((c : Thread nD τ).loc main_arg9)
  qn := m ((c : Thread nD τ).loc main_arg10)
  wq := m ((c : Thread nD τ).loc main_arg11)
  kn := m ((c : Thread nD τ).loc main_arg12)
  wk := m ((c : Thread nD τ).loc main_arg13)

/-! ## What the body computes at a point -/

variable (t : Fin cfg0.N)

theorem mixed_congr {a a' b b' : Fin 512 → EReal} {g g' w w' : Fin 1024 → EReal} (ha : ∀ k, a k = a' k) (hb : ∀ k, b k = b' k)
    (hg : ∀ k, g k = g' k) (hw : ∀ k, w k = w' k) : mixed a b g w = mixed a' b' g' w' := by
  rw [funext ha, funext hb, funext hg, funext hw]

theorem normed_congr {n : Nat} {count : EReal} {y y' g g' : Fin n → EReal} (hy : ∀ k, y k = y' k) (hg : ∀ k, g k = g' k) (k : Fin n) :
    normed count y g k = normed count y' g' k := by
  rw [funext hy, funext hg]

theorem blockSum_at (r : Fin 512) (j : Fin 1024) :
    blockSum (iblk m c 0 t) (iblk m c 1 t) (iblk m c 2 t) (iblk m c 3 t) (iblk m c 4 t) (iblk m c 5 t) (ix2 r j) = sumAt (args m c) (bOf t) (rOf t r) j := by
  unfold blockSum
  refine (pay1_apply _ _ _ _ _ _ r j).trans ?_
  exact congrArg₂ (· + ·) (blk0 m c t r j) (congrArg₂ (· * ·) (blk4 m c t j)
    (mixed_congr (fun k => blk1 m c t r k) (fun k => blk2 m c t r k) (fun k => blk3 m c t r k) (fun k => blk5 m c t k j)))

theorem hidden_at (r : Fin 512) (k : Fin 1024) :
    hidden (iblk m c 0 t) (iblk m c 1 t) (iblk m c 2 t) (iblk m c 3 t) (iblk m c 4 t) (iblk m c 5 t) (iblk m c 6 t) (iblk m c 7 t) (iblk m c 8 t) (ix2 r k) = rowAt (args m c) (bOf t) (rOf t r) k := by
  unfold hidden
  refine (pay3_apply _ _ _ _ r k).trans ?_
  exact congrArg₂ (· + ·) (congrArg₂ (· * ·) (normed_congr (fun k => blockSum_at m c t r k) (fun k => blk6 m c t k) k)
    (congrArg (1 + ·) (blk7 m c t k))) (blk8 m c t k)

theorem projT_at (r : Fin 1408) (i : Fin 512) :
    projT (iblk m c 0 t) (iblk m c 1 t) (iblk m c 2 t) (iblk m c 3 t) (iblk m c 4 t) (iblk m c 5 t) (iblk m c 6 t) (iblk m c 7 t) (iblk m c 8 t) (iblk m c 9 t) (ix2 r i) = projAt (args m c) (bOf t) (rOf t i) (colT r) := by
  unfold projT
  refine (pay4_apply _ _ _ _ _ r i).trans (Finset.sum_congr rfl fun k _ => ?_)
  exact (congrArg₂ (· * ·) (blk9 m c t r k) (hidden_at m c t i k)).trans (mul_comm _ _)

theorem queryT_at (r : Fin 1536) (i : Fin 512) :
    queryT (iblk m c 0 t) (iblk m c 1 t) (iblk m c 2 t) (iblk m c 3 t) (iblk m c 4 t) (iblk m c 5 t) (iblk m c 6 t) (iblk m c 7 t) (iblk m c 8 t) (iblk m c 9 t) (iblk m c 11 t) (iblk m c 14 t) (ix2 r i) = qAt (args m c) (bOf t) (rOf t i) r := by
  unfold queryT
  refine (pay6_apply _ _ _ (fun k => (args m c).qn (ix1 k)) (fun k j => blk11 m c t k j) r i).trans (Finset.sum_congr rfl fun k _ => ?_)
  exact (congrArg₂ (· * ·) (blk14 m c t r k) (normed_congr (fun k => (projT_at m c t ⟨1024 + k.val, by omega⟩ i).trans
    (congrArg (projAt (args m c) (bOf t) (rOf t i)) (colT_query k))) (fun _ => rfl) k)).trans (mul_comm _ _)

theorem nat_at (i : Fin 512) (j : Fin 384) :
    k0_pay101 (hidden (iblk m c 0 t) (iblk m c 1 t) (iblk m c 2 t) (iblk m c 3 t) (iblk m c 4 t) (iblk m c 5 t) (iblk m c 6 t) (iblk m c 7 t) (iblk m c 8 t)) (View.ld (iblk m c 10 t) (Rect.unit (s := S1024x384) ![0, 0] S1024x384.size inb_S1024x384_S1024x384_0_0)) (ix2 i j)
      = natAt (args m c) (bOf t) (rOf t i) j :=
  (pay101_apply _ _ i j).trans (Finset.sum_congr rfl fun k _ => congrArg₂ (· * ·) (hidden_at m c t i k) (blk10 m c t k j))

theorem keyNope_at (i : Fin 512) (r : Fin 2048) :
    keyNope (iblk m c 0 t) (iblk m c 1 t) (iblk m c 2 t) (iblk m c 3 t) (iblk m c 4 t) (iblk m c 5 t) (iblk m c 6 t) (iblk m c 7 t) (iblk m c 8 t) (iblk m c 10 t) (iblk m c 13 t) (iblk m c 15 t) (ix2 i r) = nopeAt (args m c) (bOf t) (rOf t i) r := by
  unfold keyNope
  refine (pay102_apply _ _ _ _ i r).trans (Finset.sum_congr rfl fun k _ => ?_)
  exact congrArg₂ (· * ·) (normed_congr (fun k => nat_at m c t i ⟨k.val, by omega⟩) (fun k => blk13 m c t k) k) (blk15 m c t k r)

theorem keyRope_at (i : Fin 512) (d : Fin 128) :
    keyRope (iblk m c 0 t) (iblk m c 1 t) (iblk m c 2 t) (iblk m c 3 t) (iblk m c 4 t) (iblk m c 5 t) (iblk m c 6 t) (iblk m c 7 t) (iblk m c 8 t) (iblk m c 10 t) (iblk m c 19 t) (iblk m c 20 t) (ix2 i d) = ropeAt (args m c) (bOf t) (rOf t i) d := by
  unfold keyRope
  refine (pay103_apply _ _ _ _ i d).trans ?_
  exact congrArg₂ (· + ·) (congrArg₂ (· * ·) (nat_at m c t i ⟨128 + d.val, by omega⟩) (blk19 m c t i d))
    (congrArg₂ (· * ·) (nat_at m c t i ⟨256 + d.val, by omega⟩) (blk20 m c t i d))

theorem cosBlk_at (d : Fin 16) (i : Fin 512) : cosBlk (iblk m c 17 t) (ix2 d i) = cosTab (ix2 (rOf t i) d) := by
  unfold cosBlk
  refine Eq.trans ?_ (blk17 m c t d i)
  pointwise [k0_pay7]

theorem sinBlk_at (d : Fin 16) (i : Fin 512) : sinBlk (iblk m c 18 t) (ix2 d i) = sinTab (ix2 (rOf t i) d) := by
  unfold sinBlk
  refine Eq.trans ?_ (blk18 m c t d i)
  pointwise [k0_pay8]

/-! ## What a point leaves in each window -/

/-- What a store over the whole window leaves there is what was stored. -/
theorem canon_sum (p : Vec Ideal S1x512x1024 .f32) (y : S1x512x1024.Idx) :
    View.canon (Val := Elt Ideal) [⟨Rect.unit (s := S1x512x1024) ![0, 0, 0] S1x512x1024.size inb_S1x512x1024_S1x512x1024_0_0_0, p⟩] y = p y := by
  refine View.canon_apply_of_pieces (Val := Elt Ideal) p [⟨Rect.unit (s := S1x512x1024) ![0, 0, 0] S1x512x1024.size inb_S1x512x1024_S1x512x1024_0_0_0, p⟩] ?_ _ ⟨_, List.mem_singleton.mpr rfl, ?_⟩
  · intro pc hpc y
    obtain rfl := List.mem_singleton.mp hpc
    refine congrArg p (funext fun a => Fin.ext ?_)
    match a with
    | ⟨0, _⟩ => show (y 0).val = 0 + 1 * (y 0).val; omega
    | ⟨1, _⟩ => show (y 1).val = 0 + 1 * (y 1).val; omega
    | ⟨2, _⟩ => show (y 2).val = 0 + 1 * (y 2).val; omega
  · show y ∈ (Rect.unit (s := S1x512x1024) ![0, 0, 0] S1x512x1024.size inb_S1x512x1024_S1x512x1024_0_0_0).set
    rw [Rect.mem_set_unit]
    intro a
    match a with
    | ⟨0, _⟩ => exact ⟨Nat.zero_le _, by show (y 0).val < 0 + 1; have h : (y 0).val < 1 := (y 0).isLt; omega⟩
    | ⟨1, _⟩ => exact ⟨Nat.zero_le _, by show (y 1).val < 0 + 512; have h : (y 1).val < 512 := (y 1).isLt; omega⟩
    | ⟨2, _⟩ => exact ⟨Nat.zero_le _, by show (y 2).val < 0 + 1024; have h : (y 2).val < 1024 := (y 2).isLt; omega⟩

/-- What a store over the whole window leaves there is what was stored. -/
theorem canon_value (p : Vec Ideal S1x16x1x64x512 .bf16) (y : S1x16x1x64x512.Idx) :
    View.canon (Val := Elt Ideal) [⟨Rect.unit (s := S1x16x1x64x512) ![0, 0, 0, 0, 0] S1x16x1x64x512.size inb_S1x16x1x64x512_S1x16x1x64x512_0_0_0_0_0, p⟩] y = p y := by
  refine View.canon_apply_of_pieces (Val := Elt Ideal) p [⟨Rect.unit (s := S1x16x1x64x512) ![0, 0, 0, 0, 0] S1x16x1x64x512.size inb_S1x16x1x64x512_S1x16x1x64x512_0_0_0_0_0, p⟩] ?_ _ ⟨_, List.mem_singleton.mpr rfl, ?_⟩
  · intro pc hpc y
    obtain rfl := List.mem_singleton.mp hpc
    refine congrArg p (funext fun a => Fin.ext ?_)
    match a with
    | ⟨0, _⟩ => show (y 0).val = 0 + 1 * (y 0).val; omega
    | ⟨1, _⟩ => show (y 1).val = 0 + 1 * (y 1).val; omega
    | ⟨2, _⟩ => show (y 2).val = 0 + 1 * (y 2).val; omega
    | ⟨3, _⟩ => show (y 3).val = 0 + 1 * (y 3).val; omega
    | ⟨4, _⟩ => show (y 4).val = 0 + 1 * (y 4).val; omega
  · show y ∈ (Rect.unit (s := S1x16x1x64x512) ![0, 0, 0, 0, 0] S1x16x1x64x512.size inb_S1x16x1x64x512_S1x16x1x64x512_0_0_0_0_0).set
    rw [Rect.mem_set_unit]
    intro a
    match a with
    | ⟨0, _⟩ => exact ⟨Nat.zero_le _, by show (y 0).val < 0 + 1; have h : (y 0).val < 1 := (y 0).isLt; omega⟩
    | ⟨1, _⟩ => exact ⟨Nat.zero_le _, by show (y 1).val < 0 + 16; have h : (y 1).val < 16 := (y 1).isLt; omega⟩
    | ⟨2, _⟩ => exact ⟨Nat.zero_le _, by show (y 2).val < 0 + 1; have h : (y 2).val < 1 := (y 2).isLt; omega⟩
    | ⟨3, _⟩ => exact ⟨Nat.zero_le _, by show (y 3).val < 0 + 64; have h : (y 3).val < 64 := (y 3).isLt; omega⟩
    | ⟨4, _⟩ => exact ⟨Nat.zero_le _, by show (y 4).val < 0 + 512; have h : (y 4).val < 512 := (y 4).isLt; omega⟩

/-- What a store over the whole window leaves there is what was stored. -/
theorem canon_gate (p : Vec Ideal S1x1024x512 .bf16) (y : S1x1024x512.Idx) :
    View.canon (Val := Elt Ideal) [⟨Rect.unit (s := S1x1024x512) ![0, 0, 0] S1x1024x512.size inb_S1x1024x512_S1x1024x512_0_0_0, p⟩] y = p y := by
  refine View.canon_apply_of_pieces (Val := Elt Ideal) p [⟨Rect.unit (s := S1x1024x512) ![0, 0, 0] S1x1024x512.size inb_S1x1024x512_S1x1024x512_0_0_0, p⟩] ?_ _ ⟨_, List.mem_singleton.mpr rfl, ?_⟩
  · intro pc hpc y
    obtain rfl := List.mem_singleton.mp hpc
    refine congrArg p (funext fun a => Fin.ext ?_)
    match a with
    | ⟨0, _⟩ => show (y 0).val = 0 + 1 * (y 0).val; omega
    | ⟨1, _⟩ => show (y 1).val = 0 + 1 * (y 1).val; omega
    | ⟨2, _⟩ => show (y 2).val = 0 + 1 * (y 2).val; omega
  · show y ∈ (Rect.unit (s := S1x1024x512) ![0, 0, 0] S1x1024x512.size inb_S1x1024x512_S1x1024x512_0_0_0).set
    rw [Rect.mem_set_unit]
    intro a
    match a with
    | ⟨0, _⟩ => exact ⟨Nat.zero_le _, by show (y 0).val < 0 + 1; have h : (y 0).val < 1 := (y 0).isLt; omega⟩
    | ⟨1, _⟩ => exact ⟨Nat.zero_le _, by show (y 1).val < 0 + 1024; have h : (y 1).val < 1024 := (y 1).isLt; omega⟩
    | ⟨2, _⟩ => exact ⟨Nat.zero_le _, by show (y 2).val < 0 + 512; have h : (y 2).val < 512 := (y 2).isLt; omega⟩

theorem pay2_apply (v0 : Vec Ideal S1x512x1024 .bf16) (v11 v13 : Vec Ideal S1x512x512 .bf16) (v19 : Vec Ideal S1x512x1024 .f32)
    (v21 : Vec Ideal S1x1x1024 .f32) (v23 : Vec Ideal S1024x1024 .bf16) (r : Fin 512) (j : Fin 1024) :
    k0_pay2 v0 v11 v13 v19 v21 v23 (ix3 0 r j) = k0_pay1 v0 v11 v13 v19 v21 v23 (ix2 r j) := by
  pointwise [k0_pay2]

theorem outSum_at (r : Fin 512) (j : Fin 1024) :
    outSum (iblk m c 0 t) (iblk m c 1 t) (iblk m c 2 t) (iblk m c 3 t) (iblk m c 4 t) (iblk m c 5 t) (ix3 0 r j) = sumAt (args m c) (bOf t) (rOf t r) j := by
  unfold outSum outSumPieces
  rw [canon_sum, pay2_apply]
  exact blockSum_at m c t r j

theorem outKey_at (hn : Negates (args m c)) (h : Fin 16) (n : Fin 512) (d : Fin 96) :
    outKey (iblk m c 0 t) (iblk m c 1 t) (iblk m c 2 t) (iblk m c 3 t) (iblk m c 4 t) (iblk m c 5 t) (iblk m c 6 t) (iblk m c 7 t) (iblk m c 8 t) (iblk m c 10 t) (iblk m c 13 t) (iblk m c 15 t) (iblk m c 19 t) (iblk m c 20 t) (ix4 0 h n d)
      = keyAt (args m c) (bOf t) (rOf t n) h d := by
  rw [outKey_eq]
  refine Eq.trans ?_ (key_parts (args m c) (bOf t) (rOf t n) hn h d)
  exact congrArg₂ (· + ·) (keyNope_at m c t n ⟨h.val * 128 + d.val, by omega⟩) (keyRope_at m c t n ⟨d.val, by omega⟩)

theorem outQuery_at (h : Fin 16) (d : Fin 96) (i : Fin 512) :
    outQuery (iblk m c 0 t) (iblk m c 1 t) (iblk m c 2 t) (iblk m c 3 t) (iblk m c 4 t) (iblk m c 5 t) (iblk m c 6 t) (iblk m c 7 t) (iblk m c 8 t) (iblk m c 9 t) (iblk m c 11 t) (iblk m c 14 t) (iblk m c 17 t) (iblk m c 18 t) (ix5 0 h 0 d i)
      = qryAt (args m c) (bOf t) (rOf t i) h d := by
  rw [outQuery_eq]
  show queryAt _ _ _ h.val h.isLt d i = _
  unfold queryAt
  simp only [queryT_at, cosBlk_at, sinBlk_at]
  rfl

theorem outValue_at (h : Fin 16) (d : Fin 64) (i : Fin 512) :
    outValue (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 16 t) (ix5 0 h 0 d i)
      = kvAt (args m c) (bOf t) (rOf t i) ⟨h.val * 128 + (64 + d.val), by omega⟩ := by
  unfold outValue outValuePieces
  rw [canon_value]
  refine (pay100_apply _ _ _ (fun k => (args m c).kn (ix1 k)) (fun k j => blk12 m c t k j) h d i).trans (Finset.sum_congr rfl fun k _ => ?_)
  refine (congrArg₂ (· * ·) (blk16 m c t ⟨h.val * 64 + d.val, by omega⟩ k) (normed_congr (fun k => (projT_at m c t ⟨1280 + k.val, by omega⟩ i).trans
    (congrArg (projAt (args m c) (bOf t) (rOf t i)) (colT_lat k))) (fun _ => rfl) k)).trans ((mul_comm _ _).trans ?_)
  exact congrArg (fun r : Fin 2048 => normed (Ideal.ofBits .f32 0x43000000#32) (fun k : Fin 128 => projAt (args m c) (bOf t) (rOf t i) ⟨256 + k.val, by omega⟩)
      (fun k => (args m c).kn (ix1 k)) k * (args m c).wk (ix2 k r))
    (Fin.ext (by show (h.val * 64 + d.val) / 64 * 128 + (64 + (h.val * 64 + d.val) % 64) = h.val * 128 + (64 + d.val); omega))

theorem outGate_at (r : Fin 1024) (i : Fin 512) :
    outGate (iblk m c 0 t) (iblk m c 1 t) (iblk m c 2 t) (iblk m c 3 t) (iblk m c 4 t) (iblk m c 5 t) (iblk m c 6 t) (iblk m c 7 t) (iblk m c 8 t) (iblk m c 9 t) (ix3 0 r i) = silu (projAt (args m c) (bOf t) (rOf t i) ⟨416 + r.val, by omega⟩) := by
  unfold outGate outGatePieces
  rw [canon_gate, pay5_apply]
  refine congrArg silu ((projT_at m c t ⟨r.val, by omega⟩ i).trans ?_)
  rw [colT_gate]

/-! ## The arrays after the run -/

theorem flushed21 (t : Fin cfg0.N) :
    (dats m 0 c).flushed 21 t = ((cfg0.win 21).blk t).view.read (Elt Ideal) (res0 (args m c) : Buf (Elt Ideal) ((c : Thread nD τ).loc main_v60_0)) := by
  show (cfg0.win 21).cut (grid0.coords t) ((dats m 0 c).after 21 t) = _
  rw [after0_21]
  funext y
  rw [View.read_apply]
  have h0 : (y 0).val < 1 := (y 0).isLt
  have h1 : (y 1).val < 512 := (y 1).isLt
  have h2 : (y 2).val < 1024 := (y 2).isLt
  have hi := fun a => congrFun (idx21 t) a
  have e : ((cfg0.win 21).blk t).view.emb y = (ix3 (bOf t) (rOf t (y 1)) (y 2) : S2x16384x1024.Idx) := by
    funext a
    apply Fin.ext
    match a with
    | ⟨0, _⟩ => show win0_21.index t 0 * 1 + 1 * (y 0).val = t.val / 32; rw [hi 0]; show t.val / 32 * 1 + _ = _; omega
    | ⟨1, _⟩ => show win0_21.index t 1 * 512 + 1 * (y 1).val = t.val % 32 * 512 + (y 1).val; rw [hi 1]; show t.val % 32 * 512 + _ = _; omega
    | ⟨2, _⟩ => show win0_21.index t 2 * 1024 + 1 * (y 2).val = (y 2).val; rw [hi 2]; show 0 * 1024 + _ = _; omega
  rw [e]
  have e2 : y = (ix3 0 (y 1 : Fin 512) (y 2 : Fin 1024) : S1x512x1024.Idx) := by
    funext a
    match a with
    | ⟨0, _⟩ => exact Fin.ext (by show (y 0).val = 0; omega)
    | ⟨1, _⟩ => rfl
    | ⟨2, _⟩ => rfl
  exact (congrArg (outSum (iblk m c 0 t) (iblk m c 1 t) (iblk m c 2 t) (iblk m c 3 t) (iblk m c 4 t) (iblk m c 5 t)) e2).trans (outSum_at m c t (y 1) (y 2))

/-- The array of window 21 after the run. -/
theorem final21 : (dats m 0 c).arrAt 21 cfg0.N = (res0 (args m c) : Buf (Elt Ideal) ((c : Thread nD τ).loc main_v60_0)) :=
  (dats m 0 c).arrAt_eq_of_cover 21 (res0 (args m c) : Buf (Elt Ideal) ((c : Thread nD τ).loc main_v60_0)) (fun t _ => flushed21 m c t) fun i => by
    have h0 : (i 0).val < 2 := (i 0).isLt
    have h1 : (i 1).val < 16384 := (i 1).isLt
    have h2 : (i 2).val < 1024 := (i 2).isLt
    let t : Fin cfg0.N := ⟨32 * (i 0).val + (i 1).val / 512, by have e : cfg0.N = 64 := N_0; omega⟩
    have ht0 : t.val / 32 = (i 0).val := by show (32 * (i 0).val + (i 1).val / 512) / 32 = _; omega
    have ht1 : t.val % 32 = (i 1).val / 512 := by show (32 * (i 0).val + (i 1).val / 512) % 32 = _; omega
    have hi := fun a => congrFun (idx21 t) a
    refine ⟨t, flush0_21 t, ?_⟩
    show i ∈ ((View.whole main_v60_0).slice (win0_21.rect t)).set
    rw [View.set_slice_whole, Rect.mem_set_unit]
    intro a
    match a with
    | ⟨0, _⟩ => show win0_21.index t 0 * 1 ≤ (i 0).val ∧ (i 0).val < win0_21.index t 0 * 1 + 1; rw [hi 0]; show t.val / 32 * 1 ≤ _ ∧ _ < t.val / 32 * 1 + 1; omega
    | ⟨1, _⟩ => show win0_21.index t 1 * 512 ≤ (i 1).val ∧ (i 1).val < win0_21.index t 1 * 512 + 512; rw [hi 1]; show t.val % 32 * 512 ≤ _ ∧ _ < t.val % 32 * 512 + 512; omega
    | ⟨2, _⟩ => show win0_21.index t 2 * 1024 ≤ (i 2).val ∧ (i 2).val < win0_21.index t 2 * 1024 + 1024; rw [hi 2]; show 0 * 1024 ≤ _ ∧ _ < 0 * 1024 + 1024; omega

theorem flushed22 (t : Fin cfg0.N) (hn : Negates (args m c)) :
    (dats m 0 c).flushed 22 t = ((cfg0.win 22).blk t).view.read (Elt Ideal) (res1 (args m c) : Buf (Elt Ideal) ((c : Thread nD τ).loc main_v60_1)) := by
  show (cfg0.win 22).cut (grid0.coords t) ((dats m 0 c).after 22 t) = _
  rw [after0_22]
  funext y
  rw [View.read_apply]
  have h0 : (y 0).val < 1 := (y 0).isLt
  have h1 : (y 1).val < 16 := (y 1).isLt
  have h2 : (y 2).val < 512 := (y 2).isLt
  have h3 : (y 3).val < 96 := (y 3).isLt
  have hi := fun a => congrFun (idx22 t) a
  have e : ((cfg0.win 22).blk t).view.emb y = (ix4 (bOf t) (y 1) (rOf t (y 2)) (y 3) : S2x16x16384x96.Idx) := by
    funext a
    apply Fin.ext
    match a with
    | ⟨0, _⟩ => show win0_22.index t 0 * 1 + 1 * (y 0).val = t.val / 32; rw [hi 0]; show t.val / 32 * 1 + _ = _; omega
    | ⟨1, _⟩ => show win0_22.index t 1 * 16 + 1 * (y 1).val = (y 1).val; rw [hi 1]; show 0 * 16 + _ = _; omega
    | ⟨2, _⟩ => show win0_22.index t 2 * 512 + 1 * (y 2).val = t.val % 32 * 512 + (y 2).val; rw [hi 2]; show t.val % 32 * 512 + _ = _; omega
    | ⟨3, _⟩ => show win0_22.index t 3 * 96 + 1 * (y 3).val = (y 3).val; rw [hi 3]; show 0 * 96 + _ = _; omega
  rw [e]
  have e2 : y = (ix4 0 (y 1 : Fin 16) (y 2 : Fin 512) (y 3 : Fin 96) : S1x16x512x96.Idx) := by
    funext a
    match a with
    | ⟨0, _⟩ => exact Fin.ext (by show (y 0).val = 0; omega)
    | ⟨1, _⟩ => rfl
    | ⟨2, _⟩ => rfl
    | ⟨3, _⟩ => rfl
  exact (congrArg (outKey (iblk m c 0 t) (iblk m c 1 t) (iblk m c 2 t) (iblk m c 3 t) (iblk m c 4 t) (iblk m c 5 t) (iblk m c 6 t) (iblk m c 7 t) (iblk m c 8 t) (iblk m c 10 t) (iblk m c 13 t) (iblk m c 15 t) (iblk m c 19 t) (iblk m c 20 t)) e2).trans (outKey_at m c t hn (y 1) (y 2) (y 3))

/-- The array of window 22 after the run. -/
theorem final22 (hn : Negates (args m c)) : (dats m 0 c).arrAt 22 cfg0.N = (res1 (args m c) : Buf (Elt Ideal) ((c : Thread nD τ).loc main_v60_1)) :=
  (dats m 0 c).arrAt_eq_of_cover 22 (res1 (args m c) : Buf (Elt Ideal) ((c : Thread nD τ).loc main_v60_1)) (fun t _ => flushed22 m c t hn) fun i => by
    have h0 : (i 0).val < 2 := (i 0).isLt
    have h1 : (i 1).val < 16 := (i 1).isLt
    have h2 : (i 2).val < 16384 := (i 2).isLt
    have h3 : (i 3).val < 96 := (i 3).isLt
    let t : Fin cfg0.N := ⟨32 * (i 0).val + (i 2).val / 512, by have e : cfg0.N = 64 := N_0; omega⟩
    have ht0 : t.val / 32 = (i 0).val := by show (32 * (i 0).val + (i 2).val / 512) / 32 = _; omega
    have ht1 : t.val % 32 = (i 2).val / 512 := by show (32 * (i 0).val + (i 2).val / 512) % 32 = _; omega
    have hi := fun a => congrFun (idx22 t) a
    refine ⟨t, flush0_22 t, ?_⟩
    show i ∈ ((View.whole main_v60_1).slice (win0_22.rect t)).set
    rw [View.set_slice_whole, Rect.mem_set_unit]
    intro a
    match a with
    | ⟨0, _⟩ => show win0_22.index t 0 * 1 ≤ (i 0).val ∧ (i 0).val < win0_22.index t 0 * 1 + 1; rw [hi 0]; show t.val / 32 * 1 ≤ _ ∧ _ < t.val / 32 * 1 + 1; omega
    | ⟨1, _⟩ => show win0_22.index t 1 * 16 ≤ (i 1).val ∧ (i 1).val < win0_22.index t 1 * 16 + 16; rw [hi 1]; show 0 * 16 ≤ _ ∧ _ < 0 * 16 + 16; omega
    | ⟨2, _⟩ => show win0_22.index t 2 * 512 ≤ (i 2).val ∧ (i 2).val < win0_22.index t 2 * 512 + 512; rw [hi 2]; show t.val % 32 * 512 ≤ _ ∧ _ < t.val % 32 * 512 + 512; omega
    | ⟨3, _⟩ => show win0_22.index t 3 * 96 ≤ (i 3).val ∧ (i 3).val < win0_22.index t 3 * 96 + 96; rw [hi 3]; show 0 * 96 ≤ _ ∧ _ < 0 * 96 + 96; omega

theorem flushed23 (t : Fin cfg0.N) :
    (dats m 0 c).flushed 23 t = ((cfg0.win 23).blk t).view.read (Elt Ideal) (res2 (args m c) : Buf (Elt Ideal) ((c : Thread nD τ).loc main_v60_2)) := by
  show (cfg0.win 23).cut (grid0.coords t) ((dats m 0 c).after 23 t) = _
  rw [after0_23]
  funext y
  rw [View.read_apply]
  have h0 : (y 0).val < 1 := (y 0).isLt
  have h1 : (y 1).val < 16 := (y 1).isLt
  have h2 : (y 2).val < 1 := (y 2).isLt
  have h3 : (y 3).val < 96 := (y 3).isLt
  have h4 : (y 4).val < 512 := (y 4).isLt
  have hi := fun a => congrFun (idx23 t) a
  have e : ((cfg0.win 23).blk t).view.emb y = (ix5 (bOf t) (y 1) ⟨t.val % 32, by omega⟩ (y 3) (y 4) : S2x16x32x96x512.Idx) := by
    funext a
    apply Fin.ext
    match a with
    | ⟨0, _⟩ => show win0_23.index t 0 * 1 + 1 * (y 0).val = t.val / 32; rw [hi 0]; show t.val / 32 * 1 + _ = _; omega
    | ⟨1, _⟩ => show win0_23.index t 1 * 16 + 1 * (y 1).val = (y 1).val; rw [hi 1]; show 0 * 16 + _ = _; omega
    | ⟨2, _⟩ => show win0_23.index t 2 * 1 + 1 * (y 2).val = t.val % 32; rw [hi 2]; show t.val % 32 * 1 + _ = _; omega
    | ⟨3, _⟩ => show win0_23.index t 3 * 96 + 1 * (y 3).val = (y 3).val; rw [hi 3]; show 0 * 96 + _ = _; omega
    | ⟨4, _⟩ => show win0_23.index t 4 * 512 + 1 * (y 4).val = (y 4).val; rw [hi 4]; show 0 * 512 + _ = _; omega
  rw [e]
  have e2 : y = (ix5 0 (y 1 : Fin 16) 0 (y 3 : Fin 96) (y 4 : Fin 512) : S1x16x1x96x512.Idx) := by
    funext a
    match a with
    | ⟨0, _⟩ => exact Fin.ext (by show (y 0).val = 0; omega)
    | ⟨1, _⟩ => rfl
    | ⟨2, _⟩ => exact Fin.ext (by show (y 2).val = 0; omega)
    | ⟨3, _⟩ => rfl
    | ⟨4, _⟩ => rfl
  exact (congrArg (outQuery (iblk m c 0 t) (iblk m c 1 t) (iblk m c 2 t) (iblk m c 3 t) (iblk m c 4 t) (iblk m c 5 t) (iblk m c 6 t) (iblk m c 7 t) (iblk m c 8 t) (iblk m c 9 t) (iblk m c 11 t) (iblk m c 14 t) (iblk m c 17 t) (iblk m c 18 t)) e2).trans (outQuery_at m c t (y 1) (y 3) (y 4))

/-- The array of window 23 after the run. -/
theorem final23 : (dats m 0 c).arrAt 23 cfg0.N = (res2 (args m c) : Buf (Elt Ideal) ((c : Thread nD τ).loc main_v60_2)) :=
  (dats m 0 c).arrAt_eq_of_cover 23 (res2 (args m c) : Buf (Elt Ideal) ((c : Thread nD τ).loc main_v60_2)) (fun t _ => flushed23 m c t) fun i => by
    have h0 : (i 0).val < 2 := (i 0).isLt
    have h1 : (i 1).val < 16 := (i 1).isLt
    have h2 : (i 2).val < 32 := (i 2).isLt
    have h3 : (i 3).val < 96 := (i 3).isLt
    have h4 : (i 4).val < 512 := (i 4).isLt
    let t : Fin cfg0.N := ⟨32 * (i 0).val + (i 2).val, by have e : cfg0.N = 64 := N_0; omega⟩
    have ht0 : t.val / 32 = (i 0).val := by show (32 * (i 0).val + (i 2).val) / 32 = _; omega
    have ht1 : t.val % 32 = (i 2).val := by show (32 * (i 0).val + (i 2).val) % 32 = _; omega
    have hi := fun a => congrFun (idx23 t) a
    refine ⟨t, flush0_23 t, ?_⟩
    show i ∈ ((View.whole main_v60_2).slice (win0_23.rect t)).set
    rw [View.set_slice_whole, Rect.mem_set_unit]
    intro a
    match a with
    | ⟨0, _⟩ => show win0_23.index t 0 * 1 ≤ (i 0).val ∧ (i 0).val < win0_23.index t 0 * 1 + 1; rw [hi 0]; show t.val / 32 * 1 ≤ _ ∧ _ < t.val / 32 * 1 + 1; omega
    | ⟨1, _⟩ => show win0_23.index t 1 * 16 ≤ (i 1).val ∧ (i 1).val < win0_23.index t 1 * 16 + 16; rw [hi 1]; show 0 * 16 ≤ _ ∧ _ < 0 * 16 + 16; omega
    | ⟨2, _⟩ => show win0_23.index t 2 * 1 ≤ (i 2).val ∧ (i 2).val < win0_23.index t 2 * 1 + 1; rw [hi 2]; show t.val % 32 * 1 ≤ _ ∧ _ < t.val % 32 * 1 + 1; omega
    | ⟨3, _⟩ => show win0_23.index t 3 * 96 ≤ (i 3).val ∧ (i 3).val < win0_23.index t 3 * 96 + 96; rw [hi 3]; show 0 * 96 ≤ _ ∧ _ < 0 * 96 + 96; omega
    | ⟨4, _⟩ => show win0_23.index t 4 * 512 ≤ (i 4).val ∧ (i 4).val < win0_23.index t 4 * 512 + 512; rw [hi 4]; show 0 * 512 ≤ _ ∧ _ < 0 * 512 + 512; omega

theorem flushed24 (t : Fin cfg0.N) :
    (dats m 0 c).flushed 24 t = ((cfg0.win 24).blk t).view.read (Elt Ideal) (res3 (args m c) : Buf (Elt Ideal) ((c : Thread nD τ).loc main_v60_3)) := by
  show (cfg0.win 24).cut (grid0.coords t) ((dats m 0 c).after 24 t) = _
  rw [after0_24]
  funext y
  rw [View.read_apply]
  have h0 : (y 0).val < 1 := (y 0).isLt
  have h1 : (y 1).val < 16 := (y 1).isLt
  have h2 : (y 2).val < 1 := (y 2).isLt
  have h3 : (y 3).val < 64 := (y 3).isLt
  have h4 : (y 4).val < 512 := (y 4).isLt
  have hi := fun a => congrFun (idx24 t) a
  have e : ((cfg0.win 24).blk t).view.emb y = (ix5 (bOf t) (y 1) ⟨t.val % 32, by omega⟩ (y 3) (y 4) : S2x16x32x64x512.Idx) := by
    funext a
    apply Fin.ext
    match a with
    | ⟨0, _⟩ => show win0_24.index t 0 * 1 + 1 * (y 0).val = t.val / 32; rw [hi 0]; show t.val / 32 * 1 + _ = _; omega
    | ⟨1, _⟩ => show win0_24.index t 1 * 16 + 1 * (y 1).val = (y 1).val; rw [hi 1]; show 0 * 16 + _ = _; omega
    | ⟨2, _⟩ => show win0_24.index t 2 * 1 + 1 * (y 2).val = t.val % 32; rw [hi 2]; show t.val % 32 * 1 + _ = _; omega
    | ⟨3, _⟩ => show win0_24.index t 3 * 64 + 1 * (y 3).val = (y 3).val; rw [hi 3]; show 0 * 64 + _ = _; omega
    | ⟨4, _⟩ => show win0_24.index t 4 * 512 + 1 * (y 4).val = (y 4).val; rw [hi 4]; show 0 * 512 + _ = _; omega
  rw [e]
  have e2 : y = (ix5 0 (y 1 : Fin 16) 0 (y 3 : Fin 64) (y 4 : Fin 512) : S1x16x1x64x512.Idx) := by
    funext a
    match a with
    | ⟨0, _⟩ => exact Fin.ext (by show (y 0).val = 0; omega)
    | ⟨1, _⟩ => rfl
    | ⟨2, _⟩ => exact Fin.ext (by show (y 2).val = 0; omega)
    | ⟨3, _⟩ => rfl
    | ⟨4, _⟩ => rfl
  exact (congrArg (outValue (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 16 t)) e2).trans (outValue_at m c t (y 1) (y 3) (y 4))

/-- The array of window 24 after the run. -/
theorem final24 : (dats m 0 c).arrAt 24 cfg0.N = (res3 (args m c) : Buf (Elt Ideal) ((c : Thread nD τ).loc main_v60_3)) :=
  (dats m 0 c).arrAt_eq_of_cover 24 (res3 (args m c) : Buf (Elt Ideal) ((c : Thread nD τ).loc main_v60_3)) (fun t _ => flushed24 m c t) fun i => by
    have h0 : (i 0).val < 2 := (i 0).isLt
    have h1 : (i 1).val < 16 := (i 1).isLt
    have h2 : (i 2).val < 32 := (i 2).isLt
    have h3 : (i 3).val < 64 := (i 3).isLt
    have h4 : (i 4).val < 512 := (i 4).isLt
    let t : Fin cfg0.N := ⟨32 * (i 0).val + (i 2).val, by have e : cfg0.N = 64 := N_0; omega⟩
    have ht0 : t.val / 32 = (i 0).val := by show (32 * (i 0).val + (i 2).val) / 32 = _; omega
    have ht1 : t.val % 32 = (i 2).val := by show (32 * (i 0).val + (i 2).val) % 32 = _; omega
    have hi := fun a => congrFun (idx24 t) a
    refine ⟨t, flush0_24 t, ?_⟩
    show i ∈ ((View.whole main_v60_3).slice (win0_24.rect t)).set
    rw [View.set_slice_whole, Rect.mem_set_unit]
    intro a
    match a with
    | ⟨0, _⟩ => show win0_24.index t 0 * 1 ≤ (i 0).val ∧ (i 0).val < win0_24.index t 0 * 1 + 1; rw [hi 0]; show t.val / 32 * 1 ≤ _ ∧ _ < t.val / 32 * 1 + 1; omega
    | ⟨1, _⟩ => show win0_24.index t 1 * 16 ≤ (i 1).val ∧ (i 1).val < win0_24.index t 1 * 16 + 16; rw [hi 1]; show 0 * 16 ≤ _ ∧ _ < 0 * 16 + 16; omega
    | ⟨2, _⟩ => show win0_24.index t 2 * 1 ≤ (i 2).val ∧ (i 2).val < win0_24.index t 2 * 1 + 1; rw [hi 2]; show t.val % 32 * 1 ≤ _ ∧ _ < t.val % 32 * 1 + 1; omega
    | ⟨3, _⟩ => show win0_24.index t 3 * 64 ≤ (i 3).val ∧ (i 3).val < win0_24.index t 3 * 64 + 64; rw [hi 3]; show 0 * 64 ≤ _ ∧ _ < 0 * 64 + 64; omega
    | ⟨4, _⟩ => show win0_24.index t 4 * 512 ≤ (i 4).val ∧ (i 4).val < win0_24.index t 4 * 512 + 512; rw [hi 4]; show 0 * 512 ≤ _ ∧ _ < 0 * 512 + 512; omega

theorem flushed25 (t : Fin cfg0.N) :
    (dats m 0 c).flushed 25 t = ((cfg0.win 25).blk t).view.read (Elt Ideal) (res4 (args m c) : Buf (Elt Ideal) ((c : Thread nD τ).loc main_v60_4)) := by
  show (cfg0.win 25).cut (grid0.coords t) ((dats m 0 c).after 25 t) = _
  rw [after0_25]
  funext y
  rw [View.read_apply]
  have h0 : (y 0).val < 1 := (y 0).isLt
  have h1 : (y 1).val < 1024 := (y 1).isLt
  have h2 : (y 2).val < 512 := (y 2).isLt
  have hi := fun a => congrFun (idx25 t) a
  have e : ((cfg0.win 25).blk t).view.emb y = (ix3 (bOf t) (y 1) (rOf t (y 2)) : S2x1024x16384.Idx) := by
    funext a
    apply Fin.ext
    match a with
    | ⟨0, _⟩ => show win0_25.index t 0 * 1 + 1 * (y 0).val = t.val / 32; rw [hi 0]; show t.val / 32 * 1 + _ = _; omega
    | ⟨1, _⟩ => show win0_25.index t 1 * 1024 + 1 * (y 1).val = (y 1).val; rw [hi 1]; show 0 * 1024 + _ = _; omega
    | ⟨2, _⟩ => show win0_25.index t 2 * 512 + 1 * (y 2).val = t.val % 32 * 512 + (y 2).val; rw [hi 2]; show t.val % 32 * 512 + _ = _; omega
  rw [e]
  have e2 : y = (ix3 0 (y 1 : Fin 1024) (y 2 : Fin 512) : S1x1024x512.Idx) := by
    funext a
    match a with
    | ⟨0, _⟩ => exact Fin.ext (by show (y 0).val = 0; omega)
    | ⟨1, _⟩ => rfl
    | ⟨2, _⟩ => rfl
  exact (congrArg (outGate (iblk m c 0 t) (iblk m c 1 t) (iblk m c 2 t) (iblk m c 3 t) (iblk m c 4 t) (iblk m c 5 t) (iblk m c 6 t) (iblk m c 7 t) (iblk m c 8 t) (iblk m c 9 t)) e2).trans (outGate_at m c t (y 1) (y 2))

/-- The array of window 25 after the run. -/
theorem final25 : (dats m 0 c).arrAt 25 cfg0.N = (res4 (args m c) : Buf (Elt Ideal) ((c : Thread nD τ).loc main_v60_4)) :=
  (dats m 0 c).arrAt_eq_of_cover 25 (res4 (args m c) : Buf (Elt Ideal) ((c : Thread nD τ).loc main_v60_4)) (fun t _ => flushed25 m c t) fun i => by
    have h0 : (i 0).val < 2 := (i 0).isLt
    have h1 : (i 1).val < 1024 := (i 1).isLt
    have h2 : (i 2).val < 16384 := (i 2).isLt
    let t : Fin cfg0.N := ⟨32 * (i 0).val + (i 2).val / 512, by have e : cfg0.N = 64 := N_0; omega⟩
    have ht0 : t.val / 32 = (i 0).val := by show (32 * (i 0).val + (i 2).val / 512) / 32 = _; omega
    have ht1 : t.val % 32 = (i 2).val / 512 := by show (32 * (i 0).val + (i 2).val / 512) % 32 = _; omega
    have hi := fun a => congrFun (idx25 t) a
    refine ⟨t, flush0_25 t, ?_⟩
    show i ∈ ((View.whole main_v60_4).slice (win0_25.rect t)).set
    rw [View.set_slice_whole, Rect.mem_set_unit]
    intro a
    match a with
    | ⟨0, _⟩ => show win0_25.index t 0 * 1 ≤ (i 0).val ∧ (i 0).val < win0_25.index t 0 * 1 + 1; rw [hi 0]; show t.val / 32 * 1 ≤ _ ∧ _ < t.val / 32 * 1 + 1; omega
    | ⟨1, _⟩ => show win0_25.index t 1 * 1024 ≤ (i 1).val ∧ (i 1).val < win0_25.index t 1 * 1024 + 1024; rw [hi 1]; show 0 * 1024 ≤ _ ∧ _ < 0 * 1024 + 1024; omega
    | ⟨2, _⟩ => show win0_25.index t 2 * 512 ≤ (i 2).val ∧ (i 2).val < win0_25.index t 2 * 512 + 512; rw [hi 2]; show t.val % 32 * 512 ≤ _ ∧ _ < t.val % 32 * 512 + 512; omega

section
variable (m : (ℓ : Loc nD τ sig) → Buf (Elt Ideal) ℓ) (ρ : Dev nD → PrngReg)
open Idealize.ShloMosaic.Pipeline (Dat)

/-- After the frame run, output window 21's array is `(dats m 0 c).arrAt 21 N`. -/
theorem post21 (r : PUnit × MemSt nD τ sig (Elt Ideal)) (h : Pipeline.FramePost cfgs (dats m) 0 (V m) r) (c : Dev nD) :
    r.2.mem ((c : Thread nD τ).loc main_v60_0) = (dats m 0 c).arrAt 21 cfg0.N :=
  (h c).1 21

/-- After the frame run, output window 22's array is `(dats m 0 c).arrAt 22 N`. -/
theorem post22 (r : PUnit × MemSt nD τ sig (Elt Ideal)) (h : Pipeline.FramePost cfgs (dats m) 0 (V m) r) (c : Dev nD) :
    r.2.mem ((c : Thread nD τ).loc main_v60_1) = (dats m 0 c).arrAt 22 cfg0.N :=
  (h c).1 22

/-- After the frame run, output window 23's array is `(dats m 0 c).arrAt 23 N`. -/
theorem post23 (r : PUnit × MemSt nD τ sig (Elt Ideal)) (h : Pipeline.FramePost cfgs (dats m) 0 (V m) r) (c : Dev nD) :
    r.2.mem ((c : Thread nD τ).loc main_v60_2) = (dats m 0 c).arrAt 23 cfg0.N :=
  (h c).1 23

/-- After the frame run, output window 24's array is `(dats m 0 c).arrAt 24 N`. -/
theorem post24 (r : PUnit × MemSt nD τ sig (Elt Ideal)) (h : Pipeline.FramePost cfgs (dats m) 0 (V m) r) (c : Dev nD) :
    r.2.mem ((c : Thread nD τ).loc main_v60_3) = (dats m 0 c).arrAt 24 cfg0.N :=
  (h c).1 24

/-- After the frame run, output window 25's array is `(dats m 0 c).arrAt 25 N`. -/
theorem post25 (r : PUnit × MemSt nD τ sig (Elt Ideal)) (h : Pipeline.FramePost cfgs (dats m) 0 (V m) r) (c : Dev nD) :
    r.2.mem ((c : Thread nD τ).loc main_v60_4) = (dats m 0 c).arrAt 25 cfg0.N :=
  (h c).1 25

/-- After the frame run, argument `main_arg0` is as launched: input window 0 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: no window stages it, and the run leaves the region's other buffers as they were. -/
theorem kept_main_arg9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt Ideal)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- The frame run with each output array after the run named,
    the arguments unchanged. -/
theorem run_blocks : θ_run defs (onTc (τ := τ) (main (F := Ideal))) ⟨m, fun _ => 0, ρ⟩ fun r => ∀ c : Dev nD,
      r.2.mem ((c : Thread nD τ).loc main_v60_0) = (dats m 0 c).arrAt 21 cfg0.N
      ∧ r.2.mem ((c : Thread nD τ).loc main_v60_1) = (dats m 0 c).arrAt 22 cfg0.N
      ∧ r.2.mem ((c : Thread nD τ).loc main_v60_2) = (dats m 0 c).arrAt 23 cfg0.N
      ∧ r.2.mem ((c : Thread nD τ).loc main_v60_3) = (dats m 0 c).arrAt 24 cfg0.N
      ∧ r.2.mem ((c : Thread nD τ).loc main_v60_4) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post21 m r h c,
      post22 m r h c,
      post23 m r h c,
      post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end

end Cert.Kernel4Ideal.Front

end
-- ==== Proof.FrontFinite.lean ====
/-
The call `odd_front`: over finite arguments the modulated norm of the sum is finite, so a negated column of weights
negates the column of the projection.
-/
module

public import proofs.«01_k».proof.Proof.FrontSpec
public import proofs.«01_k».proof.Proof.Same
public import proofs.«01_k».proof.Proof.Gen.Pre_finite_h
public import Idealize.ShloMosaic.Lib.ReduceAll

@[expose] public section

set_option maxRecDepth 16384

noncomputable section

namespace Cert.Kernel4Ideal.Front

open Idealize.ShloMosaic Idealize.ShloMosaic.TcCoe Idealize.SL.Sem
open Cert.Kernel4Ideal Cert.Kernel4Ideal.Gen

/-- Not an infinity. -/
def IsReal (x : EReal) : Prop := ∃ r : ℝ, x = (r : EReal)

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem isReal_one : IsReal 1 := ⟨1, EReal.coe_one.symm⟩

theorem isReal_sum {n : Nat} (f : Fin n → EReal) (h : ∀ k, IsReal (f k)) : IsReal (∑ k, f k) := by
  choose r hr using h
  obtain rfl : f = fun k => (r k : EReal) := funext hr
  exact ⟨∑ k, r k, Cert.Softmax.coe_sum _ _⟩

theorem isReal_silu {v : EReal} (h : IsReal v) : IsReal (silu v) := by
  obtain ⟨r, rfl⟩ := h
  have e : (1 : EReal) + Ideal.exp (0 - (r : EReal)) = ((1 + Real.exp (0 - r) : ℝ) : EReal) := by
    rw [EReal.coe_add, EReal.coe_one, ← Ideal.exp_coe, EReal.coe_sub, EReal.coe_zero]
  unfold silu
  rw [e, Ideal.div_coe (by positivity)]
  exact IsReal.mul ⟨r, rfl⟩ (IsReal.mul isReal_one ⟨_, rfl⟩)

theorem isReal_mixed (a b : Fin 512 → EReal) (gate w : Fin 1024 → EReal) (ha : ∀ k, IsReal (a k)) (hb : ∀ k, IsReal (b k))
    (hg : ∀ k, IsReal (gate k)) (hw : ∀ k, IsReal (w k)) : IsReal (mixed a b gate w) :=
  IsReal.add (isReal_sum _ fun k => IsReal.mul (IsReal.mul (ha k) (isReal_silu (hg _))) (hw _))
    (isReal_sum _ fun k => IsReal.mul (IsReal.mul (hb k) (isReal_silu (hg _))) (hw _))

theorem eps_pos : ∃ e : ℝ, 0 < e ∧ Ideal.ofBits .f32 0x358637BD#32 = (e : EReal) := by
  refine ⟨(2 ^ 23 + 407485 : Nat) * (2 : ℝ) ^ (-43 : Int), by positivity, ?_⟩
  simp [Ideal.ofBits, Ideal.ieee]

theorem count_pos : ∃ e : ℝ, 0 < e ∧ Ideal.ofBits .f32 0x44800000#32 = (e : EReal) := by
  refine ⟨(2 ^ 23 : Nat) * (2 : ℝ) ^ (-13 : Int), by positivity, ?_⟩
  simp [Ideal.ofBits, Ideal.ieee]

theorem isReal_normed {n : Nat} (count : EReal) (hc : ∃ e : ℝ, 0 < e ∧ count = (e : EReal)) (y g : Fin n → EReal) (k : Fin n)
    (hy : ∀ k, IsReal (y k)) (hg : ∀ k, IsReal (g k)) : IsReal (normed count y g k) := by
  refine IsReal.mul (IsReal.mul (hy k) ?_) (hg k)
  obtain ⟨n', hn, rfl⟩ := hc
  obtain ⟨e, he, ee⟩ := eps_pos
  choose r hr using hy
  obtain rfl : y = fun k => (r k : EReal) := funext hr
  have hs : 0 ≤ ∑ k, r k * r k := Finset.sum_nonneg fun k _ => mul_self_nonneg _
  have hp : 0 < (∑ k, r k * r k) * (1 / n') + e := by positivity
  have eq : Ideal.div (∑ k, (r k : EReal) * (r k : EReal)) (n' : EReal) + Ideal.ofBits .f32 0x358637BD#32
      = (((∑ k, r k * r k) * (1 / n') + e : ℝ) : EReal) := by
    rw [Ideal.div_coe hn.ne', ee, EReal.coe_add, EReal.coe_mul, ← Cert.Softmax.coe_sum]
    simp only [EReal.coe_mul]
  rw [eq, Ideal.rsqrt_coe, if_neg (not_lt.2 hp.le), if_neg hp.ne']
  exact ⟨_, rfl⟩

/-- The arguments that the modulated norm reads are finite, and so are the weights of the negated columns. -/
structure Args.Finite (a : Args) : Prop where
  x : ∀ i, IsReal (a.x i)
  oa : ∀ i, IsReal (a.oa i)
  ob : ∀ i, IsReal (a.ob i)
  u : ∀ (b : Fin 2) (l : Fin 16384) (k : Fin 1024), IsReal (a.u (ix3 b l ⟨k.val, by omega⟩))
  gm : ∀ i, IsReal (a.gm i)
  wo : ∀ i, IsReal (a.wo i)
  g : ∀ i, IsReal (a.g i)
  sc : ∀ i, IsReal (a.sc i)
  sh : ∀ i, IsReal (a.sh i)
  wi : ∀ (k : Fin 1024) (r : Fin 1440), 400 ≤ r.val → r.val < 416 → IsReal (a.wi (ix2 k r))

theorem isReal_row (a : Args) (h : a.Finite) (b : Fin 2) (l : Fin 16384) (k : Fin 1024) : IsReal (rowAt a b l k) := by
  refine IsReal.add (IsReal.mul (isReal_normed _ count_pos _ _ k (fun k => ?_) fun k => h.g _) (IsReal.add isReal_one (h.sc _))) (h.sh _)
  exact IsReal.add (h.x _) (IsReal.mul (h.gm _) (isReal_mixed _ _ _ _ (fun k => h.oa _) (fun k => h.ob _) (fun k => h.u b l k) fun k => h.wo _))

theorem negates (a : Args) (h : a.Finite) : Negates a := by
  intro b l r h0 h1
  have hp : ∀ k : Fin 1024, IsReal (rowAt a b l k * a.wi (ix2 k r)) := fun k => IsReal.mul (isReal_row a h b l k) (h.wi k r h0 h1)
  choose p hp using hp
  unfold projAt
  simp only [mul_neg, hp]
  simp only [← EReal.coe_neg, Cert.Softmax.coe_sum, Finset.sum_neg_distrib]

/-- What the precondition says. -/
theorem finite (a : Args) (e : Cert.Pre_finite_h.fn (F := Ideal) a.x a.oa a.ob a.u a.gm a.wo a.g a.sc a.sh a.wi a.qn a.wq a.kn a.wk = fun _ => 1#1) :
    a.Finite := by
  unfold Cert.Pre_finite_h.fn Cert.Pre_finite_h.fn_part1 Cert.Pre_finite_h.fn_part2 Cert.Pre_finite_h.fn_part3 at e
  have : Subsingleton Cert.Pre_finite_h.S_.Idx := ⟨fun a b => funext fun k => k.elim0⟩
  obtain ⟨e, e9⟩ := IntOp.andi_eq_one.1 (congrFun e ix0)
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun b l k => ?_, fun i => ?_, fun i => ?_, fun i => ?_, fun i => ?_, fun i => ?_, fun k r h0 h1 => ?_⟩
  · exact Cert.Same.real_of_abs_lt _ (Host.reduce_andi_all _ _ _ _ _ e0 i)
  · exact Cert.Same.real_of_abs_lt _ (Host.reduce_andi_all _ _ _ _ _ e1 i)
  · exact Cert.Same.real_of_abs_lt _ (Host.reduce_andi_all _ _ _ _ _ e2 i)
  · obtain ⟨r, hr⟩ := Cert.Same.real_of_abs_lt _ (Host.reduce_andi_all _ _ _ _ _ e3 (ix3 b l k))
    refine ⟨r, Eq.trans (congrArg a.u ?_) hr⟩
    funext j
    fin_cases j
    · exact Fin.ext (by show b.val = 0 + b.val; omega)
    · exact Fin.ext (by show l.val = 0 + l.val; omega)
    · exact Fin.ext (by show k.val = 0 + k.val; omega)
  · exact Cert.Same.real_of_abs_lt _ (Host.reduce_andi_all _ _ _ _ _ e4 i)
  · exact Cert.Same.real_of_abs_lt _ (Host.reduce_andi_all _ _ _ _ _ e5 i)
  · exact Cert.Same.real_of_abs_lt _ (Host.reduce_andi_all _ _ _ _ _ e6 i)
  · exact Cert.Same.real_of_abs_lt _ (Host.reduce_andi_all _ _ _ _ _ e7 i)
  · exact Cert.Same.real_of_abs_lt _ (Host.reduce_andi_all _ _ _ _ _ e8 i)
  · obtain ⟨x, hx⟩ := Cert.Same.real_of_abs_lt _ (Host.reduce_andi_all _ _ _ _ _ e9 (ix2 k ⟨r.val - 400, by omega⟩))
    refine ⟨x, Eq.trans (congrArg a.wi ?_) hx⟩
    funext j
    fin_cases j
    · exact Fin.ext (by show k.val = 0 + k.val; omega)
    · exact Fin.ext (by show r.val = 400 + (r.val - 400); omega)

end Cert.Kernel4Ideal.Front

end
-- ==== Proof.FrontReference.lean ====
/-
The call `odd_front`: what its reference computes, stage by stage, at an index.
-/
module

public import proofs.«01_k».proof.Proof.FrontSpec
public import proofs.«01_k».proof.Proof.Gen.Reference4Ideal.Run

@[expose] public section

set_option maxRecDepth 16384

noncomputable section

namespace Cert.Reference4Ideal.Front

open Idealize.ShloMosaic Idealize.ShloMosaic.TcCoe Idealize.SL.Sem
open Cert.Reference4Ideal Cert.Reference4Ideal.Gen Cert.Reference4Ideal.Value
open Cert.Kernel4Ideal.Front (silu mixed normed scaleQ cosTab sinTab)

/-! ## The stages -/

/-- The residual sum. -/
def sums (x : FVec Ideal S2x16384x1024 .f32) (oa : FVec Ideal S2x16384x512 .bf16) (ob : FVec Ideal S2x16384x512 .bf16) (u : FVec Ideal S2x16384x3328 .bf16) (gm : FVec Ideal S2x1x1024 .f32) (wo : FVec Ideal S1024x1024 .bf16) : FVec Ideal S2x16384x1024 .f32 :=
  addf x (mulf (broadcastInDim S2x16384x1024 ![0, 1, 2] bcast_S2x1x1024_S2x16384x1024_0_1_2 gm) (Host.dotGeneral dot_S2x16384x1024_S1024x1024_S2x16384x1024_2_0_01_1_n_n none (mulf (extf .f32 (concatenate S2x16384x1024 2 [⟨S2x16384x512, oa⟩, ⟨S2x16384x512, ob⟩] concatenates_S2x16384x512_S2x16384x512_S2x16384x1024_d2) bitsLt_bf16_f32) (mulf (extf .f32 (extractStridedSlice S2x16384x1024 ![0, 0, 0] u slices_S2x16384x3328_S2x16384x1024_0_0_0) bitsLt_bf16_f32) (Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf (extf .f32 (extractStridedSlice S2x16384x1024 ![0, 0, 0] u slices_S2x16384x3328_S2x16384x1024_0_0_0) bitsLt_bf16_f32))))))) (extf .f32 wo bitsLt_bf16_f32)))

/-- Its modulated norm. -/
def rows (s : FVec Ideal S2x16384x1024 .f32) (g : FVec Ideal S1024 .f32) (sc : FVec Ideal S2x1x1024 .f32) (sh : FVec Ideal S2x1x1024 .f32) : FVec Ideal S2x16384x1024 .f32 :=
  addf (mulf (mulf (mulf s (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf s s) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) sc))) (broadcastInDim S2x16384x1024 ![0, 1, 2] bcast_S2x1x1024_S2x16384x1024_0_1_2 sh)

/-- The projection. -/
def projs (h : FVec Ideal S2x16384x1024 .f32) (wi : FVec Ideal S1024x1440 .f32) : FVec Ideal S2x16384x1440 .f32 :=
  Host.dotGeneral dot_S2x16384x1024_S1024x1440_S2x16384x1440_2_0_01_1_n_n none h wi

/-- The queries' latent, normed. -/
def qLat (p : FVec Ideal S2x16384x1440 .f32) (qn : FVec Ideal S256 .f32) : FVec Ideal S2x16384x256 .f32 :=
  mulf (mulf (extractStridedSlice S2x16384x256 ![0, 0, 0] p slices_S2x16384x1440_S2x16384x256_0_0_0) (broadcastInDim S2x16384x256 ![0, 1, 2] bcast_S2x16384x1_S2x16384x256_0_1_2 (Host.rsqrt (addf (Host.divf (broadcastInDim S2x16384x1 ![0, 1] bcast_S2x16384_S2x16384x1_0_1 (Host.reduceAdd (mulf (extractStridedSlice S2x16384x256 ![0, 0, 0] p slices_S2x16384x1440_S2x16384x256_0_0_0) (extractStridedSlice S2x16384x256 ![0, 0, 0] p slices_S2x16384x1440_S2x16384x256_0_0_0)) (constant S_ .f32 0x00000000#32) reducesTo_S2x16384x256_S2x16384_d2 h_S_)) (broadcastInDim S2x16384x1 ![] bcast_S_S2x16384x1 (constant S_ .f32 0x43800000#32))) (broadcastInDim S2x16384x1 ![] bcast_S_S2x16384x1 (constant S_ .f32 0x358637BD#32)))))) (broadcastInDim S2x16384x256 ![0, 1, 2] bcast_S1x1x256_S2x16384x256_0_1_2 (broadcastInDim S1x1x256 ![2] bcast_S256_S1x1x256_2 qn))

/-- The queries before the rotation. -/
def qs (n : FVec Ideal S2x16384x256 .f32) (wq : FVec Ideal S256x1536 .f32) : FVec Ideal S2x16384x1536 .f32 :=
  Host.dotGeneral dot_S2x16384x256_S256x1536_S2x16384x1536_2_0_01_1_n_n none n wq

/-- The keys' latent, normed. -/
def kLat (p : FVec Ideal S2x16384x1440 .f32) (kn : FVec Ideal S128 .f32) : FVec Ideal S2x16384x128 .f32 :=
  mulf (mulf (extractStridedSlice S2x16384x128 ![0, 0, 256] p slices_S2x16384x1440_S2x16384x128_0_0_256) (broadcastInDim S2x16384x128 ![0, 1, 2] bcast_S2x16384x1_S2x16384x128_0_1_2 (Host.rsqrt (addf (Host.divf (broadcastInDim S2x16384x1 ![0, 1] bcast_S2x16384_S2x16384x1_0_1 (Host.reduceAdd (mulf (extractStridedSlice S2x16384x128 ![0, 0, 256] p slices_S2x16384x1440_S2x16384x128_0_0_256) (extractStridedSlice S2x16384x128 ![0, 0, 256] p slices_S2x16384x1440_S2x16384x128_0_0_256)) (constant S_ .f32 0x00000000#32) reducesTo_S2x16384x128_S2x16384_d2 h_S_)) (broadcastInDim S2x16384x1 ![] bcast_S_S2x16384x1 (constant S_ .f32 0x43000000#32))) (broadcastInDim S2x16384x1 ![] bcast_S_S2x16384x1 (constant S_ .f32 0x358637BD#32)))))) (broadcastInDim S2x16384x128 ![0, 1, 2] bcast_S1x1x128_S2x16384x128_0_1_2 (broadcastInDim S1x1x128 ![2] bcast_S128_S1x1x128_2 kn))

/-- The keys' unrotated columns and the values. -/
def kvs (n : FVec Ideal S2x16384x128 .f32) (wk : FVec Ideal S128x2048 .f32) : FVec Ideal S2x16384x2048 .f32 :=
  Host.dotGeneral dot_S2x16384x128_S128x2048_S2x16384x2048_2_0_01_1_n_n none n wk

/-- The keys: the heads side by side, before they are laid out. -/
def keyRows (p : FVec Ideal S2x16384x1440 .f32) (kv : FVec Ideal S2x16384x2048 .f32) (cosT : FVec Ideal S16384x16 .f32) (sinT : FVec Ideal S16384x16 .f32) : FVec Ideal S2x16384x16x96 .f32 :=
  concatenate S2x16384x16x96 3 [⟨S2x16384x16x64, (extractStridedSlice S2x16384x16x64 ![0, 0, 0, 0] (shapeCast _ kv shapeCasts_S2x16384x2048_S2x16384x16x128) slices_S2x16384x16x128_S2x16384x16x64_0_0_0_0)⟩, ⟨S2x16384x16x32, (broadcastInDim S2x16384x16x32 ![0, 1, 2, 3] bcast_S2x16384x1x32_S2x16384x16x32_0_1_2_3 (broadcastInDim S2x16384x1x32 ![0, 1, 3] bcast_S2x16384x32_S2x16384x1x32_0_1_3 (concatenate S2x16384x32 2 [⟨S2x16384x16, (subf (mulf (extractStridedSlice S2x16384x16 ![0, 0, 0] (extractStridedSlice S2x16384x32 ![0, 0, 384] p slices_S2x16384x1440_S2x16384x32_0_0_384) slices_S2x16384x32_S2x16384x16_0_0_0) (broadcastInDim S2x16384x16 ![0, 1, 2] bcast_S1x16384x16_S2x16384x16_0_1_2 (broadcastInDim S1x16384x16 ![1, 2] bcast_S16384x16_S1x16384x16_1_2 cosT))) (mulf (extractStridedSlice S2x16384x16 ![0, 0, 16] (extractStridedSlice S2x16384x32 ![0, 0, 384] p slices_S2x16384x1440_S2x16384x32_0_0_384) slices_S2x16384x32_S2x16384x16_0_0_16) (broadcastInDim S2x16384x16 ![0, 1, 2] bcast_S1x16384x16_S2x16384x16_0_1_2 (broadcastInDim S1x16384x16 ![1, 2] bcast_S16384x16_S1x16384x16_1_2 sinT))))⟩, ⟨S2x16384x16, (addf (mulf (extractStridedSlice S2x16384x16 ![0, 0, 16] (extractStridedSlice S2x16384x32 ![0, 0, 384] p slices_S2x16384x1440_S2x16384x32_0_0_384) slices_S2x16384x32_S2x16384x16_0_0_16) (broadcastInDim S2x16384x16 ![0, 1, 2] bcast_S1x16384x16_S2x16384x16_0_1_2 (broadcastInDim S1x16384x16 ![1, 2] bcast_S16384x16_S1x16384x16_1_2 cosT))) (mulf (extractStridedSlice S2x16384x16 ![0, 0, 0] (extractStridedSlice S2x16384x32 ![0, 0, 384] p slices_S2x16384x1440_S2x16384x32_0_0_384) slices_S2x16384x32_S2x16384x16_0_0_0) (broadcastInDim S2x16384x16 ![0, 1, 2] bcast_S1x16384x16_S2x16384x16_0_1_2 (broadcastInDim S1x16384x16 ![1, 2] bcast_S16384x16_S1x16384x16_1_2 sinT))))⟩] concatenates_S2x16384x16_S2x16384x16_S2x16384x32_d2)))⟩] concatenates_S2x16384x16x64_S2x16384x16x32_S2x16384x16x96_d3

/-- The rotated queries, before the scale. -/
def qryRows (q : FVec Ideal S2x16384x1536 .f32) (cosT : FVec Ideal S16384x16 .f32) (sinT : FVec Ideal S16384x16 .f32) : FVec Ideal S2x16384x16x96 .f32 :=
  concatenate S2x16384x16x96 3 [⟨S2x16384x16x64, (extractStridedSlice S2x16384x16x64 ![0, 0, 0, 0] (shapeCast _ q shapeCasts_S2x16384x1536_S2x16384x16x96) slices_S2x16384x16x96_S2x16384x16x64_0_0_0_0)⟩, ⟨S2x16384x16x32, (concatenate S2x16384x16x32 3 [⟨S2x16384x16x16, (subf (mulf (extractStridedSlice S2x16384x16x16 ![0, 0, 0, 0] (extractStridedSlice S2x16384x16x32 ![0, 0, 0, 64] (shapeCast _ q shapeCasts_S2x16384x1536_S2x16384x16x96) slices_S2x16384x16x96_S2x16384x16x32_0_0_0_64) slices_S2x16384x16x32_S2x16384x16x16_0_0_0_0) (broadcastInDim S2x16384x16x16 ![0, 1, 2, 3] bcast_S1x16384x1x16_S2x16384x16x16_0_1_2_3 (broadcastInDim S1x16384x1x16 ![1, 2, 3] bcast_S16384x1x16_S1x16384x1x16_1_2_3 (broadcastInDim S16384x1x16 ![0, 2] bcast_S16384x16_S16384x1x16_0_2 cosT)))) (mulf (extractStridedSlice S2x16384x16x16 ![0, 0, 0, 16] (extractStridedSlice S2x16384x16x32 ![0, 0, 0, 64] (shapeCast _ q shapeCasts_S2x16384x1536_S2x16384x16x96) slices_S2x16384x16x96_S2x16384x16x32_0_0_0_64) slices_S2x16384x16x32_S2x16384x16x16_0_0_0_16) (broadcastInDim S2x16384x16x16 ![0, 1, 2, 3] bcast_S1x16384x1x16_S2x16384x16x16_0_1_2_3 (broadcastInDim S1x16384x1x16 ![1, 2, 3] bcast_S16384x1x16_S1x16384x1x16_1_2_3 (broadcastInDim S16384x1x16 ![0, 2] bcast_S16384x16_S16384x1x16_0_2 sinT)))))⟩, ⟨S2x16384x16x16, (addf (mulf (extractStridedSlice S2x16384x16x16 ![0, 0, 0, 16] (extractStridedSlice S2x16384x16x32 ![0, 0, 0, 64] (shapeCast _ q shapeCasts_S2x16384x1536_S2x16384x16x96) slices_S2x16384x16x96_S2x16384x16x32_0_0_0_64) slices_S2x16384x16x32_S2x16384x16x16_0_0_0_16) (broadcastInDim S2x16384x16x16 ![0, 1, 2, 3] bcast_S1x16384x1x16_S2x16384x16x16_0_1_2_3 (broadcastInDim S1x16384x1x16 ![1, 2, 3] bcast_S16384x1x16_S1x16384x1x16_1_2_3 (broadcastInDim S16384x1x16 ![0, 2] bcast_S16384x16_S16384x1x16_0_2 cosT)))) (mulf (extractStridedSlice S2x16384x16x16 ![0, 0, 0, 0] (extractStridedSlice S2x16384x16x32 ![0, 0, 0, 64] (shapeCast _ q shapeCasts_S2x16384x1536_S2x16384x16x96) slices_S2x16384x16x96_S2x16384x16x32_0_0_0_64) slices_S2x16384x16x32_S2x16384x16x16_0_0_0_0) (broadcastInDim S2x16384x16x16 ![0, 1, 2, 3] bcast_S1x16384x1x16_S2x16384x16x16_0_1_2_3 (broadcastInDim S1x16384x1x16 ![1, 2, 3] bcast_S16384x1x16_S1x16384x1x16_1_2_3 (broadcastInDim S16384x1x16 ![0, 2] bcast_S16384x16_S16384x1x16_0_2 sinT)))))⟩] concatenates_S2x16384x16x16_S2x16384x16x16_S2x16384x16x32_d3)⟩] concatenates_S2x16384x16x64_S2x16384x16x32_S2x16384x16x96_d3

/-- The second result. -/
def keys (k : FVec Ideal S2x16384x16x96 .f32) : FVec Ideal S2x16x16384x96 .bf16 :=
  truncf .bf16 (transpose S2x16x16384x96 [0, 2, 1, 3] k transposes_S2x16384x16x96_S2x16x16384x96_0_2_1_3) bitsLt_bf16_f32

/-- The third. -/
def queries (k : FVec Ideal S2x16384x16x96 .f32) : FVec Ideal S2x16x32x96x512 .bf16 :=
  truncf .bf16 (transpose S2x16x32x96x512 [0, 3, 1, 4, 2] (shapeCast _ (mulf k (broadcastInDim S2x16384x16x96 ![] bcast_S_S2x16384x16x96 (constant S_ .f32 0x3E16C740#32))) shapeCasts_S2x16384x16x96_S2x32x512x16x96) transposes_S2x32x512x16x96_S2x16x32x96x512_0_3_1_4_2) bitsLt_bf16_f32

/-- The fourth. -/
def values (kv : FVec Ideal S2x16384x2048 .f32) : FVec Ideal S2x16x32x64x512 .bf16 :=
  truncf .bf16 (transpose S2x16x32x64x512 [0, 3, 1, 4, 2] (shapeCast _ (extractStridedSlice S2x16384x16x64 ![0, 0, 0, 64] (shapeCast _ kv shapeCasts_S2x16384x2048_S2x16384x16x128) slices_S2x16384x16x128_S2x16384x16x64_0_0_0_64) shapeCasts_S2x16384x16x64_S2x32x512x16x64) transposes_S2x32x512x16x64_S2x16x32x64x512_0_3_1_4_2) bitsLt_bf16_f32

/-- The fifth. -/
def gates (p : FVec Ideal S2x16384x1440 .f32) : FVec Ideal S2x1024x16384 .bf16 :=
  truncf .bf16 (transpose S2x1024x16384 [0, 2, 1] (mulf (extractStridedSlice S2x16384x1024 ![0, 0, 416] p slices_S2x16384x1440_S2x16384x1024_0_0_416) (Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf (extractStridedSlice S2x16384x1024 ![0, 0, 416] p slices_S2x16384x1440_S2x16384x1024_0_0_416)))))) transposes_S2x16384x1024_S2x1024x16384_0_2_1) bitsLt_bf16_f32

/-! ## At an index -/

theorem sums_apply (x : FVec Ideal S2x16384x1024 .f32) (oa : FVec Ideal S2x16384x512 .bf16) (ob : FVec Ideal S2x16384x512 .bf16) (u : FVec Ideal S2x16384x3328 .bf16) (gm : FVec Ideal S2x1x1024 .f32) (wo : FVec Ideal S1024x1024 .bf16) (b : Fin 2) (l : Fin 16384) (j : Fin 1024) :
    sums x oa ob u gm wo (ix3 b l j) = x (ix3 b l j) + gm (ix3 b 0 j) * mixed (fun k => oa (ix3 b l k)) (fun k => ob (ix3 b l k))
      (fun k => u (ix3 b l ⟨k.val, by omega⟩)) (fun k => wo (ix2 k j)) := by
  pointwise [sums]
  unfold mixed silu
  simp only [zero_sub]

theorem rows_apply (s : FVec Ideal S2x16384x1024 .f32) (g : FVec Ideal S1024 .f32) (sc : FVec Ideal S2x1x1024 .f32) (sh : FVec Ideal S2x1x1024 .f32) (b : Fin 2) (l : Fin 16384) (k : Fin 1024) :
    rows s g sc sh (ix3 b l k) = normed (Ideal.ofBits .f32 0x44800000#32) (fun k => s (ix3 b l k)) (fun k => g (ix1 k)) k
      * (1 + sc (ix3 b 0 k)) + sh (ix3 b 0 k) := by
  pointwise [rows]
  rfl

theorem projs_apply (h : FVec Ideal S2x16384x1024 .f32) (wi : FVec Ideal S1024x1440 .f32) (b : Fin 2) (l : Fin 16384) (r : Fin 1440) :
    projs h wi (ix3 b l r) = ∑ k : Fin 1024, h (ix3 b l k) * wi (ix2 k r) := by
  pointwise [projs]

theorem qLat_apply (p : FVec Ideal S2x16384x1440 .f32) (qn : FVec Ideal S256 .f32) (b : Fin 2) (l : Fin 16384) (k : Fin 256) :
    qLat p qn (ix3 b l k) = normed (Ideal.ofBits .f32 0x43800000#32) (fun k : Fin 256 => p (ix3 b l ⟨k.val, by omega⟩)) (fun k => qn (ix1 k)) k := by
  pointwise [qLat]
  rfl

theorem kLat_apply (p : FVec Ideal S2x16384x1440 .f32) (kn : FVec Ideal S128 .f32) (b : Fin 2) (l : Fin 16384) (k : Fin 128) :
    kLat p kn (ix3 b l k) = normed (Ideal.ofBits .f32 0x43000000#32) (fun k : Fin 128 => p (ix3 b l ⟨256 + k.val, by omega⟩)) (fun k => kn (ix1 k)) k := by
  pointwise [kLat]
  rfl

theorem qs_apply (n : FVec Ideal S2x16384x256 .f32) (wq : FVec Ideal S256x1536 .f32) (b : Fin 2) (l : Fin 16384) (r : Fin 1536) :
    qs n wq (ix3 b l r) = ∑ k : Fin 256, n (ix3 b l k) * wq (ix2 k r) := by
  pointwise [qs]

theorem kvs_apply (n : FVec Ideal S2x16384x128 .f32) (wk : FVec Ideal S128x2048 .f32) (b : Fin 2) (l : Fin 16384) (r : Fin 2048) :
    kvs n wk (ix3 b l r) = ∑ k : Fin 128, n (ix3 b l k) * wk (ix2 k r) := by
  pointwise [kvs]

theorem keyRows_apply (p : FVec Ideal S2x16384x1440 .f32) (kv : FVec Ideal S2x16384x2048 .f32) (cosT : FVec Ideal S16384x16 .f32) (sinT : FVec Ideal S16384x16 .f32) (b : Fin 2) (l : Fin 16384) (h : Fin 16) (d : Fin 96) :
    keyRows p kv cosT sinT (ix4 b l h d) =
      if h0 : d.val < 64 then kv (ix3 b l ⟨h.val * 128 + d.val, by omega⟩)
      else if h1 : d.val < 80 then p (ix3 b l ⟨320 + d.val, by omega⟩) * cosT (ix2 l ⟨d.val - 64, by omega⟩)
        - p (ix3 b l ⟨336 + d.val, by omega⟩) * sinT (ix2 l ⟨d.val - 64, by omega⟩)
      else p (ix3 b l ⟨320 + d.val, by omega⟩) * cosT (ix2 l ⟨d.val - 80, by omega⟩)
        + p (ix3 b l ⟨304 + d.val, by omega⟩) * sinT (ix2 l ⟨d.val - 80, by omega⟩) := by
  pointwise [keyRows]
  by_cases h0 : d.val < 64
  · rw [dif_pos h0, dif_pos h0]
  · rw [dif_neg h0, dif_neg h0]
    by_cases h1 : d.val < 80
    · have e0 : 384 + (d.val - 64) = 320 + d.val := by omega
      have e1 : 384 + (16 + (d.val - 64)) = 336 + d.val := by omega
      rw [dif_pos (show d.val - 64 < 16 by omega), dif_pos h1]
      simp only [e0, e1]
    · have e0 : 384 + (16 + (d.val - 80)) = 320 + d.val := by omega
      have e1 : 384 + (d.val - 80) = 304 + d.val := by omega
      have e2 : d.val - 64 - 16 = d.val - 80 := by omega
      rw [dif_neg (show ¬ d.val - 64 < 16 by omega), dif_neg h1]
      simp only [e0, e1, e2]

theorem qryRows_apply (q : FVec Ideal S2x16384x1536 .f32) (cosT : FVec Ideal S16384x16 .f32) (sinT : FVec Ideal S16384x16 .f32) (b : Fin 2) (l : Fin 16384) (h : Fin 16) (d : Fin 96) :
    qryRows q cosT sinT (ix4 b l h d) =
      if h0 : d.val < 64 then q (ix3 b l ⟨h.val * 96 + d.val, by omega⟩)
      else if h1 : d.val < 80 then q (ix3 b l ⟨h.val * 96 + d.val, by omega⟩) * cosT (ix2 l ⟨d.val - 64, by omega⟩)
        - q (ix3 b l ⟨h.val * 96 + (d.val + 16), by omega⟩) * sinT (ix2 l ⟨d.val - 64, by omega⟩)
      else q (ix3 b l ⟨h.val * 96 + d.val, by omega⟩) * cosT (ix2 l ⟨d.val - 80, by omega⟩)
        + q (ix3 b l ⟨h.val * 96 + (d.val - 16), by omega⟩) * sinT (ix2 l ⟨d.val - 80, by omega⟩) := by
  pointwise [qryRows]
  by_cases h0 : d.val < 64
  · rw [dif_pos h0, dif_pos h0]
  · rw [dif_neg h0, dif_neg h0]
    by_cases h1 : d.val < 80
    · have e0 : 64 + (d.val - 64) = d.val := by omega
      have e1 : 64 + (16 + (d.val - 64)) = d.val + 16 := by omega
      rw [dif_pos (show d.val - 64 < 16 by omega), dif_pos h1]
      simp only [e0, e1]
    · have e0 : 64 + (16 + (d.val - 80)) = d.val := by omega
      have e1 : 64 + (d.val - 80) = d.val - 16 := by omega
      have e2 : d.val - 64 - 16 = d.val - 80 := by omega
      rw [dif_neg (show ¬ d.val - 64 < 16 by omega), dif_neg h1]
      simp only [e0, e1, e2]

theorem keys_apply (k : FVec Ideal S2x16384x16x96 .f32) (b : Fin 2) (h : Fin 16) (l : Fin 16384) (d : Fin 96) : keys k (ix4 b h l d) = k (ix4 b l h d) := by
  pointwise [keys]

theorem queries_apply (k : FVec Ideal S2x16384x16x96 .f32) (b : Fin 2) (h : Fin 16) (t : Fin 32) (d : Fin 96) (i : Fin 512) :
    queries k (ix5 b h t d i) = k (ix4 b ⟨t.val * 512 + i.val, by omega⟩ h d) * scaleQ := by
  pointwise [queries]
  rfl

theorem values_apply (kv : FVec Ideal S2x16384x2048 .f32) (b : Fin 2) (h : Fin 16) (t : Fin 32) (d : Fin 64) (i : Fin 512) :
    values kv (ix5 b h t d i) = kv (ix3 b ⟨t.val * 512 + i.val, by omega⟩ ⟨h.val * 128 + (64 + d.val), by omega⟩) := by
  pointwise [values]

theorem gates_apply (p : FVec Ideal S2x16384x1440 .f32) (b : Fin 2) (r : Fin 1024) (l : Fin 16384) :
    gates p (ix3 b r l) = silu (p (ix3 b l ⟨416 + r.val, by omega⟩)) := by
  pointwise [gates]
  unfold silu
  simp only [zero_sub]

/-! ## Over the call's arguments -/

section Whole

open Cert.Kernel4Ideal.Front (Args sumAt rowAt projAt qAt kvAt keyAt qryAt res0 res1 res2 res3 res4)

variable (a : Args)

/-- The stages over the arguments. -/
def sumW : FVec Ideal S2x16384x1024 .f32 := sums a.x a.oa a.ob a.u a.gm a.wo
def rowW : FVec Ideal S2x16384x1024 .f32 := rows (sumW a) a.g a.sc a.sh
def projW : FVec Ideal S2x16384x1440 .f32 := projs (rowW a) a.wi
def qW : FVec Ideal S2x16384x1536 .f32 := qs (qLat (projW a) a.qn) a.wq
def kvW : FVec Ideal S2x16384x2048 .f32 := kvs (kLat (projW a) a.kn) a.wk

variable (b : Fin 2) (l : Fin 16384)

theorem sumW_apply (j : Fin 1024) : sumW a (ix3 b l j) = sumAt a b l j := sums_apply a.x a.oa a.ob a.u a.gm a.wo b l j

theorem rowW_apply (k : Fin 1024) : rowW a (ix3 b l k) = rowAt a b l k := by
  unfold rowW rowAt
  rw [rows_apply]
  simp only [sumW_apply]

theorem projW_apply (r : Fin 1440) : projW a (ix3 b l r) = projAt a b l r := by
  unfold projW projAt
  rw [projs_apply]
  simp only [rowW_apply]

theorem qW_apply (r : Fin 1536) : qW a (ix3 b l r) = qAt a b l r := by
  unfold qW qAt
  rw [qs_apply]
  simp only [qLat_apply, projW_apply]

theorem kvW_apply (r : Fin 2048) : kvW a (ix3 b l r) = kvAt a b l r := by
  unfold kvW kvAt
  rw [kvs_apply]
  simp only [kLat_apply, projW_apply]

theorem same0 : sumW a = res0 a := by
  funext i
  idx_vars i
  exact sumW_apply a _ _ _

theorem same1 : keys (keyRows (projW a) (kvW a) cosTab sinTab) = res1 a := by
  funext i
  idx_vars i
  rw [keys_apply, keyRows_apply]
  simp only [projW_apply, kvW_apply]
  rfl

theorem same2 : queries (qryRows (qW a) cosTab sinTab) = res2 a := by
  funext i
  idx_vars i
  rw [queries_apply, qryRows_apply]
  simp only [qW_apply]
  rfl

theorem same3 : values (kvW a) = res3 a := by
  funext i
  idx_vars i
  rw [values_apply, kvW_apply]
  rfl

theorem same4 : gates (projW a) = res4 a := by
  funext i
  idx_vars i
  rw [gates_apply, projW_apply]
  rfl

variable (m : (ℓ : Loc nD τ sig) → Buf (Elt Ideal) ℓ) (c : Dev nD)

/-- The reference's arguments. -/
def args : Args where
  x := m ((c.tc : Thread nD τ).loc main_arg0)
  oa := m ((c.tc : Thread nD τ).loc main_arg1)
  ob := m ((c.tc : Thread nD τ).loc main_arg2)
  u := m ((c.tc : Thread nD τ).loc main_arg3)
  gm := m ((c.tc : Thread nD τ).loc main_arg4)
  wo := m ((c.tc : Thread nD τ).loc main_arg5)
  g := m ((c.tc : Thread nD τ).loc main_arg6)
  sc := m ((c.tc : Thread nD τ).loc main_arg7)
  sh := m ((c.tc : Thread nD τ).loc main_arg8)
  wi := m ((c.tc : Thread nD τ).loc main_arg9)
  qn := m ((c.tc : Thread nD τ).loc main_arg10)
  wq := m ((c.tc : Thread nD τ).loc main_arg11)
  kn := m ((c.tc : Thread nD τ).loc main_arg12)
  wk := m ((c.tc : Thread nD τ).loc main_arg13)

theorem main_v135_eq : Eq (α := FVec Ideal S2x16x16384x96 .bf16) (res_main_v135 m c) (keys (keyRows (projW (args m c)) (kvW (args m c)) cosTab sinTab)) := by
  unfold res_main_v135
  rfl

theorem main_v136_eq : Eq (α := FVec Ideal S2x16x32x96x512 .bf16) (res_main_v136 m c) (queries (qryRows (qW (args m c)) cosTab sinTab)) := by
  unfold res_main_v136
  rfl

theorem main_v137_eq : Eq (α := FVec Ideal S2x16x32x64x512 .bf16) (res_main_v137 m c) (values (kvW (args m c))) := by
  unfold res_main_v137
  rfl

theorem main_v140_eq : Eq (α := FVec Ideal S2x1024x16384 .bf16) (res_main_v140 m c) (gates (projW (args m c))) := by
  unfold res_main_v140
  rfl

end Whole

end Cert.Reference4Ideal.Front

end
-- ==== Proof.OutTail.lean ====
/-
  The call that ends the odd layer: what its output array holds, index by index, and the reference's result the same.
-/
module

public import proofs.«01_k».proof.Proof.Gen.Kernel2Ideal.Value
public import proofs.«01_k».proof.Proof.Gen.Reference2Ideal.Run
public import Idealize.ShloMosaic.Lib.Pointwise
public import Idealize.ShloMosaic.PureOps.Ideal
public import Idealize.ShloMosaic.PureOps.Ideal.Laws

@[expose] public section

set_option maxRecDepth 16384

noncomputable section

namespace Cert.Kernel2Ideal.Tail

open Idealize.ShloMosaic Idealize.ShloMosaic.TcCoe Idealize.SL.Sem
open Cert.Kernel2Ideal Cert.Kernel2Ideal.Gen

/-- A row over the root of its mean square, at one place. -/
def normed (y : Fin 1024 → EReal) (j : Fin 1024) : EReal :=
  y j * Ideal.rsqrt (Ideal.div (∑ k, y k * y k) (Ideal.ofBits .f32 0x44800000#32) + Ideal.ofBits .f32 0x358637BD#32)

theorem pay2_apply (P0 : Vec Ideal S1x16x1x64x1024 .bf16) (P1 : Vec Ideal S1x1024x1024 .bf16) (P2 : Vec Ideal S1024x1024 .bf16)
    (P3 : Vec Ideal S1x1024x1024 .f32) (P4 : Vec Ideal S1x1x1024 .f32) (P5 : Vec Ideal S1x1024 .f32) (r j : Fin 1024) :
    k0_pay2 P0 P1 P2 P3 P4 P5 (ix2 r j) = normed (fun j => P3 (ix3 0 r j) + P4 (ix3 0 0 j)
      * ∑ k : Fin 1024, P0 (ix5 0 ⟨k.val / 64, by omega⟩ 0 ⟨k.val % 64, by omega⟩ r) * P1 (ix3 0 k r) * P2 (ix2 j k)) j * P5 (ix2 0 j) := by
  pointwise [k0_pay2]
  rfl

/-! ## The arrays -/

variable (x : FVec Ideal S2x16384x1024 .f32) (o : FVec Ideal S2x16x16x64x1024 .bf16) (s : FVec Ideal S2x1024x16384 .bf16)
  (g : FVec Ideal S2x1x1024 .f32) (w : FVec Ideal S1024x1024 .f32) (f : FVec Ideal S1024 .f32)

/-- The residual stream after the layer: the gated mixing, projected and gated, on top of what came in. -/
def stream (b : Fin 2) (r : Fin 16384) (j : Fin 1024) : EReal :=
  x (ix3 b r j) + g (ix3 b 0 j) * ∑ k : Fin 1024, o (ix5 b ⟨k.val / 64, by omega⟩ ⟨r.val / 1024, by omega⟩ ⟨k.val % 64, by omega⟩ ⟨r.val % 1024, by omega⟩)
    * s (ix3 b k r) * w (ix2 k j)

/-- The result: the stream's rows normalised, times the final gain. -/
def out : FVec Ideal S2x16384x1024 .f32 := fun i => normed (stream x o s g w (i 0) (i 1)) (i 2) * f (ix1 (i 2))

/-! ## The launch -/

variable (m : (ℓ : Loc nD τ sig) → Buf (Elt Ideal) ℓ) (ρ : Dev nD → PrngReg)

theorem V_w (c : Dev nD) : Eq (α := FVec Ideal S1024x1024 .bf16) (V m c main_v1)
    (truncf .bf16 (transpose S1024x1024 [1, 0] (m ((c : Thread nD τ).loc main_arg4)) transposes_S1024x1024_S1024x1024_1_0)
      bitsLt_bf16_f32) := by
  unfold V
  after_results

theorem V_f (c : Dev nD) : V m c main_v2 = broadcastInDim S1x1024 ![1] bcast_S1024_S1x1024_1 (m ((c : Thread nD τ).loc main_arg5)) := by
  unfold V
  after_results

theorem idx0 : ∀ t : Fin cfg0.N, (fun a => win0_0.index t a) = ![t.val / 16, t.val % 16, 0] := by decide +kernel
theorem idx1 : ∀ t : Fin cfg0.N, (fun a => win0_1.index t a) = ![t.val / 16, 0, t.val % 16, 0, 0] := by decide +kernel
theorem idx2 : ∀ t : Fin cfg0.N, (fun a => win0_2.index t a) = ![t.val / 16, 0, t.val % 16] := by decide +kernel
theorem idx3 : ∀ t : Fin cfg0.N, (fun a => win0_3.index t a) = ![t.val / 16, 0, 0] := by decide +kernel
theorem idx4 : ∀ t : Fin cfg0.N, (fun a => win0_4.index t a) = ![0, 0] := by decide +kernel
theorem idx5 : ∀ t : Fin cfg0.N, (fun a => win0_5.index t a) = ![0, 0] := by decide +kernel
theorem idx6 : ∀ t : Fin cfg0.N, (fun a => win0_6.index t a) = ![t.val / 16, t.val % 16, 0] := by decide +kernel

/-- A point's batch, and its block's row `r` among the tokens. -/
def bOf (t : Fin cfg0.N) : Fin 2 := ⟨t.val / 16, by have h := t.isLt; have e : cfg0.N = 32 := N_0; omega⟩
def rOf (t : Fin cfg0.N) (r : Fin 1024) : Fin 16384 := ⟨t.val % 16 * 1024 + r.val, by omega⟩

theorem blk0 (c : Dev nD) (t : Fin cfg0.N) (r j : Fin 1024) :
    View.ld (iblk m c 0 t) r0_1 (ix3 0 r j) = m ((c : Thread nD τ).loc main_arg0) (ix3 (bOf t) (rOf t r) j) := by
  refine (congrFun (V_main_arg0 m c) _).trans (congrArg _ (funext fun a => Fin.ext ?_))
  have hi := fun a => congrFun (idx0 t) a
  match a with
  | ⟨0, _⟩ => show win0_0.index t 0 * 1 + 1 * (0 + 1 * 0) = t.val / 16; rw [hi 0]; show t.val / 16 * 1 + _ = _; omega
  | ⟨1, _⟩ => show win0_0.index t 1 * 1024 + 1 * (0 + 1 * r.val) = t.val % 16 * 1024 + r.val; rw [hi 1]; show t.val % 16 * 1024 + _ = _; omega
  | ⟨2, _⟩ => show win0_0.index t 2 * 1024 + 1 * (0 + 1 * j.val) = j.val; rw [hi 2]; show 0 * 1024 + _ = _; omega

theorem blk1 (c : Dev nD) (t : Fin cfg0.N) (h : Fin 16) (v : Fin 64) (r : Fin 1024) :
    View.ld (iblk m c 1 t) r0_0 (ix5 0 h 0 v r)
      = m ((c : Thread nD τ).loc main_arg1) (ix5 (bOf t) h ⟨(rOf t r).val / 1024, by omega⟩ v ⟨(rOf t r).val % 1024, by omega⟩) := by
  refine (congrFun (V_main_arg1 m c) _).trans (congrArg _ (funext fun a => Fin.ext ?_))
  have hi := fun a => congrFun (idx1 t) a
  match a with
  | ⟨0, _⟩ => show win0_1.index t 0 * 1 + 1 * (0 + 1 * 0) = t.val / 16; rw [hi 0]; show t.val / 16 * 1 + _ = _; omega
  | ⟨1, _⟩ => show win0_1.index t 1 * 16 + 1 * (0 + 1 * h.val) = h.val; rw [hi 1]; show 0 * 16 + _ = _; omega
  | ⟨2, _⟩ => show win0_1.index t 2 * 1 + 1 * (0 + 1 * 0) = (t.val % 16 * 1024 + r.val) / 1024; rw [hi 2]; show t.val % 16 * 1 + _ = _; omega
  | ⟨3, _⟩ => show win0_1.index t 3 * 64 + 1 * (0 + 1 * v.val) = v.val; rw [hi 3]; show 0 * 64 + _ = _; omega
  | ⟨4, _⟩ => show win0_1.index t 4 * 1024 + 1 * (0 + 1 * r.val) = (t.val % 16 * 1024 + r.val) % 1024; rw [hi 4]; show 0 * 1024 + _ = _; omega

theorem blk2 (c : Dev nD) (t : Fin cfg0.N) (k r : Fin 1024) :
    View.ld (iblk m c 2 t) r0_1 (ix3 0 k r) = m ((c : Thread nD τ).loc main_arg2) (ix3 (bOf t) k (rOf t r)) := by
  refine (congrFun (V_main_arg2 m c) _).trans (congrArg _ (funext fun a => Fin.ext ?_))
  have hi := fun a => congrFun (idx2 t) a
  match a with
  | ⟨0, _⟩ => show win0_2.index t 0 * 1 + 1 * (0 + 1 * 0) = t.val / 16; rw [hi 0]; show t.val / 16 * 1 + _ = _; omega
  | ⟨1, _⟩ => show win0_2.index t 1 * 1024 + 1 * (0 + 1 * k.val) = k.val; rw [hi 1]; show 0 * 1024 + _ = _; omega
  | ⟨2, _⟩ => show win0_2.index t 2 * 1024 + 1 * (0 + 1 * r.val) = t.val % 16 * 1024 + r.val; rw [hi 2]; show t.val % 16 * 1024 + _ = _; omega

theorem blk3 (c : Dev nD) (t : Fin cfg0.N) (j : Fin 1024) :
    View.ld (iblk m c 3 t) r0_3 (ix3 0 0 j) = m ((c : Thread nD τ).loc main_arg3) (ix3 (bOf t) 0 j) := by
  refine (congrFun (V_main_arg3 m c) _).trans (congrArg _ (funext fun a => Fin.ext ?_))
  have hi := fun a => congrFun (idx3 t) a
  match a with
  | ⟨0, _⟩ => show win0_3.index t 0 * 1 + 1 * (0 + 1 * 0) = t.val / 16; rw [hi 0]; show t.val / 16 * 1 + _ = _; omega
  | ⟨1, _⟩ => show win0_3.index t 1 * 1 + 1 * (0 + 1 * 0) = 0; rw [hi 1]; show 0 * 1 + _ = _; omega
  | ⟨2, _⟩ => show win0_3.index t 2 * 1024 + 1 * (0 + 1 * j.val) = j.val; rw [hi 2]; show 0 * 1024 + _ = _; omega

theorem blk4 (c : Dev nD) (t : Fin cfg0.N) (j k : Fin 1024) :
    View.ld (iblk m c 4 t) r0_2 (ix2 j k) = m ((c : Thread nD τ).loc main_arg4) (ix2 k j) := by
  have e : View.ld (iblk m c 4 t) r0_2 (ix2 j k) = V m c main_v1 (ix2 j k) := by
    refine congrArg (V m c main_v1) (funext fun a => Fin.ext ?_)
    have hi := fun a => congrFun (idx4 t) a
    match a with
    | ⟨0, _⟩ => show win0_4.index t 0 * 1024 + 1 * (0 + 1 * j.val) = j.val; rw [hi 0]; show 0 * 1024 + _ = _; omega
    | ⟨1, _⟩ => show win0_4.index t 1 * 1024 + 1 * (0 + 1 * k.val) = k.val; rw [hi 1]; show 0 * 1024 + _ = _; omega
  rw [e, V_w]
  generalize m ((c : Thread nD τ).loc main_arg4) = w
  pointwise

theorem blk5 (c : Dev nD) (t : Fin cfg0.N) (j : Fin 1024) :
    View.ld (iblk m c 5 t) r0_4 (ix2 0 j) = m ((c : Thread nD τ).loc main_arg5) (ix1 j) := by
  have e : View.ld (iblk m c 5 t) r0_4 (ix2 0 j) = V m c main_v2 (ix2 0 j) := by
    refine congrArg (V m c main_v2) (funext fun a => Fin.ext ?_)
    have hi := fun a => congrFun (idx5 t) a
    match a with
    | ⟨0, _⟩ => show win0_5.index t 0 * 1 + 1 * (0 + 1 * 0) = 0; rw [hi 0]; show 0 * 1 + _ = _; omega
    | ⟨1, _⟩ => show win0_5.index t 1 * 1024 + 1 * (0 + 1 * j.val) = j.val; rw [hi 1]; show 0 * 1024 + _ = _; omega
  rw [e, V_f]
  generalize m ((c : Thread nD τ).loc main_arg5) = w
  pointwise

/-- The output of the arguments as launched. -/
abbrev result (c : Dev nD) : Buf (Elt Ideal) ((c : Thread nD τ).loc main_v3) :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem flushed (c : Dev nD) (t : Fin cfg0.N) : (dats m 0 c).flushed 6 t = ((cfg0.win 6).blk t).view.read (Elt Ideal) (result m c) := by
  rw [Value.flushed6]
  funext y
  rw [View.read_apply]
  have h0 : (y 0).val < 1 := (y 0).isLt
  have hi := fun a => congrFun (idx6 t) a
  have e : ((cfg0.win 6).blk t).view.emb y = (ix3 (bOf t) (rOf t (y 1)) (y 2) : S2x16384x1024.Idx) := by
    funext a
    apply Fin.ext
    match a with
    | ⟨0, _⟩ => show win0_6.index t 0 * 1 + 1 * (y 0).val = t.val / 16; rw [hi 0]; show t.val / 16 * 1 + _ = _; omega
    | ⟨1, _⟩ => show win0_6.index t 1 * 1024 + 1 * (y 1).val = t.val % 16 * 1024 + (y 1).val; rw [hi 1]; show t.val % 16 * 1024 + _ = _; omega
    | ⟨2, _⟩ => show win0_6.index t 2 * 1024 + 1 * (y 2).val = (y 2).val; rw [hi 2]; show 0 * 1024 + _ = _; omega
  rw [e]
  refine (Value.canon6_eq _ _ _ _ _ _ y).trans ?_
  show k0_pay2 _ _ _ _ _ _ (Value.ix6_0 y) = _
  have e2 : Value.ix6_0 y = ix2 (y 1 : Fin 1024) (y 2 : Fin 1024) := funext fun a => match a with | ⟨0, _⟩ => rfl | ⟨1, _⟩ => rfl
  have key : ∀ r j : Fin 1024, k0_pay2 (View.ld (iblk m c 1 t) r0_0) (View.ld (iblk m c 2 t) r0_1) (View.ld (iblk m c 4 t) r0_2)
      (View.ld (iblk m c 0 t) r0_1) (View.ld (iblk m c 3 t) r0_3) (View.ld (iblk m c 5 t) r0_4) (ix2 r j)
        = result m c (ix3 (bOf t) (rOf t r) j) := by
    intro r j
    rw [pay2_apply]
    simp only [blk0, blk1, blk2, blk3, blk4, blk5]
    rfl
  rw [e2]
  exact key (y 1) (y 2)

/-- The output array ends holding the output: its points' blocks cover it. -/
theorem final (c : Dev nD) : (dats m 0 c).arrAt 6 cfg0.N = result m c :=
  (dats m 0 c).arrAt_eq_of_cover 6 (result m c) (fun t _ => flushed m c t) fun i => by
    have h0 : (i 0).val < 2 := (i 0).isLt
    have h1 : (i 1).val < 16384 := (i 1).isLt
    have h2 : (i 2).val < 1024 := (i 2).isLt
    let t : Fin cfg0.N := ⟨16 * (i 0).val + (i 1).val / 1024, by have e : cfg0.N = 32 := N_0; omega⟩
    have ht0 : t.val / 16 = (i 0).val := by show (16 * (i 0).val + (i 1).val / 1024) / 16 = _; omega
    have ht1 : t.val % 16 = (i 1).val / 1024 := by show (16 * (i 0).val + (i 1).val / 1024) % 16 = _; omega
    have hi := fun a => congrFun (idx6 t) a
    refine ⟨t, flush0_6 t, ?_⟩
    show i ∈ ((View.whole main_v3).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi 0]; show t.val / 16 * 1 ≤ _ ∧ _ < t.val / 16 * 1 + 1; omega
    | ⟨1, _⟩ => show win0_6.index t 1 * 1024 ≤ (i 1).val ∧ (i 1).val < win0_6.index t 1 * 1024 + 1024; rw [hi 1]; show t.val % 16 * 1024 ≤ _ ∧ _ < t.val % 16 * 1024 + 1024; omega
    | ⟨2, _⟩ => show win0_6.index t 2 * 1024 ≤ (i 2).val ∧ (i 2).val < win0_6.index t 2 * 1024 + 1024; rw [hi 2]; show 0 * 1024 ≤ _ ∧ _ < 0 * 1024 + 1024; omega

end Cert.Kernel2Ideal.Tail

namespace Cert.Reference2Ideal.Tail

open Idealize.ShloMosaic
open Cert.Reference2Ideal Cert.Reference2Ideal.Gen
open Cert.Kernel2Ideal.Tail (stream normed out)

variable (x : FVec Ideal S2x16384x1024 .f32) (o : FVec Ideal S2x16x16x64x1024 .bf16) (s : FVec Ideal S2x1024x16384 .bf16)
  (g : FVec Ideal S2x1x1024 .f32) (w : FVec Ideal S1024x1024 .f32) (f : FVec Ideal S1024 .f32)

/-- The reference's residual stream after the layer. -/
def mixed : FVec Ideal S2x16384x1024 .f32 :=
  addf x (mulf (broadcastInDim S2x16384x1024 ![0, 1, 2] bcast_S2x1x1024_S2x16384x1024_0_1_2 g)
    (Host.dotGeneral dot_S2x16384x1024_S1024x1024_S2x16384x1024_2_0_01_1_n_n none
      (mulf (shapeCast _ (transpose S2x16x1024x16x64 [0, 2, 4, 1, 3] (extf .f32 o bitsLt_bf16_f32) transposes_S2x16x16x64x1024_S2x16x1024x16x64_0_2_4_1_3) shapeCasts_S2x16x1024x16x64_S2x16384x1024)
        (transpose S2x16384x1024 [0, 2, 1] (extf .f32 s bitsLt_bf16_f32) transposes_S2x1024x16384_S2x16384x1024_0_2_1)) w))

/-- The reference's result. -/
def refOut : FVec Ideal S2x16384x1024 .f32 :=
  mulf (mulf (mixed x o s g w) (broadcastInDim S2x16384x1024 ![0, 1, 2] bcast_S2x16384x1_S2x16384x1024_0_1_2 (Host.rsqrt (addf (Host.divf
    (broadcastInDim S2x16384x1 ![0, 1] bcast_S2x16384_S2x16384x1_0_1 (Host.reduceAdd (mulf (mixed x o s g w) (mixed x o s g w)) (constant S_ .f32 0x00000000#32) reducesTo_S2x16384x1024_S2x16384_d2 h_S_))
    (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 f))

theorem mixed_apply (b : Fin 2) (r : Fin 16384) (j : Fin 1024) : mixed x o s g w (ix3 b r j) = stream x o s g w b r j := by
  pointwise [mixed]
  rfl

/-- The kernel's output is the reference's result. -/
theorem same : out x o s g w f = refOut x o s g w f := by
  funext i
  idx_vars i
  unfold refOut
  have hm : ∀ b r j, mixed x o s g w (ix3 b r j) = stream x o s g w b r j := mixed_apply x o s g w
  generalize mixed x o s g w = y at hm ⊢
  pointwise
  simp only [hm]
  rfl

end Cert.Reference2Ideal.Tail

end
-- ==== Proof.OutPrompt.lean ====
/-
  The call that ends the odd layer, at the prompt batch's shapes: what its output array holds, index by index, and the reference's result the same.
-/
module

public import proofs.«01_k».proof.Proof.Gen.Kernel6Ideal.Value
public import proofs.«01_k».proof.Proof.Gen.Reference6Ideal.Run
public import Idealize.ShloMosaic.Lib.Pointwise
public import Idealize.ShloMosaic.PureOps.Ideal
public import Idealize.ShloMosaic.PureOps.Ideal.Laws

@[expose] public section

set_option maxRecDepth 16384

noncomputable section

namespace Cert.Kernel6Ideal.Tail

open Idealize.ShloMosaic Idealize.ShloMosaic.TcCoe Idealize.SL.Sem
open Cert.Kernel6Ideal Cert.Kernel6Ideal.Gen

/-- A row over the root of its mean square, at one place. -/
def normed (y : Fin 1024 → EReal) (j : Fin 1024) : EReal :=
  y j * Ideal.rsqrt (Ideal.div (∑ k, y k * y k) (Ideal.ofBits .f32 0x44800000#32) + Ideal.ofBits .f32 0x358637BD#32)

theorem pay2_apply (P0 : Vec Ideal S1x16x1x64x1024 .bf16) (P1 : Vec Ideal S1x1024x1024 .bf16) (P2 : Vec Ideal S1024x1024 .bf16)
    (P3 : Vec Ideal S1x1024x1024 .f32) (P4 : Vec Ideal S1x1x1024 .f32) (P5 : Vec Ideal S1x1024 .f32) (r j : Fin 1024) :
    k0_pay2 P0 P1 P2 P3 P4 P5 (ix2 r j) = normed (fun j => P3 (ix3 0 r j) + P4 (ix3 0 0 j)
      * ∑ k : Fin 1024, P0 (ix5 0 ⟨k.val / 64, by omega⟩ 0 ⟨k.val % 64, by omega⟩ r) * P1 (ix3 0 k r) * P2 (ix2 j k)) j * P5 (ix2 0 j) := by
  pointwise [k0_pay2]
  rfl

/-! ## The arrays -/

variable (x : FVec Ideal S16x2048x1024 .f32) (o : FVec Ideal S16x16x2x64x1024 .bf16) (s : FVec Ideal S16x1024x2048 .bf16)
  (g : FVec Ideal S16x1x1024 .f32) (w : FVec Ideal S1024x1024 .f32) (f : FVec Ideal S1024 .f32)

/-- The residual stream after the layer: the gated mixing, projected and gated, on top of what came in. -/
def stream (b : Fin 16) (r : Fin 2048) (j : Fin 1024) : EReal :=
  x (ix3 b r j) + g (ix3 b 0 j) * ∑ k : Fin 1024, o (ix5 b ⟨k.val / 64, by omega⟩ ⟨r.val / 1024, by omega⟩ ⟨k.val % 64, by omega⟩ ⟨r.val % 1024, by omega⟩)
    * s (ix3 b k r) * w (ix2 k j)

/-- The result: the stream's rows normalised, times the final gain. -/
def out : FVec Ideal S16x2048x1024 .f32 := fun i => normed (stream x o s g w (i 0) (i 1)) (i 2) * f (ix1 (i 2))

/-! ## The launch -/

variable (m : (ℓ : Loc nD τ sig) → Buf (Elt Ideal) ℓ) (ρ : Dev nD → PrngReg)

theorem V_w (c : Dev nD) : Eq (α := FVec Ideal S1024x1024 .bf16) (V m c main_v1)
    (truncf .bf16 (transpose S1024x1024 [1, 0] (m ((c : Thread nD τ).loc main_arg4)) transposes_S1024x1024_S1024x1024_1_0)
      bitsLt_bf16_f32) := by
  unfold V
  after_results

theorem V_f (c : Dev nD) : V m c main_v2 = broadcastInDim S1x1024 ![1] bcast_S1024_S1x1024_1 (m ((c : Thread nD τ).loc main_arg5)) := by
  unfold V
  after_results

theorem idx0 : ∀ t : Fin cfg0.N, (fun a => win0_0.index t a) = ![t.val / 2, t.val % 2, 0] := by decide +kernel
theorem idx1 : ∀ t : Fin cfg0.N, (fun a => win0_1.index t a) = ![t.val / 2, 0, t.val % 2, 0, 0] := by decide +kernel
theorem idx2 : ∀ t : Fin cfg0.N, (fun a => win0_2.index t a) = ![t.val / 2, 0, t.val % 2] := by decide +kernel
theorem idx3 : ∀ t : Fin cfg0.N, (fun a => win0_3.index t a) = ![t.val / 2, 0, 0] := by decide +kernel
theorem idx4 : ∀ t : Fin cfg0.N, (fun a => win0_4.index t a) = ![0, 0] := by decide +kernel
theorem idx5 : ∀ t : Fin cfg0.N, (fun a => win0_5.index t a) = ![0, 0] := by decide +kernel
theorem idx6 : ∀ t : Fin cfg0.N, (fun a => win0_6.index t a) = ![t.val / 2, t.val % 2, 0] := by decide +kernel

/-- A point's batch, and its block's row `r` among the tokens. -/
def bOf (t : Fin cfg0.N) : Fin 16 := ⟨t.val / 2, by have h := t.isLt; have e : cfg0.N = 32 := N_0; omega⟩
def rOf (t : Fin cfg0.N) (r : Fin 1024) : Fin 2048 := ⟨t.val % 2 * 1024 + r.val, by omega⟩

theorem blk0 (c : Dev nD) (t : Fin cfg0.N) (r j : Fin 1024) :
    View.ld (iblk m c 0 t) r0_1 (ix3 0 r j) = m ((c : Thread nD τ).loc main_arg0) (ix3 (bOf t) (rOf t r) j) := by
  refine (congrFun (V_main_arg0 m c) _).trans (congrArg _ (funext fun a => Fin.ext ?_))
  have hi := fun a => congrFun (idx0 t) a
  match a with
  | ⟨0, _⟩ => show win0_0.index t 0 * 1 + 1 * (0 + 1 * 0) = t.val / 2; rw [hi 0]; show t.val / 2 * 1 + _ = _; omega
  | ⟨1, _⟩ => show win0_0.index t 1 * 1024 + 1 * (0 + 1 * r.val) = t.val % 2 * 1024 + r.val; rw [hi 1]; show t.val % 2 * 1024 + _ = _; omega
  | ⟨2, _⟩ => show win0_0.index t 2 * 1024 + 1 * (0 + 1 * j.val) = j.val; rw [hi 2]; show 0 * 1024 + _ = _; omega

theorem blk1 (c : Dev nD) (t : Fin cfg0.N) (h : Fin 16) (v : Fin 64) (r : Fin 1024) :
    View.ld (iblk m c 1 t) r0_0 (ix5 0 h 0 v r)
      = m ((c : Thread nD τ).loc main_arg1) (ix5 (bOf t) h ⟨(rOf t r).val / 1024, by omega⟩ v ⟨(rOf t r).val % 1024, by omega⟩) := by
  refine (congrFun (V_main_arg1 m c) _).trans (congrArg _ (funext fun a => Fin.ext ?_))
  have hi := fun a => congrFun (idx1 t) a
  match a with
  | ⟨0, _⟩ => show win0_1.index t 0 * 1 + 1 * (0 + 1 * 0) = t.val / 2; rw [hi 0]; show t.val / 2 * 1 + _ = _; omega
  | ⟨1, _⟩ => show win0_1.index t 1 * 16 + 1 * (0 + 1 * h.val) = h.val; rw [hi 1]; show 0 * 16 + _ = _; omega
  | ⟨2, _⟩ => show win0_1.index t 2 * 1 + 1 * (0 + 1 * 0) = (t.val % 2 * 1024 + r.val) / 1024; rw [hi 2]; show t.val % 2 * 1 + _ = _; omega
  | ⟨3, _⟩ => show win0_1.index t 3 * 64 + 1 * (0 + 1 * v.val) = v.val; rw [hi 3]; show 0 * 64 + _ = _; omega
  | ⟨4, _⟩ => show win0_1.index t 4 * 1024 + 1 * (0 + 1 * r.val) = (t.val % 2 * 1024 + r.val) % 1024; rw [hi 4]; show 0 * 1024 + _ = _; omega

theorem blk2 (c : Dev nD) (t : Fin cfg0.N) (k r : Fin 1024) :
    View.ld (iblk m c 2 t) r0_1 (ix3 0 k r) = m ((c : Thread nD τ).loc main_arg2) (ix3 (bOf t) k (rOf t r)) := by
  refine (congrFun (V_main_arg2 m c) _).trans (congrArg _ (funext fun a => Fin.ext ?_))
  have hi := fun a => congrFun (idx2 t) a
  match a with
  | ⟨0, _⟩ => show win0_2.index t 0 * 1 + 1 * (0 + 1 * 0) = t.val / 2; rw [hi 0]; show t.val / 2 * 1 + _ = _; omega
  | ⟨1, _⟩ => show win0_2.index t 1 * 1024 + 1 * (0 + 1 * k.val) = k.val; rw [hi 1]; show 0 * 1024 + _ = _; omega
  | ⟨2, _⟩ => show win0_2.index t 2 * 1024 + 1 * (0 + 1 * r.val) = t.val % 2 * 1024 + r.val; rw [hi 2]; show t.val % 2 * 1024 + _ = _; omega

theorem blk3 (c : Dev nD) (t : Fin cfg0.N) (j : Fin 1024) :
    View.ld (iblk m c 3 t) r0_3 (ix3 0 0 j) = m ((c : Thread nD τ).loc main_arg3) (ix3 (bOf t) 0 j) := by
  refine (congrFun (V_main_arg3 m c) _).trans (congrArg _ (funext fun a => Fin.ext ?_))
  have hi := fun a => congrFun (idx3 t) a
  match a with
  | ⟨0, _⟩ => show win0_3.index t 0 * 1 + 1 * (0 + 1 * 0) = t.val / 2; rw [hi 0]; show t.val / 2 * 1 + _ = _; omega
  | ⟨1, _⟩ => show win0_3.index t 1 * 1 + 1 * (0 + 1 * 0) = 0; rw [hi 1]; show 0 * 1 + _ = _; omega
  | ⟨2, _⟩ => show win0_3.index t 2 * 1024 + 1 * (0 + 1 * j.val) = j.val; rw [hi 2]; show 0 * 1024 + _ = _; omega

theorem blk4 (c : Dev nD) (t : Fin cfg0.N) (j k : Fin 1024) :
    View.ld (iblk m c 4 t) r0_2 (ix2 j k) = m ((c : Thread nD τ).loc main_arg4) (ix2 k j) := by
  have e : View.ld (iblk m c 4 t) r0_2 (ix2 j k) = V m c main_v1 (ix2 j k) := by
    refine congrArg (V m c main_v1) (funext fun a => Fin.ext ?_)
    have hi := fun a => congrFun (idx4 t) a
    match a with
    | ⟨0, _⟩ => show win0_4.index t 0 * 1024 + 1 * (0 + 1 * j.val) = j.val; rw [hi 0]; show 0 * 1024 + _ = _; omega
    | ⟨1, _⟩ => show win0_4.index t 1 * 1024 + 1 * (0 + 1 * k.val) = k.val; rw [hi 1]; show 0 * 1024 + _ = _; omega
  rw [e, V_w]
  generalize m ((c : Thread nD τ).loc main_arg4) = w
  pointwise

theorem blk5 (c : Dev nD) (t : Fin cfg0.N) (j : Fin 1024) :
    View.ld (iblk m c 5 t) r0_4 (ix2 0 j) = m ((c : Thread nD τ).loc main_arg5) (ix1 j) := by
  have e : View.ld (iblk m c 5 t) r0_4 (ix2 0 j) = V m c main_v2 (ix2 0 j) := by
    refine congrArg (V m c main_v2) (funext fun a => Fin.ext ?_)
    have hi := fun a => congrFun (idx5 t) a
    match a with
    | ⟨0, _⟩ => show win0_5.index t 0 * 1 + 1 * (0 + 1 * 0) = 0; rw [hi 0]; show 0 * 1 + _ = _; omega
    | ⟨1, _⟩ => show win0_5.index t 1 * 1024 + 1 * (0 + 1 * j.val) = j.val; rw [hi 1]; show 0 * 1024 + _ = _; omega
  rw [e, V_f]
  generalize m ((c : Thread nD τ).loc main_arg5) = w
  pointwise

/-- The output of the arguments as launched. -/
abbrev result (c : Dev nD) : Buf (Elt Ideal) ((c : Thread nD τ).loc main_v3) :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem flushed (c : Dev nD) (t : Fin cfg0.N) : (dats m 0 c).flushed 6 t = ((cfg0.win 6).blk t).view.read (Elt Ideal) (result m c) := by
  rw [Value.flushed6]
  funext y
  rw [View.read_apply]
  have h0 : (y 0).val < 1 := (y 0).isLt
  have hi := fun a => congrFun (idx6 t) a
  have e : ((cfg0.win 6).blk t).view.emb y = (ix3 (bOf t) (rOf t (y 1)) (y 2) : S16x2048x1024.Idx) := by
    funext a
    apply Fin.ext
    match a with
    | ⟨0, _⟩ => show win0_6.index t 0 * 1 + 1 * (y 0).val = t.val / 2; rw [hi 0]; show t.val / 2 * 1 + _ = _; omega
    | ⟨1, _⟩ => show win0_6.index t 1 * 1024 + 1 * (y 1).val = t.val % 2 * 1024 + (y 1).val; rw [hi 1]; show t.val % 2 * 1024 + _ = _; omega
    | ⟨2, _⟩ => show win0_6.index t 2 * 1024 + 1 * (y 2).val = (y 2).val; rw [hi 2]; show 0 * 1024 + _ = _; omega
  rw [e]
  refine (Value.canon6_eq _ _ _ _ _ _ y).trans ?_
  show k0_pay2 _ _ _ _ _ _ (Value.ix6_0 y) = _
  have e2 : Value.ix6_0 y = ix2 (y 1 : Fin 1024) (y 2 : Fin 1024) := funext fun a => match a with | ⟨0, _⟩ => rfl | ⟨1, _⟩ => rfl
  have key : ∀ r j : Fin 1024, k0_pay2 (View.ld (iblk m c 1 t) r0_0) (View.ld (iblk m c 2 t) r0_1) (View.ld (iblk m c 4 t) r0_2)
      (View.ld (iblk m c 0 t) r0_1) (View.ld (iblk m c 3 t) r0_3) (View.ld (iblk m c 5 t) r0_4) (ix2 r j)
        = result m c (ix3 (bOf t) (rOf t r) j) := by
    intro r j
    rw [pay2_apply]
    simp only [blk0, blk1, blk2, blk3, blk4, blk5]
    rfl
  rw [e2]
  exact key (y 1) (y 2)

/-- The output array ends holding the output: its points' blocks cover it. -/
theorem final (c : Dev nD) : (dats m 0 c).arrAt 6 cfg0.N = result m c :=
  (dats m 0 c).arrAt_eq_of_cover 6 (result m c) (fun t _ => flushed m c t) fun i => by
    have h0 : (i 0).val < 16 := (i 0).isLt
    have h1 : (i 1).val < 2048 := (i 1).isLt
    have h2 : (i 2).val < 1024 := (i 2).isLt
    let t : Fin cfg0.N := ⟨2 * (i 0).val + (i 1).val / 1024, by have e : cfg0.N = 32 := N_0; omega⟩
    have ht0 : t.val / 2 = (i 0).val := by show (2 * (i 0).val + (i 1).val / 1024) / 2 = _; omega
    have ht1 : t.val % 2 = (i 1).val / 1024 := by show (2 * (i 0).val + (i 1).val / 1024) % 2 = _; omega
    have hi := fun a => congrFun (idx6 t) a
    refine ⟨t, flush0_6 t, ?_⟩
    show i ∈ ((View.whole main_v3).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi 0]; show t.val / 2 * 1 ≤ _ ∧ _ < t.val / 2 * 1 + 1; omega
    | ⟨1, _⟩ => show win0_6.index t 1 * 1024 ≤ (i 1).val ∧ (i 1).val < win0_6.index t 1 * 1024 + 1024; rw [hi 1]; show t.val % 2 * 1024 ≤ _ ∧ _ < t.val % 2 * 1024 + 1024; omega
    | ⟨2, _⟩ => show win0_6.index t 2 * 1024 ≤ (i 2).val ∧ (i 2).val < win0_6.index t 2 * 1024 + 1024; rw [hi 2]; show 0 * 1024 ≤ _ ∧ _ < 0 * 1024 + 1024; omega

end Cert.Kernel6Ideal.Tail

namespace Cert.Reference6Ideal.Tail

open Idealize.ShloMosaic
open Cert.Reference6Ideal Cert.Reference6Ideal.Gen
open Cert.Kernel6Ideal.Tail (stream normed out)

variable (x : FVec Ideal S16x2048x1024 .f32) (o : FVec Ideal S16x16x2x64x1024 .bf16) (s : FVec Ideal S16x1024x2048 .bf16)
  (g : FVec Ideal S16x1x1024 .f32) (w : FVec Ideal S1024x1024 .f32) (f : FVec Ideal S1024 .f32)

/-- The reference's residual stream after the layer. -/
def mixed : FVec Ideal S16x2048x1024 .f32 :=
  addf x (mulf (broadcastInDim S16x2048x1024 ![0, 1, 2] bcast_S16x1x1024_S16x2048x1024_0_1_2 g)
    (Host.dotGeneral dot_S16x2048x1024_S1024x1024_S16x2048x1024_2_0_01_1_n_n none
      (mulf (shapeCast _ (transpose S16x2x1024x16x64 [0, 2, 4, 1, 3] (extf .f32 o bitsLt_bf16_f32) transposes_S16x16x2x64x1024_S16x2x1024x16x64_0_2_4_1_3) shapeCasts_S16x2x1024x16x64_S16x2048x1024)
        (transpose S16x2048x1024 [0, 2, 1] (extf .f32 s bitsLt_bf16_f32) transposes_S16x1024x2048_S16x2048x1024_0_2_1)) w))

/-- The reference's result. -/
def refOut : FVec Ideal S16x2048x1024 .f32 :=
  mulf (mulf (mixed x o s g w) (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf (mixed x o s g w) (mixed x o s g w)) (constant S_ .f32 0x00000000#32) reducesTo_S16x2048x1024_S16x2048_d2 h_S_))
    (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 f))

theorem mixed_apply (b : Fin 16) (r : Fin 2048) (j : Fin 1024) : mixed x o s g w (ix3 b r j) = stream x o s g w b r j := by
  pointwise [mixed]
  rfl

/-- The kernel's output is the reference's result. -/
theorem same : out x o s g w f = refOut x o s g w f := by
  funext i
  idx_vars i
  unfold refOut
  have hm : ∀ b r j, mixed x o s g w (ix3 b r j) = stream x o s g w b r j := mixed_apply x o s g w
  generalize mixed x o s g w = y at hm ⊢
  pointwise
  simp only [hm]
  rfl

end Cert.Reference6Ideal.Tail

end
-- ==== Proof.EvenFront.lean ====
/-
  The call that starts the even layer: what its output array holds, index by index, and the reference's result the same.
-/
module

public import proofs.«01_k».proof.Proof.Gen.Kernel3Ideal.Value
public import proofs.«01_k».proof.Proof.Gen.Reference3Ideal.Run
public import Idealize.ShloMosaic.Lib.Pointwise
public import Idealize.ShloMosaic.PureOps.Ideal
public import Idealize.ShloMosaic.PureOps.Ideal.Laws

@[expose] public section

set_option maxRecDepth 16384

noncomputable section

namespace Cert.Kernel3Ideal.Front

open Idealize.ShloMosaic Idealize.ShloMosaic.TcCoe Idealize.SL.Sem
open Cert.Kernel3Ideal Cert.Kernel3Ideal.Gen

/-- A row over the root of its mean square, times a gain, scaled and shifted, at one place. -/
def modulated (y g sc sh : Fin 1024 → EReal) (k : Fin 1024) : EReal :=
  y k * Ideal.rsqrt (Ideal.div (∑ k, y k * y k) (Ideal.ofBits .f32 0x44800000#32) + Ideal.ofBits .f32 0x358637BD#32) * g k
    * (1 + sc k) + sh k

theorem pay1_apply (P0 : Vec Ideal S1x1024x1024 .f32) (P1 : Vec Ideal S1x1024 .f32) (P2 P3 : Vec Ideal S1x1x1024 .f32)
    (P4 : Vec Ideal S1024x3328 .bf16) (r : Fin 1024) (j : Fin 3328) :
    k0_pay1 P0 P1 P2 P3 P4 (ix3 0 r j) = ∑ k : Fin 1024, modulated (fun k => P0 (ix3 0 r k)) (fun k => P1 (ix2 0 k))
      (fun k => P2 (ix3 0 0 k)) (fun k => P3 (ix3 0 0 k)) k * P4 (ix2 k j) := by
  pointwise [k0_pay1]
  rfl

/-! ## The arrays -/

variable (x : FVec Ideal S2x16384x1024 .f32) (g : FVec Ideal S1024 .f32) (sc sh : FVec Ideal S2x1x1024 .f32)
  (w : FVec Ideal S1024x3328 .bf16)

/-- The result: each token's row normalised and modulated, times the weights. -/
def out : FVec Ideal S2x16384x3328 .bf16 := fun i =>
  ∑ k : Fin 1024, modulated (fun k => x (ix3 (i 0) (i 1) k)) (fun k => g (ix1 k)) (fun k => sc (ix3 (i 0) 0 k)) (fun k => sh (ix3 (i 0) 0 k)) k
    * w (ix2 k (i 2))

/-! ## The launch -/

variable (m : (ℓ : Loc nD τ sig) → Buf (Elt Ideal) ℓ) (ρ : Dev nD → PrngReg)

theorem V_g (c : Dev nD) : V m c main_v0 = broadcastInDim S1x1024 ![1] bcast_S1024_S1x1024_1 (m ((c : Thread nD τ).loc main_arg1)) := by
  unfold V
  after_results

theorem idx0 : ∀ t : Fin cfg0.N, (fun a => win0_0.index t a) = ![t.val / 16, t.val % 16, 0] := by decide +kernel
theorem idx1 : ∀ t : Fin cfg0.N, (fun a => win0_1.index t a) = ![0, 0] := by decide +kernel
theorem idx2 : ∀ t : Fin cfg0.N, (fun a => win0_2.index t a) = ![t.val / 16, 0, 0] := by decide +kernel
theorem idx3 : ∀ t : Fin cfg0.N, (fun a => win0_3.index t a) = ![t.val / 16, 0, 0] := by decide +kernel
theorem idx4 : ∀ t : Fin cfg0.N, (fun a => win0_4.index t a) = ![0, 0] := by decide +kernel
theorem idx5 : ∀ t : Fin cfg0.N, (fun a => win0_5.index t a) = ![t.val / 16, t.val % 16, 0] := by decide +kernel

/-- A point's batch, and its block's row `r` among the tokens. -/
def bOf (t : Fin cfg0.N) : Fin 2 := ⟨t.val / 16, by have h := t.isLt; have e : cfg0.N = 32 := N_0; omega⟩
def rOf (t : Fin cfg0.N) (r : Fin 1024) : Fin 16384 := ⟨t.val % 16 * 1024 + r.val, by omega⟩

theorem blk0 (c : Dev nD) (t : Fin cfg0.N) (r j : Fin 1024) :
    View.ld (iblk m c 0 t) r0_0 (ix3 0 r j) = m ((c : Thread nD τ).loc main_arg0) (ix3 (bOf t) (rOf t r) j) := by
  refine (congrFun (V_main_arg0 m c) _).trans (congrArg _ (funext fun a => Fin.ext ?_))
  have hi := fun a => congrFun (idx0 t) a
  match a with
  | ⟨0, _⟩ => show win0_0.index t 0 * 1 + 1 * (0 + 1 * 0) = t.val / 16; rw [hi 0]; show t.val / 16 * 1 + _ = _; omega
  | ⟨1, _⟩ => show win0_0.index t 1 * 1024 + 1 * (0 + 1 * r.val) = t.val % 16 * 1024 + r.val; rw [hi 1]; show t.val % 16 * 1024 + _ = _; omega
  | ⟨2, _⟩ => show win0_0.index t 2 * 1024 + 1 * (0 + 1 * j.val) = j.val; rw [hi 2]; show 0 * 1024 + _ = _; omega

theorem blk1 (c : Dev nD) (t : Fin cfg0.N) (j : Fin 1024) :
    View.ld (iblk m c 1 t) r0_1 (ix2 0 j) = m ((c : Thread nD τ).loc main_arg1) (ix1 j) := by
  have e : View.ld (iblk m c 1 t) r0_1 (ix2 0 j) = V m c main_v0 (ix2 0 j) := by
    refine congrArg (V m c main_v0) (funext fun a => Fin.ext ?_)
    have hi := fun a => congrFun (idx1 t) a
    match a with
    | ⟨0, _⟩ => show win0_1.index t 0 * 1 + 1 * (0 + 1 * 0) = 0; rw [hi 0]; show 0 * 1 + _ = _; omega
    | ⟨1, _⟩ => show win0_1.index t 1 * 1024 + 1 * (0 + 1 * j.val) = j.val; rw [hi 1]; show 0 * 1024 + _ = _; omega
  rw [e, V_g]
  generalize m ((c : Thread nD τ).loc main_arg1) = g
  pointwise

theorem blk2 (c : Dev nD) (t : Fin cfg0.N) (j : Fin 1024) :
    View.ld (iblk m c 2 t) r0_2 (ix3 0 0 j) = m ((c : Thread nD τ).loc main_arg2) (ix3 (bOf t) 0 j) := by
  refine (congrFun (V_main_arg2 m c) _).trans (congrArg _ (funext fun a => Fin.ext ?_))
  have hi := fun a => congrFun (idx2 t) a
  match a with
  | ⟨0, _⟩ => show win0_2.index t 0 * 1 + 1 * (0 + 1 * 0) = t.val / 16; rw [hi 0]; show t.val / 16 * 1 + _ = _; omega
  | ⟨1, _⟩ => show win0_2.index t 1 * 1 + 1 * (0 + 1 * 0) = 0; rw [hi 1]; show 0 * 1 + _ = _; omega
  | ⟨2, _⟩ => show win0_2.index t 2 * 1024 + 1 * (0 + 1 * j.val) = j.val; rw [hi 2]; show 0 * 1024 + _ = _; omega

theorem blk3 (c : Dev nD) (t : Fin cfg0.N) (j : Fin 1024) :
    View.ld (iblk m c 3 t) r0_2 (ix3 0 0 j) = m ((c : Thread nD τ).loc main_arg3) (ix3 (bOf t) 0 j) := by
  refine (congrFun (V_main_arg3 m c) _).trans (congrArg _ (funext fun a => Fin.ext ?_))
  have hi := fun a => congrFun (idx3 t) a
  match a with
  | ⟨0, _⟩ => show win0_3.index t 0 * 1 + 1 * (0 + 1 * 0) = t.val / 16; rw [hi 0]; show t.val / 16 * 1 + _ = _; omega
  | ⟨1, _⟩ => show win0_3.index t 1 * 1 + 1 * (0 + 1 * 0) = 0; rw [hi 1]; show 0 * 1 + _ = _; omega
  | ⟨2, _⟩ => show win0_3.index t 2 * 1024 + 1 * (0 + 1 * j.val) = j.val; rw [hi 2]; show 0 * 1024 + _ = _; omega

theorem blk4 (c : Dev nD) (t : Fin cfg0.N) (k : Fin 1024) (j : Fin 3328) :
    View.ld (iblk m c 4 t) r0_3 (ix2 k j) = m ((c : Thread nD τ).loc main_arg4) (ix2 k j) := by
  refine (congrFun (V_main_arg4 m c) _).trans (congrArg _ (funext fun a => Fin.ext ?_))
  have hi := fun a => congrFun (idx4 t) a
  match a with
  | ⟨0, _⟩ => show win0_4.index t 0 * 1024 + 1 * (0 + 1 * k.val) = k.val; rw [hi 0]; show 0 * 1024 + _ = _; omega
  | ⟨1, _⟩ => show win0_4.index t 1 * 3328 + 1 * (0 + 1 * j.val) = j.val; rw [hi 1]; show 0 * 3328 + _ = _; omega

/-- The output of the arguments as launched. -/
abbrev result (c : Dev nD) : Buf (Elt Ideal) ((c : Thread nD τ).loc main_v1) :=
  out (m ((c : Thread nD τ).loc main_arg0)) (m ((c : Thread nD τ).loc main_arg1)) (m ((c : Thread nD τ).loc main_arg2))
    (m ((c : Thread nD τ).loc main_arg3)) (m ((c : Thread nD τ).loc main_arg4))

/-- What a store over the whole block leaves there is what was stored. -/
theorem canon_whole (p : Vec Ideal S1x1024x3328 .bf16) (r : Fin 1024) (j : Fin 3328) :
    View.canon (Val := Elt Ideal) [⟨r0_4, p⟩] (ix3 0 r j) = p (ix3 0 r j) := by
  refine View.canon_apply_of_pieces (Val := Elt Ideal) p [⟨r0_4, p⟩] ?_ _ (cover0_5 p _)
  intro pc hpc y
  obtain rfl := List.mem_singleton.mp hpc
  refine congrArg p (funext fun a => Fin.ext ?_)
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega

theorem flushed (c : Dev nD) (t : Fin cfg0.N) : (dats m 0 c).flushed 5 t = ((cfg0.win 5).blk t).view.read (Elt Ideal) (result m c) := by
  rw [Value.flushed5]
  funext y
  rw [View.read_apply]
  have h0 : (y 0).val < 1 := (y 0).isLt
  have hi := fun a => congrFun (idx5 t) a
  have e : ((cfg0.win 5).blk t).view.emb y = (ix3 (bOf t) (rOf t (y 1)) (y 2) : S2x16384x3328.Idx) := by
    funext a
    apply Fin.ext
    match a with
    | ⟨0, _⟩ => show win0_5.index t 0 * 1 + 1 * (y 0).val = t.val / 16; rw [hi 0]; show t.val / 16 * 1 + _ = _; omega
    | ⟨1, _⟩ => show win0_5.index t 1 * 1024 + 1 * (y 1).val = t.val % 16 * 1024 + (y 1).val; rw [hi 1]; show t.val % 16 * 1024 + _ = _; omega
    | ⟨2, _⟩ => show win0_5.index t 2 * 3328 + 1 * (y 2).val = (y 2).val; rw [hi 2]; show 0 * 3328 + _ = _; omega
  rw [e]
  have key : ∀ (r : Fin 1024) (j : Fin 3328), out0_5 (iblk m c 0 t) (iblk m c 1 t) (iblk m c 2 t) (iblk m c 3 t) (iblk m c 4 t) (ix3 0 r j)
      = result m c (ix3 (bOf t) (rOf t r) j) := by
    intro r j
    unfold out0_5
    rw [canon_whole, pay1_apply]
    simp only [blk0, blk1, blk2, blk3, blk4]
    rfl
  have e2 : y = (ix3 0 (y 1 : Fin 1024) (y 2 : Fin 3328) : S1x1024x3328.Idx) := by
    funext a
    match a with
    | ⟨0, _⟩ => exact Fin.ext (by show (y 0).val = 0; omega)
    | ⟨1, _⟩ => rfl
    | ⟨2, _⟩ => rfl
  exact (congrArg (out0_5 (iblk m c 0 t) (iblk m c 1 t) (iblk m c 2 t) (iblk m c 3 t) (iblk m c 4 t)) e2).trans (key (y 1) (y 2))

/-- The output array ends holding the output: its points' blocks cover it. -/
theorem final (c : Dev nD) : (dats m 0 c).arrAt 5 cfg0.N = result m c :=
  (dats m 0 c).arrAt_eq_of_cover 5 (result m c) (fun t _ => flushed m c t) fun i => by
    have h0 : (i 0).val < 2 := (i 0).isLt
    have h1 : (i 1).val < 16384 := (i 1).isLt
    have h2 : (i 2).val < 3328 := (i 2).isLt
    let t : Fin cfg0.N := ⟨16 * (i 0).val + (i 1).val / 1024, by have e : cfg0.N = 32 := N_0; omega⟩
    have ht0 : t.val / 16 = (i 0).val := by show (16 * (i 0).val + (i 1).val / 1024) / 16 = _; omega
    have ht1 : t.val % 16 = (i 1).val / 1024 := by show (16 * (i 0).val + (i 1).val / 1024) % 16 = _; omega
    have hi := fun a => congrFun (idx5 t) a
    refine ⟨t, flush0_5 t, ?_⟩
    show i ∈ ((View.whole main_v1).slice (win0_5.rect t)).set
    rw [View.set_slice_whole, Rect.mem_set_unit]
    intro a
    match a with
    | ⟨0, _⟩ => show win0_5.index t 0 * 1 ≤ (i 0).val ∧ (i 0).val < win0_5.index t 0 * 1 + 1; rw [hi 0]; show t.val / 16 * 1 ≤ _ ∧ _ < t.val / 16 * 1 + 1; omega
    | ⟨1, _⟩ => show win0_5.index t 1 * 1024 ≤ (i 1).val ∧ (i 1).val < win0_5.index t 1 * 1024 + 1024; rw [hi 1]; show t.val % 16 * 1024 ≤ _ ∧ _ < t.val % 16 * 1024 + 1024; omega
    | ⟨2, _⟩ => show win0_5.index t 2 * 3328 ≤ (i 2).val ∧ (i 2).val < win0_5.index t 2 * 3328 + 3328; rw [hi 2]; show 0 * 3328 ≤ _ ∧ _ < 0 * 3328 + 3328; omega

end Cert.Kernel3Ideal.Front

namespace Cert.Reference3Ideal.Front

open Idealize.ShloMosaic
open Cert.Reference3Ideal Cert.Reference3Ideal.Gen
open Cert.Kernel3Ideal.Front (modulated out)

variable (x : FVec Ideal S2x16384x1024 .f32) (g : FVec Ideal S1024 .f32) (sc sh : FVec Ideal S2x1x1024 .f32)
  (w : FVec Ideal S1024x3328 .bf16)

/-- The reference's result. -/
def refOut : FVec Ideal S2x16384x3328 .bf16 :=
  truncf .bf16 (Host.dotGeneral dot_S2x16384x1024_S1024x3328_S2x16384x3328_2_0_01_1_n_n none
    (addf (mulf (mulf (mulf x (broadcastInDim S2x16384x1024 ![0, 1, 2] bcast_S2x16384x1_S2x16384x1024_0_1_2 (Host.rsqrt (addf (Host.divf
      (broadcastInDim S2x16384x1 ![0, 1] bcast_S2x16384_S2x16384x1_0_1 (Host.reduceAdd (mulf x x) (constant S_ .f32 0x00000000#32) reducesTo_S2x16384x1024_S2x16384_d2 h_S_))
      (broadcastInDim S2x16384x1 ![] bcast_S_S2x16384x1 (constant S_ .f32 0x44800000#32))) (broadcastInDim S2x16384x1 ![] bcast_S_S2x16384x1 (constant S_ .f32 0x358637BD#32))))))
      (broadcastInDim S2x16384x1024 ![0, 1, 2] bcast_S1x1x1024_S2x16384x1024_0_1_2 (broadcastInDim S1x1x1024 ![2] bcast_S1024_S1x1x1024_2 g)))
      (broadcastInDim S2x16384x1024 ![0, 1, 2] bcast_S2x1x1024_S2x16384x1024_0_1_2 (addf (broadcastInDim S2x1x1024 ![] bcast_S_S2x1x1024 (constant S_ .f32 0x3F800000#32)) sc)))
      (broadcastInDim S2x16384x1024 ![0, 1, 2] bcast_S2x1x1024_S2x16384x1024_0_1_2 sh))
    (extf .f32 w bitsLt_bf16_f32)) bitsLt_bf16_f32

/-- The kernel's output is the reference's result. -/
theorem same : out x g sc sh w = refOut x g sc sh w := by
  funext i
  idx_vars i
  pointwise [refOut]
  rfl

end Cert.Reference3Ideal.Front

end
-- ==== Proof.Modulation.lean ====
/-
  The call that computes the modulation: what its output array holds, index by index, and the reference's result the same.
-/
module

public import proofs.«01_k».proof.Proof.Gen.Kernel5Ideal.Value
public import proofs.«01_k».proof.Proof.Gen.Reference5Ideal.Run
public import Idealize.ShloMosaic.Lib.Pointwise
public import Idealize.ShloMosaic.PureOps.Ideal
public import Idealize.ShloMosaic.PureOps.Ideal.Laws

@[expose] public section

set_option maxRecDepth 16384

noncomputable section

namespace Cert.Kernel5Ideal.Ada

open Idealize.ShloMosaic Idealize.ShloMosaic.TcCoe Idealize.SL.Sem
open Cert.Kernel5Ideal Cert.Kernel5Ideal.Gen

/-- A number times its logistic. -/
def silu (v : EReal) : EReal := v * Ideal.div 1 (1 + Ideal.exp (0 - v))

theorem pay1_apply (P0 : Vec Ideal S32x1024 .f32) (P1 : Vec Ideal S1x1024x768 .bf16) (P2 : Vec Ideal S1x1x768 .f32) (r : Fin 32) (j : Fin 768) :
    k0_pay1 P0 P1 P2 (ix3 0 r j) = (∑ k : Fin 1024, silu (P0 (ix2 r k)) * P1 (ix3 0 k j)) + P2 (ix3 0 0 j) := by
  unfold silu
  pointwise [k0_pay1]

/-! ## The arrays -/

variable (x : FVec Ideal S32x1024 .f32) (w : FVec Ideal S2x1024x3072 .f32) (b : FVec Ideal S2x3072 .f32)

/-- The result: in each layer, each row's `silu` times the weights, plus the bias. -/
def out : FVec Ideal S2x32x3072 .f32 := fun i => (∑ k : Fin 1024, silu (x (ix2 (i 1) k)) * w (ix3 (i 0) k (i 2))) + b (ix2 (i 0) (i 2))

/-! ## The launch -/

variable (m : (ℓ : Loc nD τ sig) → Buf (Elt Ideal) ℓ) (ρ : Dev nD → PrngReg)

theorem V_w (c : Dev nD) : V m c main_v0 =
    (truncf .bf16 (m ((c : Thread nD τ).loc main_arg1) : FVec Ideal S2x1024x3072 .f32) bitsLt_bf16_f32 : FVec Ideal S2x1024x3072 .bf16) := by
  unfold V
  after_results

theorem V_b (c : Dev nD) : V m c main_v1 = broadcastInDim S2x1x3072 ![0, 2] bcast_S2x3072_S2x1x3072_0_2 (m ((c : Thread nD τ).loc main_arg2)) := by
  unfold V
  after_results

theorem idx0 : ∀ t : Fin cfg0.N, (fun a => win0_0.index t a) = ![0, 0] := by decide +kernel
theorem idx1 : ∀ t : Fin cfg0.N, (fun a => win0_1.index t a) = ![t.val / 4, 0, t.val % 4] := by decide +kernel
theorem idx2 : ∀ t : Fin cfg0.N, (fun a => win0_2.index t a) = ![t.val / 4, 0, t.val % 4] := by decide +kernel
theorem idx3 : ∀ t : Fin cfg0.N, (fun a => win0_3.index t a) = ![t.val / 4, 0, t.val % 4] := by decide +kernel

/-- A point's layer, and its block's column `j` among the columns. -/
def lOf (t : Fin cfg0.N) : Fin 2 := ⟨t.val / 4, by have h := t.isLt; have e : cfg0.N = 8 := N_0; omega⟩
def cOf (t : Fin cfg0.N) (j : Fin 768) : Fin 3072 := ⟨t.val % 4 * 768 + j.val, by omega⟩

theorem blk0 (c : Dev nD) (t : Fin cfg0.N) (r : Fin 32) (k : Fin 1024) :
    View.ld (iblk m c 0 t) r0_0 (ix2 r k) = m ((c : Thread nD τ).loc main_arg0) (ix2 r k) := by
  refine (congrFun (V_main_arg0 m c) _).trans (congrArg _ (funext fun a => Fin.ext ?_))
  have hi := fun a => congrFun (idx0 t) a
  match a with
  | ⟨0, _⟩ => show win0_0.index t 0 * 32 + 1 * (0 + 1 * r.val) = r.val; rw [hi 0]; show 0 * 32 + _ = _; omega
  | ⟨1, _⟩ => show win0_0.index t 1 * 1024 + 1 * (0 + 1 * k.val) = k.val; rw [hi 1]; show 0 * 1024 + _ = _; omega

theorem blk1 (c : Dev nD) (t : Fin cfg0.N) (k : Fin 1024) (j : Fin 768) :
    View.ld (iblk m c 1 t) r0_1 (ix3 0 k j) = m ((c : Thread nD τ).loc main_arg1) (ix3 (lOf t) k (cOf t j)) := by
  have e : View.ld (iblk m c 1 t) r0_1 (ix3 0 k j) = V m c main_v0 (ix3 (lOf t) k (cOf t j)) := by
    refine congrArg (V m c main_v0) (funext fun a => Fin.ext ?_)
    have hi := fun a => congrFun (idx1 t) a
    match a with
    | ⟨0, _⟩ => show win0_1.index t 0 * 1 + 1 * (0 + 1 * 0) = t.val / 4; rw [hi 0]; show t.val / 4 * 1 + _ = _; omega
    | ⟨1, _⟩ => show win0_1.index t 1 * 1024 + 1 * (0 + 1 * k.val) = k.val; rw [hi 1]; show 0 * 1024 + _ = _; omega
    | ⟨2, _⟩ => show win0_1.index t 2 * 768 + 1 * (0 + 1 * j.val) = t.val % 4 * 768 + j.val; rw [hi 2]; show t.val % 4 * 768 + _ = _; omega
  rw [e, V_w]
  rfl

theorem blk2 (c : Dev nD) (t : Fin cfg0.N) (j : Fin 768) :
    View.ld (iblk m c 2 t) r0_2 (ix3 0 0 j) = m ((c : Thread nD τ).loc main_arg2) (ix2 (lOf t) (cOf t j)) := by
  have e : View.ld (iblk m c 2 t) r0_2 (ix3 0 0 j) = V m c main_v1 (ix3 (lOf t) 0 (cOf t j)) := by
    refine congrArg (V m c main_v1) (funext fun a => Fin.ext ?_)
    have hi := fun a => congrFun (idx2 t) a
    match a with
    | ⟨0, _⟩ => show win0_2.index t 0 * 1 + 1 * (0 + 1 * 0) = t.val / 4; rw [hi 0]; show t.val / 4 * 1 + _ = _; omega
    | ⟨1, _⟩ => show win0_2.index t 1 * 1 + 1 * (0 + 1 * 0) = 0; rw [hi 1]; show 0 * 1 + _ = _; omega
    | ⟨2, _⟩ => show win0_2.index t 2 * 768 + 1 * (0 + 1 * j.val) = t.val % 4 * 768 + j.val; rw [hi 2]; show t.val % 4 * 768 + _ = _; omega
  rw [e, V_b]
  generalize m ((c : Thread nD τ).loc main_arg2) = g
  pointwise

/-- The output of the arguments as launched. -/
abbrev result (c : Dev nD) : Buf (Elt Ideal) ((c : Thread nD τ).loc main_v2) :=
  out (m ((c : Thread nD τ).loc main_arg0)) (m ((c : Thread nD τ).loc main_arg1)) (m ((c : Thread nD τ).loc main_arg2))

/-- What a store over the whole block leaves there is what was stored. -/
theorem canon_whole (p : Vec Ideal S1x32x768 .f32) (r : Fin 32) (j : Fin 768) :
    View.canon (Val := Elt Ideal) [⟨r0_3, p⟩] (ix3 0 r j) = p (ix3 0 r j) := by
  refine View.canon_apply_of_pieces (Val := Elt Ideal) p [⟨r0_3, p⟩] ?_ _ (cover0_3 p _)
  intro pc hpc y
  obtain rfl := List.mem_singleton.mp hpc
  refine congrArg p (funext fun a => Fin.ext ?_)
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega

theorem flushed (c : Dev nD) (t : Fin cfg0.N) : (dats m 0 c).flushed 3 t = ((cfg0.win 3).blk t).view.read (Elt Ideal) (result m c) := by
  rw [Value.flushed3]
  funext y
  rw [View.read_apply]
  have h0 : (y 0).val < 1 := (y 0).isLt
  have hi := fun a => congrFun (idx3 t) a
  have e : ((cfg0.win 3).blk t).view.emb y = (ix3 (lOf t) (y 1) (cOf t (y 2)) : S2x32x3072.Idx) := by
    funext a
    apply Fin.ext
    match a with
    | ⟨0, _⟩ => show win0_3.index t 0 * 1 + 1 * (y 0).val = t.val / 4; rw [hi 0]; show t.val / 4 * 1 + _ = _; omega
    | ⟨1, _⟩ => show win0_3.index t 1 * 32 + 1 * (y 1).val = (y 1).val; rw [hi 1]; show 0 * 32 + _ = _; omega
    | ⟨2, _⟩ => show win0_3.index t 2 * 768 + 1 * (y 2).val = t.val % 4 * 768 + (y 2).val; rw [hi 2]; show t.val % 4 * 768 + _ = _; omega
  rw [e]
  have key : ∀ (r : Fin 32) (j : Fin 768), out0_3 (iblk m c 0 t) (iblk m c 1 t) (iblk m c 2 t) (ix3 0 r j) = result m c (ix3 (lOf t) r (cOf t j)) := by
    intro r j
    unfold out0_3
    rw [canon_whole, pay1_apply]
    simp only [blk0, blk1, blk2]
    rfl
  have e2 : y = (ix3 0 (y 1 : Fin 32) (y 2 : Fin 768) : S1x32x768.Idx) := by
    funext a
    match a with
    | ⟨0, _⟩ => exact Fin.ext (by show (y 0).val = 0; omega)
    | ⟨1, _⟩ => rfl
    | ⟨2, _⟩ => rfl
  exact (congrArg (out0_3 (iblk m c 0 t) (iblk m c 1 t) (iblk m c 2 t)) e2).trans (key (y 1) (y 2))

/-- The output array ends holding the output: its points' blocks cover it. -/
theorem final (c : Dev nD) : (dats m 0 c).arrAt 3 cfg0.N = result m c :=
  (dats m 0 c).arrAt_eq_of_cover 3 (result m c) (fun t _ => flushed m c t) fun i => by
    have h0 : (i 0).val < 2 := (i 0).isLt
    have h1 : (i 1).val < 32 := (i 1).isLt
    have h2 : (i 2).val < 3072 := (i 2).isLt
    let t : Fin cfg0.N := ⟨4 * (i 0).val + (i 2).val / 768, by have e : cfg0.N = 8 := N_0; omega⟩
    have ht0 : t.val / 4 = (i 0).val := by show (4 * (i 0).val + (i 2).val / 768) / 4 = _; omega
    have ht1 : t.val % 4 = (i 2).val / 768 := by show (4 * (i 0).val + (i 2).val / 768) % 4 = _; omega
    have hi := fun a => congrFun (idx3 t) a
    refine ⟨t, flush0_3 t, ?_⟩
    show i ∈ ((View.whole main_v2).slice (win0_3.rect t)).set
    rw [View.set_slice_whole, Rect.mem_set_unit]
    intro a
    match a with
    | ⟨0, _⟩ => show win0_3.index t 0 * 1 ≤ (i 0).val ∧ (i 0).val < win0_3.index t 0 * 1 + 1; rw [hi 0]; show t.val / 4 * 1 ≤ _ ∧ _ < t.val / 4 * 1 + 1; omega
    | ⟨1, _⟩ => show win0_3.index t 1 * 32 ≤ (i 1).val ∧ (i 1).val < win0_3.index t 1 * 32 + 32; rw [hi 1]; show 0 * 32 ≤ _ ∧ _ < 0 * 32 + 32; omega
    | ⟨2, _⟩ => show win0_3.index t 2 * 768 ≤ (i 2).val ∧ (i 2).val < win0_3.index t 2 * 768 + 768; rw [hi 2]; show t.val % 4 * 768 ≤ _ ∧ _ < t.val % 4 * 768 + 768; omega

end Cert.Kernel5Ideal.Ada

namespace Cert.Reference5Ideal.Ada

open Idealize.ShloMosaic
open Cert.Reference5Ideal Cert.Reference5Ideal.Gen
open Cert.Kernel5Ideal.Ada (silu out)

variable (x : FVec Ideal S32x1024 .f32) (w : FVec Ideal S2x1024x3072 .f32) (b : FVec Ideal S2x3072 .f32)

/-- `silu` of the rows. -/
def rows : FVec Ideal S32x1024 .f32 :=
  mulf x (Host.divf (broadcastInDim S32x1024 ![] bcast_S_S32x1024 (constant S_ .f32 0x3F800000#32))
    (addf (broadcastInDim S32x1024 ![] bcast_S_S32x1024 (constant S_ .f32 0x3F800000#32)) (Host.exp (Host.negf x))))

theorem rows_apply (r : Fin 32) (k : Fin 1024) : rows x (ix2 r k) = silu (x (ix2 r k)) := by
  pointwise [rows]
  unfold silu
  simp only [zero_sub]

/-- The first layer's modulation, and the second's. -/
def layer0 : FVec Ideal S1x32x3072 .f32 :=
  broadcastInDim S1x32x3072 ![1, 2] bcast_S32x3072_S1x32x3072_1_2 (addf (Host.dotGeneral dot_S32x1024_S1024x3072_S32x3072_1_0_0_1_n_n none (rows x)
    (shapeCast _ (extractStridedSlice S1x1024x3072 ![0, 0, 0] w slices_S2x1024x3072_S1x1024x3072_0_0_0) shapeCasts_S1x1024x3072_S1024x3072))
    (broadcastInDim S32x3072 ![0, 1] bcast_S1x3072_S32x3072_0_1 (broadcastInDim S1x3072 ![1] bcast_S3072_S1x3072_1
      (shapeCast _ (extractStridedSlice S1x3072 ![0, 0] b slices_S2x3072_S1x3072_0_0) shapeCasts_S1x3072_S3072))))
def layer1 : FVec Ideal S1x32x3072 .f32 :=
  broadcastInDim S1x32x3072 ![1, 2] bcast_S32x3072_S1x32x3072_1_2 (addf (Host.dotGeneral dot_S32x1024_S1024x3072_S32x3072_1_0_0_1_n_n none (rows x)
    (shapeCast _ (extractStridedSlice S1x1024x3072 ![1, 0, 0] w slices_S2x1024x3072_S1x1024x3072_1_0_0) shapeCasts_S1x1024x3072_S1024x3072))
    (broadcastInDim S32x3072 ![0, 1] bcast_S1x3072_S32x3072_0_1 (broadcastInDim S1x3072 ![1] bcast_S3072_S1x3072_1
      (shapeCast _ (extractStridedSlice S1x3072 ![1, 0] b slices_S2x3072_S1x3072_1_0) shapeCasts_S1x3072_S3072))))

theorem layer0_apply (r : Fin 32) (j : Fin 3072) : layer0 x w b (ix3 0 r j) = out x w b (ix3 0 r j) := by
  have e : layer0 x w b (ix3 0 r j) = (∑ k : Fin 1024, rows x (ix2 r k) * w (ix3 0 k j)) + b (ix2 0 j) := by
    generalize hp : rows x = p
    unfold layer0
    rw [hp]
    pointwise
  rw [e]
  simp only [rows_apply]
  rfl

theorem layer1_apply (r : Fin 32) (j : Fin 3072) : layer1 x w b (ix3 0 r j) = out x w b (ix3 1 r j) := by
  have e : layer1 x w b (ix3 0 r j) = (∑ k : Fin 1024, rows x (ix2 r k) * w (ix3 1 k j)) + b (ix2 1 j) := by
    generalize hp : rows x = p
    unfold layer1
    rw [hp]
    pointwise
  rw [e]
  simp only [rows_apply]
  rfl

/-- The reference's result. -/
def refOut : FVec Ideal S2x32x3072 .f32 :=
  concatenate S2x32x3072 0 [⟨S1x32x3072, layer0 x w b⟩, ⟨S1x32x3072, layer1 x w b⟩] concatenates_S1x32x3072_S1x32x3072_S2x32x3072_d0

/-- The kernel's output is the reference's result. -/
theorem same : out x w b = refOut x w b := by
  have e : ∀ (p q : FVec Ideal S1x32x3072 .f32) (l : Fin 2) (r : Fin 32) (j : Fin 3072),
      concatenate S2x32x3072 0 [⟨S1x32x3072, p⟩, ⟨S1x32x3072, q⟩] concatenates_S1x32x3072_S1x32x3072_S2x32x3072_d0 (ix3 l r j)
        = if l.val < 1 then p (ix3 0 r j) else q (ix3 0 r j) := by
    intro p q l r j
    pointwise
    match l with
    | ⟨0, _⟩ => rfl
    | ⟨1, _⟩ => rfl
  have h : ∀ (l : Fin 2) (r : Fin 32) (j : Fin 3072), out x w b (ix3 l r j) = refOut x w b (ix3 l r j) := by
    intro l r j
    refine Eq.symm ((e _ _ l r j).trans ?_)
    match l with
    | ⟨0, _⟩ => exact layer0_apply x w b r j
    | ⟨1, _⟩ => exact layer1_apply x w b r j
  funext i
  idx_vars i
  exact h _ _ _

end Cert.Reference5Ideal.Ada

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Memory
public import proofs.«01_k».proof.Proof.Launch
public import proofs.«01_k».proof.Proof.Same
public import proofs.«01_k».proof.Proof.Gen.ReferenceIdeal
public import proofs.«01_k».proof.Proof.Gen.ReferenceIdeal.Run
public import proofs.«01_k».proof.Proof.Gen.Reference.Run
public import proofs.«01_k».proof.Proof.Gen.Reference
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2
public import proofs.«01_k».proof.Proof.Gen.Reference2.Run
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3
public import proofs.«01_k».proof.Proof.Gen.Reference3.Run
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4
public import proofs.«01_k».proof.Proof.Gen.Reference4.Run
public import proofs.«01_k».proof.Proof.Gen.Reference4Ideal
public import proofs.«01_k».proof.Proof.Gen.Reference4Ideal.Run
public import proofs.«01_k».proof.Proof.Gen.Pre_finite_h
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5
public import proofs.«01_k».proof.Proof.Gen.Reference5.Run
public import proofs.«01_k».proof.Proof.Gen.Reference5Ideal
public import proofs.«01_k».proof.Proof.Gen.Reference5Ideal.Run
public import proofs.«01_k».proof.Proof.FrontFrame
public import proofs.«01_k».proof.Proof.FrontFrameBits
public import proofs.«01_k».proof.Proof.FrontValue
public import proofs.«01_k».proof.Proof.FrontFinite
public import proofs.«01_k».proof.Proof.FrontReference
public import proofs.«01_k».proof.Proof.OutTail
public import proofs.«01_k».proof.Proof.OutPrompt
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6
public import proofs.«01_k».proof.Proof.Gen.Reference6.Run
public import proofs.«01_k».proof.Proof.Gen.Reference6Ideal
public import proofs.«01_k».proof.Proof.Gen.Reference6Ideal.Run
public import proofs.«01_k».proof.Proof.EvenFront
public import proofs.«01_k».proof.Proof.Modulation
public import proofs.«01_k».proof.Proof.Gen.Pre_finite_qk
public import Idealize.ShloMosaic.Adequacy
public import Idealize.ShloMosaic.Init

@[expose] public section

noncomputable section

namespace Cert.Proof

open Idealize.ShloMosaic Idealize.SL.Sem Cert.Kernel

/-- The reference's result, as a term of its arguments. -/
theorem reference_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v25)
          = Cert.ReferenceIdeal.Attn.refOut (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  Cert.ReferenceIdeal.Value.run (F := Ideal) m ρ

theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m g m' g' hpre hagree
  refine ⟨_, Cert.KernelIdeal.Attn.value (F := Ideal) m g,
    (θ_run _ _ _).mono (fun _ h c => ⟨(h c).1.trans ?_, (h c).2⟩) (reference_value m' g')⟩
  obtain ⟨a0, a1, a2⟩ := hagree c
  obtain ⟨h0, h1⟩ := Cert.Same.reals _ _ _ (hpre c)
  rw [a0, a1, a2]
  exact (Cert.Same.same _ _ _ h0 h1).symm

theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Tail.result m c,
    (θ_run _ _ _).mono (fun _ h c => ⟨(h c).1.trans (Cert.Kernel2Ideal.Tail.final m c), (h c).2⟩) (Cert.Kernel2Ideal.Value.run_blocks (F := Ideal) m g),
    (θ_run _ _ _).mono (fun _ h c => ⟨(h c).1.trans ?_, (h c).2⟩) (Cert.Reference2Ideal.Value.run (F := Ideal) m' g')⟩
  obtain ⟨a0, a1, a2, a3, a4, a5⟩ := hagree c
  rw [a0, a1, a2, a3, a4, a5]
  exact (Cert.Reference2Ideal.Tail.same _ _ _ _ _ _).symm

theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Front.result m c,
    (θ_run _ _ _).mono (fun _ h c => ⟨(h c).1.trans (Cert.Kernel3Ideal.Front.final m c), (h c).2⟩) (Cert.Kernel3Ideal.Value.run_blocks (F := Ideal) m g),
    (θ_run _ _ _).mono (fun _ h c => ⟨(h c).1.trans ?_, (h c).2⟩) (Cert.Reference3Ideal.Value.run (F := Ideal) m' g')⟩
  obtain ⟨a0, a1, a2, a3, a4⟩ := hagree c
  rw [a0, a1, a2, a3, a4]
  exact (Cert.Reference3Ideal.Front.same _ _ _ _ _).symm

theorem args_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) :
    Cert.Reference4Ideal.Front.args m' c = Cert.Kernel4Ideal.Front.args m c := by
  obtain ⟨a0, a1, a2, a3, a4, a5, a6, a7, a8, a9, a10, a11, a12, a13⟩ := h
  unfold Cert.Reference4Ideal.Front.args Cert.Kernel4Ideal.Front.args
  rw [Cert.Kernel4Ideal.Front.Args.mk.injEq]
  exact ⟨a0, a1, a2, a3, a4, a5, a6, a7, a8, a9, a10, a11, a12, a13⟩

theorem algebraic4 : Cert.algebraic_Kernel4Ideal_Reference4Ideal_pre_finite_h (hKernel4Ideal := Cert.Kernel4Ideal.Gen.facts)
    (hReference4Ideal := Cert.Reference4Ideal.Gen.facts) (hPre_finite_h := Cert.Pre_finite_h.Gen.facts) := by
  intro m g m' g' hpre hagree
  have hn : ∀ c : Dev Cert.Kernel4Ideal.nD, Cert.Kernel4Ideal.Front.Negates (Cert.Kernel4Ideal.Front.args m c) := fun c =>
    Cert.Kernel4Ideal.Front.negates _ (Cert.Kernel4Ideal.Front.finite _ (hpre c))
  refine ⟨fun c => Cert.Kernel4Ideal.Front.res0 (Cert.Kernel4Ideal.Front.args m c), fun c => Cert.Kernel4Ideal.Front.res1 (Cert.Kernel4Ideal.Front.args m c),
    fun c => Cert.Kernel4Ideal.Front.res2 (Cert.Kernel4Ideal.Front.args m c), fun c => Cert.Kernel4Ideal.Front.res3 (Cert.Kernel4Ideal.Front.args m c),
    fun c => Cert.Kernel4Ideal.Front.res4 (Cert.Kernel4Ideal.Front.args m c),
    (θ_run _ _ _).mono (fun _ h c => ?_) (Cert.Kernel4Ideal.Front.run_blocks m g),
    (θ_run _ _ _).mono (fun _ h c => ?_) (Cert.Reference4Ideal.Value.run (F := Ideal) m' g')⟩
  · obtain ⟨h0, h1, h2, h3, h4, hr⟩ := h c
    exact ⟨h0.trans (Cert.Kernel4Ideal.Front.final21 m c), h1.trans (Cert.Kernel4Ideal.Front.final22 m c (hn c)),
      h2.trans (Cert.Kernel4Ideal.Front.final23 m c), h3.trans (Cert.Kernel4Ideal.Front.final24 m c), h4.trans (Cert.Kernel4Ideal.Front.final25 m c), hr⟩
  · obtain ⟨h0, h1, h2, h3, h4, hr⟩ := h c
    have ha := args_eq m m' c (hagree c)
    refine ⟨h0.trans ?_, h1.trans ?_, h2.trans ?_, h3.trans ?_, h4.trans ?_, hr⟩
    · exact (Cert.Reference4Ideal.Front.same0 (Cert.Reference4Ideal.Front.args m' c)).trans (congrArg Cert.Kernel4Ideal.Front.res0 ha)
    · exact (Cert.Reference4Ideal.Front.main_v135_eq m' c).trans ((Cert.Reference4Ideal.Front.same1 _).trans (congrArg Cert.Kernel4Ideal.Front.res1 ha))
    · exact (Cert.Reference4Ideal.Front.main_v136_eq m' c).trans ((Cert.Reference4Ideal.Front.same2 _).trans (congrArg Cert.Kernel4Ideal.Front.res2 ha))
    · exact (Cert.Reference4Ideal.Front.main_v137_eq m' c).trans ((Cert.Reference4Ideal.Front.same3 _).trans (congrArg Cert.Kernel4Ideal.Front.res3 ha))
    · exact (Cert.Reference4Ideal.Front.main_v140_eq m' c).trans ((Cert.Reference4Ideal.Front.same4 _).trans (congrArg Cert.Kernel4Ideal.Front.res4 ha))

theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.Ada.result m c,
    (θ_run _ _ _).mono (fun _ h c => ⟨(h c).1.trans (Cert.Kernel5Ideal.Ada.final m c), (h c).2⟩) (Cert.Kernel5Ideal.Value.run_blocks (F := Ideal) m g),
    (θ_run _ _ _).mono (fun _ h c => ⟨(h c).1.trans ?_, (h c).2⟩) (Cert.Reference5Ideal.Value.run (F := Ideal) m' g')⟩
  obtain ⟨a0, a1, a2⟩ := hagree c
  rw [a0, a1, a2]
  exact (Cert.Reference5Ideal.Ada.same _ _ _).symm

theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Tail.result m c,
    (θ_run _ _ _).mono (fun _ h c => ⟨(h c).1.trans (Cert.Kernel6Ideal.Tail.final m c), (h c).2⟩) (Cert.Kernel6Ideal.Value.run_blocks (F := Ideal) m g),
    (θ_run _ _ _).mono (fun _ h c => ⟨(h c).1.trans ?_, (h c).2⟩) (Cert.Reference6Ideal.Value.run (F := Ideal) m' g')⟩
  obtain ⟨a0, a1, a2, a3, a4, a5⟩ := hagree c
  rw [a0, a1, a2, a3, a4, a5]
  exact (Cert.Reference6Ideal.Tail.same _ _ _ _ _ _).symm

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Reference2.Gen.facts,
  Cert.Kernel3.Gen.facts, Cert.Kernel3Ideal.Gen.facts, Cert.Reference3Ideal.Gen.facts, Cert.Reference3.Gen.facts,
  Cert.Kernel4.Gen.facts, Cert.Kernel4Ideal.Gen.facts, Cert.Reference4Ideal.Gen.facts, Cert.Reference4.Gen.facts,
  Cert.Kernel5.Gen.facts, Cert.Kernel5Ideal.Gen.facts, Cert.Reference5Ideal.Gen.facts, Cert.Reference5.Gen.facts,
  Cert.Kernel6.Gen.facts, Cert.Kernel6Ideal.Gen.facts, Cert.Reference6Ideal.Gen.facts, Cert.Reference6.Gen.facts,
  Cert.Pre_finite_qk.Gen.facts, Cert.Pre_finite_h.Gen.facts,
  fun m ρ _ => Cert.Kernel.Memory.quiescent m ρ,
  fun m ρ _ => Cert.KernelIdeal.Attn.quiescent m ρ,
  fun m ρ _ => Cert.KernelIdeal.Attn.quiescent m ρ,
  fun m ρ _ => (θ_run _ _ _).mono (fun r h => ⟨fun c => (h c).2, sem_eq_zero_of_no_sems (by decide) r.2⟩)
    (Cert.ReferenceIdeal.Value.run (F := Ideal) m ρ),
  fun m ρ _ => (θ_run _ _ _).mono (fun r h => ⟨fun c => (h c).2, sem_eq_zero_of_no_sems (by decide) r.2⟩)
    (Cert.ReferenceIdeal.Value.run (F := Ideal) m ρ),
  fun m ρ _ => (θ_run _ _ _).mono (fun r h => ⟨fun c => (h c).2, sem_eq_zero_of_no_sems (by decide) r.2⟩)
    (Cert.Reference.Value.run (F := Bits) m ρ),
  fun m ρ _ => Cert.Kernel2.Gen.frame (F := Bits) m ρ,
  fun m ρ _ => Cert.Kernel2Ideal.Gen.frame (F := Ideal) m ρ,
  fun m ρ _ => (θ_run _ _ _).mono (fun r h => ⟨fun c => (h c).2, sem_eq_zero_of_no_sems (by decide) r.2⟩)
    (Cert.Reference2Ideal.Value.run (F := Ideal) m ρ),
  fun m ρ _ => (θ_run _ _ _).mono (fun r h => ⟨fun c => (h c).2, sem_eq_zero_of_no_sems (by decide) r.2⟩)
    (Cert.Reference2.Value.run (F := Bits) m ρ),
  fun m ρ _ => Cert.Kernel3.Gen.frame (F := Bits) m ρ,
  fun m ρ _ => Cert.Kernel3Ideal.Gen.frame (F := Ideal) m ρ,
  fun m ρ _ => (θ_run _ _ _).mono (fun r h => ⟨fun c => (h c).2, sem_eq_zero_of_no_sems (by decide) r.2⟩)
    (Cert.Reference3Ideal.Value.run (F := Ideal) m ρ),
  fun m ρ _ => (θ_run _ _ _).mono (fun r h => ⟨fun c => (h c).2, sem_eq_zero_of_no_sems (by decide) r.2⟩)
    (Cert.Reference3.Value.run (F := Bits) m ρ),
  fun m ρ _ => Cert.Kernel4.Front.frame (F := Bits) m ρ,
  fun m ρ _ => Cert.Kernel4Ideal.Front.frame (F := Ideal) m ρ,
  fun m ρ _ => Cert.Kernel4Ideal.Front.frame (F := Ideal) m ρ,
  fun m ρ _ => (θ_run _ _ _).mono (fun r h => ⟨fun c => (h c).2.2.2.2.2, sem_eq_zero_of_no_sems (by decide) r.2⟩)
    (Cert.Reference4Ideal.Value.run (F := Ideal) m ρ),
  fun m ρ _ => (θ_run _ _ _).mono (fun r h => ⟨fun c => (h c).2.2.2.2.2, sem_eq_zero_of_no_sems (by decide) r.2⟩)
    (Cert.Reference4Ideal.Value.run (F := Ideal) m ρ),
  fun m ρ _ => (θ_run _ _ _).mono (fun r h => ⟨fun c => (h c).2.2.2.2.2, sem_eq_zero_of_no_sems (by decide) r.2⟩)
    (Cert.Reference4.Value.run (F := Bits) m ρ),
  fun m ρ _ => Cert.Kernel5.Gen.frame (F := Bits) m ρ,
  fun m ρ _ => Cert.Kernel5Ideal.Gen.frame (F := Ideal) m ρ,
  fun m ρ _ => (θ_run _ _ _).mono (fun r h => ⟨fun c => (h c).2, sem_eq_zero_of_no_sems (by decide) r.2⟩)
    (Cert.Reference5Ideal.Value.run (F := Ideal) m ρ),
  fun m ρ _ => (θ_run _ _ _).mono (fun r h => ⟨fun c => (h c).2, sem_eq_zero_of_no_sems (by decide) r.2⟩)
    (Cert.Reference5.Value.run (F := Bits) m ρ),
  fun m ρ _ => Cert.Kernel6.Gen.frame (F := Bits) m ρ,
  fun m ρ _ => Cert.Kernel6Ideal.Gen.frame (F := Ideal) m ρ,
  fun m ρ _ => (θ_run _ _ _).mono (fun r h => ⟨fun c => (h c).2, sem_eq_zero_of_no_sems (by decide) r.2⟩)
    (Cert.Reference6Ideal.Value.run (F := Ideal) m ρ),
  fun m ρ _ => (θ_run _ _ _).mono (fun r h => ⟨fun c => (h c).2, sem_eq_zero_of_no_sems (by decide) r.2⟩)
    (Cert.Reference6.Value.run (F := Bits) m ρ),
  IdealRules.named_const.statement Cert.KernelIdeal.κ "mask" .f32 0xF149F2CA#32 ⊥ rfl,
  trivial,
  algebraic,
  trivial,
  trivial,
  algebraic2,
  trivial,
  trivial,
  algebraic3,
  trivial,
  trivial,
  algebraic4,
  trivial,
  trivial,
  algebraic5,
  trivial,
  trivial,
  algebraic6⟩

end Cert.Proof

end
